-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![1, 4096, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 1024, 8, 128]⟩ ⟨4, ![1, 4096, 8, 128]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 8, 128]⟩ ⟨4, ![1, 4096, 8, 128]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![1, 4096, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v51) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S_ : Shape := ⟨0, ![]⟩

class Facts : Prop where
  bitsLt_bf16_f32 : FTy.bits .bf16 < FTy.bits .f32
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024x8x128 : S_.BroadcastsInDim S1x1024x8x128 (![] : Fin 0 → Fin S1x1024x8x128.rank)
  reducesTo_S1x1024x8x128_S_d0_1_2_3 : S1x1024x8x128.ReducesTo [0, 1, 2, 3] S_

variable [Facts]

def fn {F : FTy → Type} [FloatOps F] (main_arg0 : FVec F S1x1024x1024 .bf16) (main_arg1 : FVec F S1024x1024 .bf16) (main_arg2 : FVec F S1x1024x8x128 .bf16) (main_arg3 : FVec F S1x1024x8x128 .bf16) (main_arg4 : FVec F S1024x1024 .bf16) : IVec S_ 1 :=
  let main_v0 : FVec F S1x1024x1024 .f32 := (extf .f32 · bitsLt_bf16_f32) main_arg0
  let main_v1 : FVec F S1x1024x1024 .f32 := Host.absf main_v0
  let main_cst : FVec F S_ .f32 := constant S_ .f32 0x7F800000#32
  let main_v2 : FVec F S1x1024x1024 .f32 := broadcastInDim S1x1024x1024 ![] bcast_S_S1x1024x1024 main_cst
  let main_v3 : IVec S1x1024x1024 1 := cmpf .olt main_v1 main_v2
  let main_c : IVec S_ 1 := constantI S_ 1 1#1
  let main_v4 : IVec S_ 1 := (fun x v => Host.reduce IntOp.andi x v reducesTo_S1x1024x1024_S_d0_1_2 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v4 main_v9
  let main_v11 : FVec F S1x1024x8x128 .f32 := (extf .f32 · bitsLt_bf16_f32) main_arg2
  let main_v12 : FVec F S1x1024x8x128 .f32 := Host.absf main_v11
  let main_cst_2 : FVec F S_ .f32 := constant S_ .f32 0x7F800000#32
  let main_v13 : FVec F S1x1024x8x128 .f32 := broadcastInDim S1x1024x8x128 ![] bcast_S_S1x1024x8x128 main_cst_2
  let main_v14 : IVec S1x1024x8x128 1 := cmpf .olt main_v12 main_v13
  let main_c_3 : IVec S_ 1 := constantI S_ 1 1#1
  let main_v15 : IVec S_ 1 := (fun x v => Host.reduce IntOp.andi x v reducesTo_S1x1024x8x128_S_d0_1_2_3 h_S_) main_v14 main_c_3
  let main_v16 : IVec S_ 1 := andi main_v10 main_v15
  main_v16
-- ==== Pre_finite_ReferenceIdeal.lean ====
abbrev S1x4096x1024 : Shape := ⟨3, ![1, 4096, 1024]⟩
abbrev S1024x1024 : Shape := ⟨2, ![1024, 1024]⟩
abbrev S1x4096x8x128 : Shape := ⟨4, ![1, 4096, 8, 128]⟩
abbrev S_ : Shape := ⟨0, ![]⟩

class Facts : Prop where
  bitsLt_bf16_f32 : FTy.bits .bf16 < FTy.bits .f32
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x4096x8x128 : S_.BroadcastsInDim S1x4096x8x128 (![] : Fin 0 → Fin S1x4096x8x128.rank)
  reducesTo_S1x4096x8x128_S_d0_1_2_3 : S1x4096x8x128.ReducesTo [0, 1, 2, 3] S_

variable [Facts]

def fn {F : FTy → Type} [FloatOps F] (main_arg0 : FVec F S1x4096x1024 .bf16) (main_arg1 : FVec F S1024x1024 .bf16) (main_arg2 : FVec F S1x4096x8x128 .bf16) (main_arg3 : FVec F S1x4096x8x128 .bf16) (main_arg4 : FVec F S1024x1024 .bf16) : IVec S_ 1 :=
  let main_v0 : FVec F S1x4096x1024 .f32 := (extf .f32 · bitsLt_bf16_f32) main_arg0
  let main_v1 : FVec F S1x4096x1024 .f32 := Host.absf main_v0
  let main_cst : FVec F S_ .f32 := constant S_ .f32 0x7F800000#32
  let main_v2 : FVec F S1x4096x1024 .f32 := broadcastInDim S1x4096x1024 ![] bcast_S_S1x4096x1024 main_cst
  let main_v3 : IVec S1x4096x1024 1 := cmpf .olt main_v1 main_v2
  let main_c : IVec S_ 1 := constantI S_ 1 1#1
  let main_v4 : IVec S_ 1 := (fun x v => Host.reduce IntOp.andi x v reducesTo_S1x4096x1024_S_d0_1_2 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v4 main_v9
  let main_v11 : FVec F S1x4096x8x128 .f32 := (extf .f32 · bitsLt_bf16_f32) main_arg2
  let main_v12 : FVec F S1x4096x8x128 .f32 := Host.absf main_v11
  let main_cst_2 : FVec F S_ .f32 := constant S_ .f32 0x7F800000#32
  let main_v13 : FVec F S1x4096x8x128 .f32 := broadcastInDim S1x4096x8x128 ![] bcast_S_S1x4096x8x128 main_cst_2
  let main_v14 : IVec S1x4096x8x128 1 := cmpf .olt main_v12 main_v13
  let main_c_3 : IVec S_ 1 := constantI S_ 1 1#1
  let main_v15 : IVec S_ 1 := (fun x v => Host.reduce IntOp.andi x v reducesTo_S1x4096x8x128_S_d0_1_2_3 h_S_) main_v14 main_c_3
  let main_v16 : IVec S_ 1 := andi main_v10 main_v15
  main_v16
-- ==== Kernel.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S1280x2048 : Shape := ⟨2, ![1280, 2048]⟩
abbrev S32x3072 : Shape := ⟨2, ![32, 3072]⟩
abbrev S32x1152 : Shape := ⟨2, ![32, 1152]⟩
abbrev S3x32x1152 : Shape := ⟨3, ![3, 32, 1152]⟩
abbrev S6 : Shape := ⟨1, ![6]⟩
abbrev S_ : Shape := ⟨0, ![]⟩
abbrev S1024x8x128 : Shape := ⟨3, ![1024, 8, 128]⟩
abbrev S128x2048 : Shape := ⟨2, ![128, 2048]⟩
abbrev S32x2048 : Shape := ⟨2, ![32, 2048]⟩
abbrev S32x1024 : Shape := ⟨2, ![32, 1024]⟩
abbrev S1 : Shape := ⟨1, ![1]⟩
abbrev S1024x128 : Shape := ⟨2, ![1024, 128]⟩
abbrev S32x128 : Shape := ⟨2, ![32, 128]⟩
abbrev S32 : Shape := ⟨1, ![32]⟩
abbrev S32x1 : Shape := ⟨2, ![32, 1]⟩
abbrev S32x8 : Shape := ⟨2, ![32, 8]⟩
abbrev S1x32x1152 : Shape := ⟨3, ![1, 32, 1152]⟩
abbrev S384x640 : Shape := ⟨2, ![384, 640]⟩
abbrev S384x32 : Shape := ⟨2, ![384, 32]⟩
abbrev S384x128 : Shape := ⟨2, ![384, 128]⟩
abbrev S640x128 : Shape := ⟨2, ![640, 128]⟩
abbrev S384 : Shape := ⟨1, ![384]⟩
abbrev S384x1 : Shape := ⟨2, ![384, 1]⟩
abbrev S128x384 : Shape := ⟨2, ![128, 384]⟩
abbrev S128x32 : Shape := ⟨2, ![128, 32]⟩
abbrev S128x128 : Shape := ⟨2, ![128, 128]⟩
abbrev S128 : Shape := ⟨1, ![128]⟩
abbrev S128x1 : Shape := ⟨2, ![128, 1]⟩
abbrev S1x32x128 : Shape := ⟨3, ![1, 32, 128]⟩
abbrev S1x32x1 : Shape := ⟨3, ![1, 32, 1]⟩

abbrev nBuf : Space → Nat
  | .hbm => 6
  | .vmem => 13
  | .smem => 0
  | _ => 0

abbrev bufTy : (tb : Table) → Fin (tcTables nBuf tb) → BufTy
  | .hbm, ⟨0, _⟩ => ⟨S1x1024x1024, .bf16⟩
  | .hbm, ⟨1, _⟩ => ⟨S1024x1024, .bf16⟩
  | .hbm, ⟨2, _⟩ => ⟨S1x1024x8x128, .bf16⟩
  | .hbm, ⟨3, _⟩ => ⟨S1x1024x8x128, .bf16⟩
  | .hbm, ⟨4, _⟩ => ⟨S1024x1024, .bf16⟩
  | .hbm, ⟨5, _⟩ => ⟨S1x1024x1024, .f32⟩
  | .local _ .vmem, ⟨0, _⟩ => ⟨S1x1024x1024, .bf16⟩
  | .local _ .vmem, ⟨1, _⟩ => ⟨S1024x1024, .bf16⟩
  | .local _ .vmem, ⟨2, _⟩ => ⟨S1x1024x8x128, .bf16⟩
  | .local _ .vmem, ⟨3, _⟩ => ⟨S1x1024x8x128, .bf16⟩
  | .local _ .vmem, ⟨4, _⟩ => ⟨S1024x1024, .bf16⟩
  | .local _ .vmem, ⟨5, _⟩ => ⟨S1x1024x1024, .f32⟩
  | .local _ .vmem, ⟨6, _⟩ => ⟨S1280x2048, .bf16⟩
  | .local _ .vmem, ⟨7, _⟩ => ⟨S32x3072, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S32x1152, .f32⟩
  | .local _ .vmem, ⟨12, _⟩ => ⟨S3x32x1152, .f32⟩
  | _, _ => ⟨S1x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v9 : BitVec 1 := Scalar.cmpi .eq v2 c0_i32
  let v10 : BitVec 32 := Scalar.extui v9
  let c0_i32_5 : BitVec 32 := 0#32
  let v11 : BitVec 1 := Scalar.cmpi .ne v10 c0_i32_5
  v11

def k0_dev1 : Nat :=
  let c0_i32_158 : BitVec 32 := 0#32
  let c1_i32_156 : BitVec 32 := 1#32
  let c1_i32_157 : BitVec 32 := 1#32
  let v271 : BitVec 32 := Scalar.muli c1_i32_156 c1_i32_157
  let v272 : BitVec 32 := Scalar.addi c0_i32_158 v271
  v272.toNat
def k0_dev2 : Nat :=
  let c0_i32_162 : BitVec 32 := 0#32
  let c2_i32_160 : BitVec 32 := 2#32
  let c1_i32_161 : BitVec 32 := 1#32
  let v273 : BitVec 32 := Scalar.muli c2_i32_160 c1_i32_161
  let v274 : BitVec 32 := Scalar.addi c0_i32_162 v273
  v274.toNat
def k0_dev3 : Nat :=
  let c0_i32_166 : BitVec 32 := 0#32
  let c3_i32_164 : BitVec 32 := 3#32
  let c1_i32_165 : BitVec 32 := 1#32
  let v275 : BitVec 32 := Scalar.muli c3_i32_164 c1_i32_165
  let v276 : BitVec 32 := Scalar.addi c0_i32_166 v275
  v276.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v12 : BitVec 1 := Scalar.cmpi .eq v2 c1_i32_6
  let v13 : BitVec 32 := Scalar.extui v12
  let c0_i32_7 : BitVec 32 := 0#32
  let v14 : BitVec 1 := Scalar.cmpi .ne v13 c0_i32_7
  v14

def k0_dev4 : Nat :=
  let c0_i32_158 : BitVec 32 := 0#32
  let c0_i32_156 : BitVec 32 := 0#32
  let c1_i32_157 : BitVec 32 := 1#32
  let v271 : BitVec 32 := Scalar.muli c0_i32_156 c1_i32_157
  let v272 : BitVec 32 := Scalar.addi c0_i32_158 v271
  v272.toNat
def k0_dev5 : Nat :=
  let c0_i32_162 : BitVec 32 := 0#32
  let c2_i32_160 : BitVec 32 := 2#32
  let c1_i32_161 : BitVec 32 := 1#32
  let v273 : BitVec 32 := Scalar.muli c2_i32_160 c1_i32_161
  let v274 : BitVec 32 := Scalar.addi c0_i32_162 v273
  v274.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v15 : BitVec 1 := Scalar.cmpi .eq v2 c2_i32
  let v16 : BitVec 32 := Scalar.extui v15
  let c0_i32_8 : BitVec 32 := 0#32
  let v17 : BitVec 1 := Scalar.cmpi .ne v16 c0_i32_8
  v17

def k0_dev6 : Nat :=
  let c0_i32_158 : BitVec 32 := 0#32
  let c0_i32_156 : BitVec 32 := 0#32
  let c1_i32_157 : BitVec 32 := 1#32
  let v271 : BitVec 32 := Scalar.muli c0_i32_156 c1_i32_157
  let v272 : BitVec 32 := Scalar.addi c0_i32_158 v271
  v272.toNat
def k0_dev7 : Nat :=
  let c0_i32_162 : BitVec 32 := 0#32
  let c1_i32_160 : BitVec 32 := 1#32
  let c1_i32_161 : BitVec 32 := 1#32
  let v273 : BitVec 32 := Scalar.muli c1_i32_160 c1_i32_161
  let v274 : BitVec 32 := Scalar.addi c0_i32_162 v273
  v274.toNat
def k0_dev8 : Nat :=
  let c0_i32_166 : BitVec 32 := 0#32
  let c3_i32_164 : BitVec 32 := 3#32
  let c1_i32_165 : BitVec 32 := 1#32
  let v275 : BitVec 32 := Scalar.muli c3_i32_164 c1_i32_165
  let v276 : BitVec 32 := Scalar.addi c0_i32_166 v275
  v276.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v18 : BitVec 1 := Scalar.cmpi .eq v2 c3_i32
  let v19 : BitVec 32 := Scalar.extui v18
  let c0_i32_9 : BitVec 32 := 0#32
  let v20 : BitVec 1 := Scalar.cmpi .ne v19 c0_i32_9
  v20

def k0_dev9 : Nat :=
  let c0_i32_158 : BitVec 32 := 0#32
  let c0_i32_156 : BitVec 32 := 0#32
  let c1_i32_157 : BitVec 32 := 1#32
  let v271 : BitVec 32 := Scalar.muli c0_i32_156 c1_i32_157
  let v272 : BitVec 32 := Scalar.addi c0_i32_158 v271
  v272.toNat
def k0_dev10 : Nat :=
  let c0_i32_162 : BitVec 32 := 0#32
  let c2_i32_160 : BitVec 32 := 2#32
  let c1_i32_161 : BitVec 32 := 1#32
  let v273 : BitVec 32 := Scalar.muli c2_i32_160 c1_i32_161
  let v274 : BitVec 32 := Scalar.addi c0_i32_162 v273
  v274.toNat
def k0_cond7 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_29 : BitVec 32 := 0#32
  let v44 : BitVec 1 := Scalar.cmpi .eq v2 c0_i32_29
  let v45 : BitVec 32 := Scalar.extui v44
  let c0_i32_30 : BitVec 32 := 0#32
  let v46 : BitVec 1 := Scalar.cmpi .ne v45 c0_i32_30
  v46

def k0_dev11 : Nat :=
  let c0_i32_167 : BitVec 32 := 0#32
  let c1_i32_165 : BitVec 32 := 1#32
  let c1_i32_166 : BitVec 32 := 1#32
  let v279 : BitVec 32 := Scalar.muli c1_i32_165 c1_i32_166
  let v280 : BitVec 32 := Scalar.addi c0_i32_167 v279
  v280.toNat
def k0_dev12 : Nat :=
  let c0_i32_172 : BitVec 32 := 0#32
  let c2_i32_170 : BitVec 32 := 2#32
  let c1_i32_171 : BitVec 32 := 1#32
  let v285 : BitVec 32 := Scalar.muli c2_i32_170 c1_i32_171
  let v286 : BitVec 32 := Scalar.addi c0_i32_172 v285
  v286.toNat
def k0_dev13 : Nat :=
  let c0_i32_176 : BitVec 32 := 0#32
  let c3_i32_174 : BitVec 32 := 3#32
  let c1_i32_175 : BitVec 32 := 1#32
  let v291 : BitVec 32 := Scalar.muli c3_i32_174 c1_i32_175
  let v292 : BitVec 32 := Scalar.addi c0_i32_176 v291
  v292.toNat
def k0_cond8 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_31 : BitVec 32 := 0#32
  let v47 : BitVec 1 := Scalar.cmpi .sgt v2 c0_i32_31
  let v48 : BitVec 32 := Scalar.extui v47
  let c0_i32_32 : BitVec 32 := 0#32
  let v49 : BitVec 1 := Scalar.cmpi .ne v48 c0_i32_32
  v49

def k0_dev14 (d0 : Dev nD) : Nat :=
  let c0_i32_158 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_157 : BitVec 32 := 1#32
  let v271 : BitVec 32 := Scalar.muli v5 c1_i32_157
  let v272 : BitVec 32 := Scalar.addi c0_i32_158 v271
  v272.toNat
def k0_cond9 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_33 : BitVec 32 := 3#32
  let v50 : BitVec 1 := Scalar.cmpi .slt v2 c3_i32_33
  let v51 : BitVec 32 := Scalar.extui v50
  let c0_i32_34 : BitVec 32 := 0#32
  let v52 : BitVec 1 := Scalar.cmpi .ne v51 c0_i32_34
  v52

def k0_dev15 (d0 : Dev nD) : Nat :=
  let c0_i32_158 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_157 : BitVec 32 := 1#32
  let v271 : BitVec 32 := Scalar.muli v7 c1_i32_157
  let v272 : BitVec 32 := Scalar.addi c0_i32_158 v271
  v272.toNat
def k0_cond11 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_108 : BitVec 32 := 0#32
  let v171 : BitVec 1 := Scalar.cmpi .sgt v2 c0_i32_108
  let v172 : BitVec 32 := Scalar.extui v171
  let c0_i32_109 : BitVec 32 := 0#32
  let v173 : BitVec 1 := Scalar.cmpi .ne v172 c0_i32_109
  v173

def k0_off1 (d0 : Dev nD) : Fin 1 → Nat :=
  let c2_i32_156 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v272 : BitVec 32 := Scalar.addi c2_i32_156 v2
  ![v272.toNat]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_155 : BitVec 32 := 1#32
  let v271 : BitVec 32 := Scalar.subi v2 c1_i32_155
  let c0_i32_161 : BitVec 32 := 0#32
  let c0_i32_162 : BitVec 32 := 0#32
  ![v271.toNat, 0, 0]
def k0_dev16 : Nat :=
  let c0_i32_160 : BitVec 32 := 0#32
  let c0_i32_158 : BitVec 32 := 0#32
  let c1_i32_159 : BitVec 32 := 1#32
  let v273 : BitVec 32 := Scalar.muli c0_i32_158 c1_i32_159
  let v274 : BitVec 32 := Scalar.addi c0_i32_160 v273
  v274.toNat
@[reducible] def k0_t1_loop : Scf.Loop 32 :=
  let c0_i32_114 : BitVec 32 := 0#32
  let c8_i32 : BitVec 32 := 8#32
  let v201 : BitVec 32 := Scalar.addi c0_i32_114 c8_i32
  let c1_i32_115 : BitVec 32 := 1#32
  ⟨c0_i32_114, v201, c1_i32_115⟩
def k0_off3 (k0_t1 : Fin k0_t1_loop.trips) : Fin 2 → Nat :=
  let c128_156 : Index := 128#32
  let c0_i32_114 : BitVec 32 := 0#32
  let c1_i32_115 : BitVec 32 := 1#32
  let arg15 : BitVec 32 := Scf.iv c0_i32_114 c1_i32_115 k0_t1
  let c128_i32_155 : BitVec 32 := 128#32
  let v271 : BitVec 32 := Scalar.muli arg15 c128_i32_155
  let v272 : Index := Scalar.indexCast v271
  ![128, v272.toNat]
def k0_off4 (k0_t1 : Fin k0_t1_loop.trips) : Fin 2 → Nat :=
  let c128_158 : Index := 128#32
  let c0_i32_114 : BitVec 32 := 0#32
  let c1_i32_115 : BitVec 32 := 1#32
  let arg15 : BitVec 32 := Scf.iv c0_i32_114 c1_i32_115 k0_t1
  let c128_i32_157 : BitVec 32 := 128#32
  let v274 : BitVec 32 := Scalar.muli arg15 c128_i32_157
  let v275 : Index := Scalar.indexCast v274
  ![128, v275.toNat]
def k0_off5 (k0_t1 : Fin k0_t1_loop.trips) : Fin 2 → Nat :=
  let c128_161 : Index := 128#32
  let c1024_i32_160 : BitVec 32 := 1024#32
  let c0_i32_114 : BitVec 32 := 0#32
  let c1_i32_115 : BitVec 32 := 1#32
  let arg15 : BitVec 32 := Scf.iv c0_i32_114 c1_i32_115 k0_t1
  let c128_i32_159 : BitVec 32 := 128#32
  let v277 : BitVec 32 := Scalar.muli arg15 c128_i32_159
  let v278 : BitVec 32 := Scalar.addi c1024_i32_160 v277
  let v279 : Index := Scalar.indexCast v278
  ![128, v279.toNat]
def k0_off6 (k0_t1 : Fin k0_t1_loop.trips) : Fin 2 → Nat :=
  let c0_163 : Index := 0#32
  let c0_i32_114 : BitVec 32 := 0#32
  let c1_i32_115 : BitVec 32 := 1#32
  let arg15 : BitVec 32 := Scf.iv c0_i32_114 c1_i32_115 k0_t1
  let c128_i32_162 : BitVec 32 := 128#32
  let v281 : BitVec 32 := Scalar.muli arg15 c128_i32_162
  let v282 : Index := Scalar.indexCast v281
  ![0, v282.toNat]
def k0_off7 (k0_t1 : Fin k0_t1_loop.trips) : Fin 2 → Nat :=
  let c0_166 : Index := 0#32
  let c1024_i32_165 : BitVec 32 := 1024#32
  let c0_i32_114 : BitVec 32 := 0#32
  let c1_i32_115 : BitVec 32 := 1#32
  let arg15 : BitVec 32 := Scf.iv c0_i32_114 c1_i32_115 k0_t1
  let c128_i32_164 : BitVec 32 := 128#32
  let v284 : BitVec 32 := Scalar.muli arg15 c128_i32_164
  let v285 : BitVec 32 := Scalar.addi c1024_i32_165 v284
  let v286 : Index := Scalar.indexCast v285
  ![0, v286.toNat]
def k0_off8 (k0_t1 : Fin k0_t1_loop.trips) : Fin 2 → Nat :=
  let c512_178 : Index := 512#32
  let c0_i32_114 : BitVec 32 := 0#32
  let c1_i32_115 : BitVec 32 := 1#32
  let arg15 : BitVec 32 := Scf.iv c0_i32_114 c1_i32_115 k0_t1
  let c128_i32_177 : BitVec 32 := 128#32
  let v316 : BitVec 32 := Scalar.muli arg15 c128_i32_177
  let v317 : Index := Scalar.indexCast v316
  ![512, v317.toNat]
def k0_off9 (k0_t1 : Fin k0_t1_loop.trips) : Fin 2 → Nat :=
  let c512_180 : Index := 512#32
  let c0_i32_114 : BitVec 32 := 0#32
  let c1_i32_115 : BitVec 32 := 1#32
  let arg15 : BitVec 32 := Scf.iv c0_i32_114 c1_i32_115 k0_t1
  let c128_i32_179 : BitVec 32 := 128#32
  let v319 : BitVec 32 := Scalar.muli arg15 c128_i32_179
  let v320 : Index := Scalar.indexCast v319
  ![512, v320.toNat]
def k0_off10 (k0_t1 : Fin k0_t1_loop.trips) : Fin 2 → Nat :=
  let c512_183 : Index := 512#32
  let c1024_i32_182 : BitVec 32 := 1024#32
  let c0_i32_114 : BitVec 32 := 0#32
  let c1_i32_115 : BitVec 32 := 1#32
  let arg15 : BitVec 32 := Scf.iv c0_i32_114 c1_i32_115 k0_t1
  let c128_i32_181 : BitVec 32 := 128#32
  let v322 : BitVec 32 := Scalar.muli arg15 c128_i32_181
  let v323 : BitVec 32 := Scalar.addi c1024_i32_182 v322
  let v324 : Index := Scalar.indexCast v323
  ![512, v324.toNat]
@[reducible] def k0_t2_loop : Scf.Loop 32 :=
  let c0_i32_135 : BitVec 32 := 0#32
  let c8_i32_136 : BitVec 32 := 8#32
  let v251 : BitVec 32 := Scalar.addi c0_i32_135 c8_i32_136
  let c1_i32_137 : BitVec 32 := 1#32
  ⟨c0_i32_135, v251, c1_i32_137⟩
def k0_off11 (k0_t2 : Fin k0_t2_loop.trips) : Fin 2 → Nat :=
  let c0_156 : Index := 0#32
  let c0_i32_135 : BitVec 32 := 0#32
  let c1_i32_137 : BitVec 32 := 1#32
  let arg15 : BitVec 32 := Scf.iv c0_i32_135 c1_i32_137 k0_t2
  let c128_i32_155 : BitVec 32 := 128#32
  let v271 : BitVec 32 := Scalar.muli arg15 c128_i32_155
  let v272 : Index := Scalar.indexCast v271
  ![0, v272.toNat]
def k0_off12 (k0_t2 : Fin k0_t2_loop.trips) : Fin 2 → Nat :=
  let c0_158 : Index := 0#32
  let c0_i32_135 : BitVec 32 := 0#32
  let c1_i32_137 : BitVec 32 := 1#32
  let arg15 : BitVec 32 := Scf.iv c0_i32_135 c1_i32_137 k0_t2
  let c128_i32_157 : BitVec 32 := 128#32
  let v274 : BitVec 32 := Scalar.muli arg15 c128_i32_157
  let v275 : Index := Scalar.indexCast v274
  ![0, v275.toNat]
def k0_off13 (k0_t2 : Fin k0_t2_loop.trips) : Fin 2 → Nat :=
  let c0_161 : Index := 0#32
  let c1024_i32_160 : BitVec 32 := 1024#32
  let c0_i32_135 : BitVec 32 := 0#32
  let c1_i32_137 : BitVec 32 := 1#32
  let arg15 : BitVec 32 := Scf.iv c0_i32_135 c1_i32_137 k0_t2
  let c128_i32_159 : BitVec 32 := 128#32
  let v277 : BitVec 32 := Scalar.muli arg15 c128_i32_159
  let v278 : BitVec 32 := Scalar.addi c1024_i32_160 v277
  let v279 : Index := Scalar.indexCast v278
  ![0, v279.toNat]
def k0_off14 (k0_t2 : Fin k0_t2_loop.trips) : Fin 2 → Nat :=
  let c0_163 : Index := 0#32
  let c0_i32_135 : BitVec 32 := 0#32
  let c1_i32_137 : BitVec 32 := 1#32
  let arg15 : BitVec 32 := Scf.iv c0_i32_135 c1_i32_137 k0_t2
  let c128_i32_162 : BitVec 32 := 128#32
  let v281 : BitVec 32 := Scalar.muli arg15 c128_i32_162
  let v282 : Index := Scalar.indexCast v281
  ![0, v282.toNat]
def k0_off15 (k0_t2 : Fin k0_t2_loop.trips) : Fin 2 → Nat :=
  let c0_166 : Index := 0#32
  let c1024_i32_165 : BitVec 32 := 1024#32
  let c0_i32_135 : BitVec 32 := 0#32
  let c1_i32_137 : BitVec 32 := 1#32
  let arg15 : BitVec 32 := Scf.iv c0_i32_135 c1_i32_137 k0_t2
  let c128_i32_164 : BitVec 32 := 128#32
  let v284 : BitVec 32 := Scalar.muli arg15 c128_i32_164
  let v285 : BitVec 32 := Scalar.addi c1024_i32_165 v284
  let v286 : Index := Scalar.indexCast v285
  ![0, v286.toNat]
def k0_off16 (k0_t2 : Fin k0_t2_loop.trips) : Fin 2 → Nat :=
  let c896_178 : Index := 896#32
  let c0_i32_135 : BitVec 32 := 0#32
  let c1_i32_137 : BitVec 32 := 1#32
  let arg15 : BitVec 32 := Scf.iv c0_i32_135 c1_i32_137 k0_t2
  let c128_i32_177 : BitVec 32 := 128#32
  let v316 : BitVec 32 := Scalar.muli arg15 c128_i32_177
  let v317 : Index := Scalar.indexCast v316
  ![896, v317.toNat]
def k0_off17 (k0_t2 : Fin k0_t2_loop.trips) : Fin 2 → Nat :=
  let c896_180 : Index := 896#32
  let c0_i32_135 : BitVec 32 := 0#32
  let c1_i32_137 : BitVec 32 := 1#32
  let arg15 : BitVec 32 := Scf.iv c0_i32_135 c1_i32_137 k0_t2
  let c128_i32_179 : BitVec 32 := 128#32
  let v319 : BitVec 32 := Scalar.muli arg15 c128_i32_179
  let v320 : Index := Scalar.indexCast v319
  ![896, v320.toNat]
def k0_off18 (k0_t2 : Fin k0_t2_loop.trips) : Fin 2 → Nat :=
  let c896_183 : Index := 896#32
  let c1024_i32_182 : BitVec 32 := 1024#32
  let c0_i32_135 : BitVec 32 := 0#32
  let c1_i32_137 : BitVec 32 := 1#32
  let arg15 : BitVec 32 := Scf.iv c0_i32_135 c1_i32_137 k0_t2
  let c128_i32_181 : BitVec 32 := 128#32
  let v322 : BitVec 32 := Scalar.muli arg15 c128_i32_181
  let v323 : BitVec 32 := Scalar.addi c1024_i32_182 v322
  let v324 : Index := Scalar.indexCast v323
  ![896, v324.toNat]
def k0_cond15 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_149 : BitVec 32 := 0#32
  let v262 : BitVec 1 := Scalar.cmpi .sgt v2 c0_i32_149
  let v263 : BitVec 32 := Scalar.extui v262
  let c0_i32_150 : BitVec 32 := 0#32
  let v264 : BitVec 1 := Scalar.cmpi .ne v263 c0_i32_150
  v264

def k0_off19 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_161 : BitVec 32 := 1#32
  let v275 : BitVec 32 := Scalar.subi v2 c1_i32_161
  let c0_i32_166 : BitVec 32 := 0#32
  let c0_i32_167 : BitVec 32 := 0#32
  ![v275.toNat, 0, 0]
abbrev stage0_0 : Fin 1 → Memref sig .tc .vmem S1x1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024x8x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024x8x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x4096x1024 : Shape := ⟨3, ![1, 4096, 1024]⟩
abbrev S1024x1024 : Shape := ⟨2, ![1024, 1024]⟩
abbrev S1x4096x8x128 : Shape := ⟨4, ![1, 4096, 8, 128]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S1x8x4096x4096 : Shape := ⟨4, ![1, 8, 4096, 4096]⟩
abbrev S1x1x4096x4096 : Shape := ⟨4, ![1, 1, 4096, 4096]⟩
abbrev S1x8x4096 : Shape := ⟨3, ![1, 8, 4096]⟩
abbrev S1x8x4096x1 : Shape := ⟨4, ![1, 8, 4096, 1]⟩
abbrev S1x1x4096x1 : Shape := ⟨4, ![1, 1, 4096, 1]⟩
abbrev S1x8x128x4096 : Shape := ⟨4, ![1, 8, 128, 4096]⟩

abbrev nBuf : Space → Nat
  | .hbm => 76
  | .vmem => 0
  | .smem => 0
  | _ => 0

abbrev bufTy : (tb : Table) → Fin (tcTables nBuf tb) → BufTy
  | .hbm, ⟨0, _⟩ => ⟨S1x4096x1024, .bf16⟩
  | .hbm, ⟨1, _⟩ => ⟨S1024x1024, .bf16⟩
  | .hbm, ⟨2, _⟩ => ⟨S1x4096x8x128, .bf16⟩
  | .hbm, ⟨3, _⟩ => ⟨S1x4096x8x128, .bf16⟩
  | .hbm, ⟨4, _⟩ => ⟨S1024x1024, .bf16⟩
  | .hbm, ⟨5, _⟩ => ⟨S1x4096x1024, .f32⟩
  | .hbm, ⟨6, _⟩ => ⟨S1024x1024, .f32⟩
  | .hbm, ⟨7, _⟩ => ⟨S1x4096x1024, .f32⟩
  | .hbm, ⟨8, _⟩ => ⟨S1x4096x1024, .bf16⟩
  | .hbm, ⟨9, _⟩ => ⟨S1x4096x8x128, .bf16⟩
  | .hbm, ⟨10, _⟩ => ⟨S4096, .i32⟩
  | .hbm, ⟨11, _⟩ => ⟨S4096x1, .i32⟩
  | .hbm, ⟨12, _⟩ => ⟨S4096, .i32⟩
  | .hbm, ⟨13, _⟩ => ⟨S1x4096, .i32⟩
  | .hbm, ⟨14, _⟩ => ⟨S4096x4096, .i32⟩
  | .hbm, ⟨15, _⟩ => ⟨S4096x4096, .i32⟩
  | .hbm, ⟨16, _⟩ => ⟨S4096x4096, .i32⟩
  | .hbm, ⟨17, _⟩ => ⟨S4096x4096, .i32⟩
  | .hbm, ⟨18, _⟩ => ⟨S_, .i32⟩
  | .hbm, ⟨19, _⟩ => ⟨S4096x4096, .i32⟩
  | .hbm, ⟨20, _⟩ => ⟨S4096x4096, .i1⟩
  | .hbm, ⟨21, _⟩ => ⟨S_, .i32⟩
  | .hbm, ⟨22, _⟩ => ⟨S1x4096, .i32⟩
  | .hbm, ⟨23, _⟩ => ⟨S1x4096, .i1⟩
  | .hbm, ⟨24, _⟩ => ⟨S_, .i32⟩
  | .hbm, ⟨25, _⟩ => ⟨S4096x1, .i32⟩
  | .hbm, ⟨26, _⟩ => ⟨S4096x1, .i1⟩
  | .hbm, ⟨27, _⟩ => ⟨S4096x4096, .i1⟩
  | .hbm, ⟨28, _⟩ => ⟨S4096x4096, .i1⟩
  | .hbm, ⟨29, _⟩ => ⟨S4096x4096, .i1⟩
  | .hbm, ⟨30, _⟩ => ⟨S4096x4096, .i1⟩
  | .hbm, ⟨31, _⟩ => ⟨S1x4096x8x128, .f32⟩
  | .hbm, ⟨32, _⟩ => ⟨S1x4096x8x128, .f32⟩
  | .hbm, ⟨33, _⟩ => ⟨S1x8x4096x4096, .f32⟩
  | .hbm, ⟨34, _⟩ => ⟨S1x8x4096x4096, .bf16⟩
  | .hbm, ⟨35, _⟩ => ⟨S1x8x4096x4096, .f32⟩
  | .hbm, ⟨36, _⟩ => ⟨S_, .f32⟩
  | .hbm, ⟨37, _⟩ => ⟨S1x8x4096x4096, .f32⟩
  | .hbm, ⟨38, _⟩ => ⟨S1x8x4096x4096, .f32⟩
  | .hbm, ⟨39, _⟩ => ⟨S1x1x4096x4096, .i1⟩
  | .hbm, ⟨40, _⟩ => ⟨S_, .f32⟩
  | .hbm, ⟨41, _⟩ => ⟨S_, .f32⟩
  | .hbm, ⟨42, _⟩ => ⟨S1x8x4096x4096, .i1⟩
  | .hbm, ⟨43, _⟩ => ⟨S1x8x4096x4096, .f32⟩
  | .hbm, ⟨44, _⟩ => ⟨S1x8x4096x4096, .f32⟩
  | .hbm, ⟨45, _⟩ => ⟨S_, .f32⟩
  | .hbm, ⟨46, _⟩ => ⟨S1x8x4096, .f32⟩
  | .hbm, ⟨47, _⟩ => ⟨S1x8x4096x1, .f32⟩
  | .hbm, ⟨48, _⟩ => ⟨S1x8x4096x4096, .f32⟩
  | .hbm, ⟨49, _⟩ => ⟨S1x8x4096x4096, .f32⟩
  | .hbm, ⟨50, _⟩ => ⟨S1x8x4096x4096, .f32⟩
  | .hbm, ⟨51, _⟩ => ⟨S_, .i1⟩
  | .hbm, ⟨52, _⟩ => ⟨S4096, .i1⟩
  | .hbm, ⟨53, _⟩ => ⟨S1x1x4096x1, .i1⟩
  | .hbm, ⟨54, _⟩ => ⟨S_, .f32⟩
  | .hbm, ⟨55, _⟩ => ⟨S1x8x4096, .f32⟩
  | .hbm, ⟨56, _⟩ => ⟨S1x8x4096x1, .f32⟩
  | .hbm, ⟨57, _⟩ => ⟨S_, .f32⟩
  | .hbm, ⟨58, _⟩ => ⟨S_, .f32⟩
  | .hbm, ⟨59, _⟩ => ⟨S1x8x4096x1, .i1⟩
  | .hbm, ⟨60, _⟩ => ⟨S1x8x4096x1, .f32⟩
  | .hbm, ⟨61, _⟩ => ⟨S1x8x4096x1, .f32⟩
  | .hbm, ⟨62, _⟩ => ⟨S1x8x4096x4096, .f32⟩
  | .hbm, ⟨63, _⟩ => ⟨S1x8x4096x4096, .f32⟩
  | .hbm, ⟨64, _⟩ => ⟨S1x1x4096x1, .i1⟩
  | .hbm, ⟨65, _⟩ => ⟨S_, .f32⟩
  | .hbm, ⟨66, _⟩ => ⟨S_, .f32⟩
  | .hbm, ⟨67, _⟩ => ⟨S1x8x4096x4096, .i1⟩
  | .hbm, ⟨68, _⟩ => ⟨S1x8x4096x4096, .f32⟩
  | .hbm, ⟨69, _⟩ => ⟨S1x8x4096x4096, .f32⟩
  | .hbm, ⟨70, _⟩ => ⟨S1x4096x8x128, .f32⟩
  | .hbm, ⟨71, _⟩ => ⟨S1x8x128x4096, .f32⟩
  | .hbm, ⟨72, _⟩ => ⟨S1x4096x8x128, .f32⟩
  | .hbm, ⟨73, _⟩ => ⟨S1x4096x1024, .f32⟩
  | .hbm, ⟨74, _⟩ => ⟨S1024x1024, .f32⟩
  | .hbm, ⟨75, _⟩ => ⟨S1x4096x1024, .f32⟩
  | _, _ => ⟨S1x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_4 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_7 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩

abbrev nD : Nat := 1
abbrev τ : Topo := Topo.v7x

variable {F : FTy → Type} [FloatOps F]
-- ==== Proof.Contents.lean ====
/-
The buffers' contents during the kernel: what each device's scratch holds at each stage, as functions of the five
argument blocks of all devices. Nothing here mentions the run; the run is shown to produce these contents, and the
value claim reads them.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.ValueIdx
public import Idealize.ShloMosaic.Lib.Tactic

@[expose] public section

noncomputable section

namespace Cert.KProof

open Cert.KernelIdeal Cert.KernelIdeal.Gen
open Idealize.ShloMosaic Idealize.ShloMosaic.ValueIdx

variable {F : FTy → Type} [FloatOps F]

/-! ## The kernel's buffers -/

/-- The staged block of x. -/
abbrev xM : Memref sig .tc .vmem S1x1024x1024 .bf16 := Memref.whole cc0_stg0_0
/-- The staged query weights. -/
abbrev wqM : Memref sig .tc .vmem S1024x1024 .bf16 := Memref.whole cc0_stg1_0
/-- The staged block of keys. -/
abbrev kM : Memref sig .tc .vmem S1x1024x8x128 .bf16 := Memref.whole cc0_stg2_0
/-- The staged block of values. -/
abbrev vM : Memref sig .tc .vmem S1x1024x8x128 .bf16 := Memref.whole cc0_stg3_0
/-- The staged output weights. -/
abbrev woM : Memref sig .tc .vmem S1024x1024 .bf16 := Memref.whole cc0_stg4_0
/-- The staged block of the result. -/
abbrev oM : Memref sig .tc .vmem S1x1024x1024 .f32 := Memref.whole cc0_stg5_0
/-- The key and value band: 128 halo rows, the device's own 1024 rows, 128 halo rows; keys left, values right. -/
abbrev bM : Memref sig .tc .vmem S1280x2048 .bf16 := Memref.whole cc0_scratch0
/-- Device 0's first 32 rows of keys, values and x. -/
abbrev gM : Memref sig .tc .vmem S32x3072 .bf16 := Memref.whole cc0_scratch1
/-- The rows of x as a matrix. -/
abbrev xbM : Memref sig .tc .vmem S1024x1024 .bf16 := Memref.whole cc0_scratch2
/-- The scaled queries. -/
abbrev qM : Memref sig .tc .vmem S1024x1024 .bf16 := Memref.whole cc0_scratch3
/-- The attention context, one column block per head. -/
abbrev cM : Memref sig .tc .vmem S1024x1024 .bf16 := Memref.whole cc0_scratch4
/-- This device's partial sums for the 32 global queries. -/
abbrev pM : Memref sig .tc .vmem S32x1152 .f32 := Memref.whole cc0_scratch5
/-- The other three devices' partial sums, received on device 0. -/
abbrev rM : Memref sig .tc .vmem S3x32x1152 .f32 := Memref.whole cc0_scratch6

/-! ## The argument blocks -/

variable (F) in
/-- The five argument blocks of every device. -/
structure Ins where
  x : Dev nD → Vec F S1x1024x1024 .bf16
  wq : Dev nD → Vec F S1024x1024 .bf16
  k : Dev nD → Vec F S1x1024x8x128 .bf16
  v : Dev nD → Vec F S1x1024x8x128 .bf16
  wo : Dev nD → Vec F S1024x1024 .bf16

variable (A : Ins F)

/-- The device before `c` and the device after it (used only where there is one). -/
def lc (c : Dev nD) : Dev nD := ⟨(c.val + 3) % 4, Nat.mod_lt _ (by decide)⟩
/-- The device after `c`. -/
def rc (c : Dev nD) : Dev nD := ⟨(c.val + 1) % 4, Nat.mod_lt _ (by decide)⟩

/-- The word the kernel computes for its own position on the mesh. -/
def idw (c : Dev nD) : BitVec 32 := Scalar.remsi (Scalar.divsi (Dev.word c) 1#32) 4#32

/-! ## The band, the global rows, the queries -/

/-- Device `c`'s keys, values and x rows as matrices. -/
def kb (c : Dev nD) : FVec F S1024x1024 .bf16 := k0_pay29 (A.k c)
/-- Device `c`'s values as a matrix. -/
def vb (c : Dev nD) : FVec F S1024x1024 .bf16 := k0_pay31 (k0_pay30 (A.v c))
/-- Device `c`'s rows of x as a matrix. -/
def xb (c : Dev nD) : FVec F S1024x1024 .bf16 := k0_pay32 (A.x c)

/-- Row `r`, column `q` of device `c`'s keys and values side by side. -/
def own (c : Dev nD) (r : Fin 1024) (q : Fin 2048) : F .bf16 :=
  if h : q.val < 1024 then kb A c (ix2 r ⟨q.val, h⟩) else vb A c (ix2 r ⟨q.val - 1024, by omega⟩)

/-- The bf16 zero the outermost halos hold. -/
def z16 : F .bf16 := Scalar.ofBits .bf16 0x0000#16

/-- The band on device `c` once both halos are in: the left neighbour's last 128 rows (zeros on device 0), the device's
    own rows, the right neighbour's first 128 rows (zeros on device 3). -/
def bandC (c : Dev nD) : Vec F S1280x2048 .bf16 := fun i =>
  if h0 : (i 0).val < 128 then (if c = 0 then z16 else own A (lc c) ⟨896 + (i 0).val, by omega⟩ (i 1))
  else if h1 : (i 0).val < 1152 then own A c ⟨(i 0).val - 128, by omega⟩ (i 1)
  else (if c = 3 then z16 else own A (rc c) ⟨(i 0).val - 1152, by have := idx2_lt0 i; omega⟩ (i 1))

/-- Device 0's first 32 rows: keys, values, x. Every device holds this. -/
def gC : Vec F S32x3072 .bf16 := fun i =>
  if h : (i 1).val < 2048 then own A 0 ⟨(i 0).val, by have := idx2_lt0 i; omega⟩ ⟨(i 1).val, h⟩
  else xb A 0 (ix2 ⟨(i 0).val, by have := idx2_lt0 i; omega⟩ ⟨(i 1).val - 2048, by have := idx2_lt1 i; omega⟩)

/-- The scaled queries of device `c`'s rows. -/
def qsC (c : Dev nD) : FVec F S1024x1024 .bf16 := k0_pay39 (k0_pay38 (A.wq c) (xb A c))

/-! ## The partial sums for the global queries -/

/-- The scaled queries of device 0's first 32 rows, as every device computes them. -/
def gq (c : Dev nD) : FVec F S32x1024 .bf16 :=
  k0_pay40 (k0_pay37 (A.wq c)) (gM.view.readAt (Elt F) (Rect.unit (s := S32x3072) ![0, 2048] S32x1024.size inb_S32x3072_S32x1024_0_2048).toLoadRect (gC A))

/-- Head `h`'s own keys lie in the band. -/
theorem inbK (h : Fin 8) : ∀ a, (![128, 128 * h.val] : Fin 2 → Nat) a + S1024x128.size a ≤ S1280x2048.size a := by
  revert h; decide
/-- Head `h`'s own values lie in the band. -/
theorem inbV (h : Fin 8) : ∀ a, (![128, 1024 + 128 * h.val] : Fin 2 → Nat) a + S1024x128.size a ≤ S1280x2048.size a := by
  revert h; decide
/-- Head `h`'s columns lie in the global queries. -/
theorem slicesQ (h : Fin 8) : S32x1024.Slices ![0, 128 * h.val] S32x128 := by
  fin_cases h
  exacts [slices_S32x1024_o0_0_S32x128, slices_S32x1024_o0_128_S32x128, slices_S32x1024_o0_256_S32x128, slices_S32x1024_o0_384_S32x128,
    slices_S32x1024_o0_512_S32x128, slices_S32x1024_o0_640_S32x128, slices_S32x1024_o0_768_S32x128, slices_S32x1024_o0_896_S32x128]

/-- Head `h`'s columns of the device's own keys and values. -/
def kH (c : Dev nD) (h : Fin 8) : Vec F S1024x128 .bf16 :=
  bM.view.readAt (Elt F) (Rect.unit (s := S1280x2048) ![128, 128 * h.val] S1024x128.size (inbK h)).toLoadRect (bandC A c)
/-- Head `h`'s columns of the device's own values. -/
def vH (c : Dev nD) (h : Fin 8) : Vec F S1024x128 .bf16 :=
  bM.view.readAt (Elt F) (Rect.unit (s := S1280x2048) ![128, 1024 + 128 * h.val] S1024x128.size (inbV h)).toLoadRect (bandC A c)

/-- Head `h`'s exponentials of the global queries' scores against one device's keys. -/
def gexp (g : FVec F S32x1024 .bf16) (h : Fin 8) (k : Vec F S1024x128 .bf16) : FVec F S32x1024 .f32 :=
  exp (matmul dot_S32x128_S1024x128_S32x1024_1_1_0_0_n_n none (extractStridedSlice S32x128 ![0, 128 * h.val] g (slicesQ h)) k
    (constant S32x1024 .f32 0x00000000#32))
/-- Their sums weighted by the values, and their plain sums. -/
def gnum (g : FVec F S32x1024 .bf16) (h : Fin 8) (k v : Vec F S1024x128 .bf16) : FVec F S32x128 .f32 :=
  shapeCast S32x128 (matmul dot_S32x1024_S1024x128_S32x128_1_0_0_1_n_n none (truncf .bf16 (gexp g h k) bitsLt_bf16_f32) v
    (constant S32x128 .f32 0x00000000#32)) shapeCasts_S32x128_S32x128
/-- The plain sums of the exponentials. -/
def gden (g : FVec F S32x1024 .bf16) (h : Fin 8) (k : Vec F S1024x128 .bf16) : FVec F S32x1 .f32 :=
  shapeCast S32x1 (multiReduction .add [1] S32 (gexp g h k) 0x00000000#32 reduces_S32x1024_S32 (.inl rfl) rfl) shapeCasts_S32_S32x1

/-- Device `c`'s weighted sums of head `h`. -/
def pnum (c : Dev nD) (h : Fin 8) : FVec F S32x128 .f32 := gnum (gq A c) h (kH A c h) (vH A c h)
/-- Device `c`'s plain sums, one column per head. -/
def pden (c : Dev nD) : FVec F S32x8 .f32 :=
  k0_pay66 (gq A c) (gden (gq A c) 0 (kH A c 0)) (gden (gq A c) 1 (kH A c 1)) (gden (gq A c) 2 (kH A c 2)) (gden (gq A c) 3 (kH A c 3))
    (gden (gq A c) 4 (kH A c 4)) (gden (gq A c) 5 (kH A c 5)) (gden (gq A c) 6 (kH A c 6)) (kH A c 7)

/-- The partial-sum buffer of device `c`, in its first 1032 columns (the rest is never written or read). -/
def psC (c : Dev nD) : Vec F S32x1152 .f32 := fun i =>
  if h : (i 1).val < 1024 then
    pnum A c ⟨(i 1).val / 128, by omega⟩ (ix2 ⟨(i 0).val, by have := idx2_lt0 i; omega⟩ ⟨(i 1).val % 128, Nat.mod_lt _ (by decide)⟩)
  else if h' : (i 1).val < 1032 then
    pden A c (ix2 ⟨(i 0).val, by have := idx2_lt0 i; omega⟩ ⟨(i 1).val - 1024, by omega⟩)
  else Scalar.ofBits .f32 0x00000000#32

/-- The receive buffer on device 0: slot `j` from device `j + 1`. -/
def pvC : Vec F S3x32x1152 .f32 := fun i =>
  psC A ⟨(i 0).val + 1, by have : (i 0).val < 3 := (i 0).isLt; show _ < 4; omega⟩ (ix2 (i 1) (i 2))

/-! ## The context and the result -/

/-- Head `h`'s weighted sums lie in the buffer of partial sums. -/
theorem inbPn (h : Fin 8) : ∀ a, (![0, 128 * h.val] : Fin 2 → Nat) a + S32x128.size a ≤ S32x1152.size a := by revert h; decide
/-- Head `h`'s column of plain sums lies in the buffer of partial sums. -/
theorem inbPs (h : Fin 8) : ∀ a, (![0, 1024 + h.val] : Fin 2 → Nat) a + S32x1.size a ≤ S32x1152.size a := by revert h; decide
/-- Head `h`'s weighted sums lie in slot `j` of the receive buffer. -/
theorem inbRn (j : Fin 3) (h : Fin 8) : ∀ a, (![j.val, 0, 128 * h.val] : Fin 3 → Nat) a + S1x32x128.size a ≤ S3x32x1152.size a := by
  revert j h; decide
/-- Head `h`'s column of plain sums lies in slot `j` of the receive buffer. -/
theorem inbRs (j : Fin 3) (h : Fin 8) : ∀ a, (![j.val, 0, 1024 + h.val] : Fin 3 → Nat) a + S1x32x1.size a ≤ S3x32x1152.size a := by
  revert j h; decide

/-- Head `h`'s partial sums as device 0 reads them: its own, and those of slot `j`. -/
def n0 (h : Fin 8) : Vec F S32x128 .f32 :=
  pM.view.readAt (Elt F) (Rect.unit (s := S32x1152) ![0, 128 * h.val] S32x128.size (inbPn h)).toLoadRect (psC A 0)
/-- Device 0's own plain sums of head `h`. -/
def s0 (h : Fin 8) : Vec F S32x1 .f32 :=
  pM.view.readAt (Elt F) (Rect.unit (s := S32x1152) ![0, 1024 + h.val] S32x1.size (inbPs h)).toLoadRect (psC A 0)
/-- Slot `j`'s weighted sums of head `h`. -/
def nR (j : Fin 3) (h : Fin 8) : Vec F S1x32x128 .f32 :=
  rM.view.readAt (Elt F) (Rect.unit (s := S3x32x1152) ![j.val, 0, 128 * h.val] S1x32x128.size (inbRn j h)).toLoadRect (pvC A)
/-- Slot `j`'s plain sums of head `h`. -/
def sR (j : Fin 3) (h : Fin 8) : Vec F S1x32x1 .f32 :=
  rM.view.readAt (Elt F) (Rect.unit (s := S3x32x1152) ![j.val, 0, 1024 + h.val] S1x32x1.size (inbRs j h)).toLoadRect (pvC A)

/-- The context of the 32 global queries in head `h`: the four devices' weighted sums over their plain sums. -/
def cG (h : Fin 8) : FVec F S32x128 .bf16 :=
  k0_pay24 (n0 A h) (s0 A h) (nR A 0 h) (sR A 0 h) (nR A 1 h) (sR A 1 h) (nR A 2 h) (sR A 2 h)

/-- Rows 128 to 511 of the context in one head, as the interior loop's trip computes them; -/
def cI1 (c : Dev nD) (t : Fin k0_t1_loop.trips) : FVec F S384x128 .bf16 :=
  k0_pay2 (k0_pay1 k0_pay67 (k0_pay68 (idw c))
    (qM.view.readAt (Elt F) (Rect.unit (s := S1024x1024) (k0_off3 t) S384x128.size (k0_off3_inb t)).toLoadRect (qsC A c))
    (bM.view.readAt (Elt F) (Rect.unit (s := S1280x2048) (k0_off4 t) S640x128.size (k0_off4_inb t)).toLoadRect (bandC A c))
    (bM.view.readAt (Elt F) (Rect.unit (s := S1280x2048) (k0_off5 t) S640x128.size (k0_off5_inb t)).toLoadRect (bandC A c))
    (gM.view.readAt (Elt F) (Rect.unit (s := S32x3072) (k0_off6 t) S32x128.size (k0_off6_inb t)).toLoadRect (gC A))
    (gM.view.readAt (Elt F) (Rect.unit (s := S32x3072) (k0_off7 t) S32x128.size (k0_off7_inb t)).toLoadRect (gC A)))

/-- rows 512 to 895; -/
def cI2 (c : Dev nD) (t : Fin k0_t1_loop.trips) : FVec F S384x128 .bf16 :=
  let q : Vec F S384x128 .bf16 := qM.view.readAt (Elt F) (Rect.unit (s := S1024x1024) (k0_off8 t) S384x128.size (k0_off8_inb t)).toLoadRect (qsC A c)
  let k : Vec F S640x128 .bf16 := bM.view.readAt (Elt F) (Rect.unit (s := S1280x2048) (k0_off9 t) S640x128.size (k0_off9_inb t)).toLoadRect (bandC A c)
  let v : Vec F S640x128 .bf16 := bM.view.readAt (Elt F) (Rect.unit (s := S1280x2048) (k0_off10 t) S640x128.size (k0_off10_inb t)).toLoadRect (bandC A c)
  let kg : Vec F S32x128 .bf16 := gM.view.readAt (Elt F) (Rect.unit (s := S32x3072) (k0_off6 t) S32x128.size (k0_off6_inb t)).toLoadRect (gC A)
  let vg : Vec F S32x128 .bf16 := gM.view.readAt (Elt F) (Rect.unit (s := S32x3072) (k0_off7 t) S32x128.size (k0_off7_inb t)).toLoadRect (gC A)
  let gm : IVec S384x32 1 := k0_pay69 (Scalar.muli (idw c) 1024#32) 512#32
  k0_pay70 v vg (k0_pay3 k0_pay67 q k) (k0_pay4 gm q kg) (k0_pay5 k0_pay67 q k) (k0_pay6 gm q kg)

/-- rows 0 to 127, as the edge loop's trip computes them; -/
def cE1 (c : Dev nD) (t : Fin k0_t2_loop.trips) : FVec F S128x128 .bf16 :=
  k0_pay8 (k0_pay7 (k0_pay72 (idw c)) (k0_pay76 (idw c))
    (qM.view.readAt (Elt F) (Rect.unit (s := S1024x1024) (k0_off11 t) S128x128.size (k0_off11_inb t)).toLoadRect (qsC A c))
    (bM.view.readAt (Elt F) (Rect.unit (s := S1280x2048) (k0_off12 t) S384x128.size (k0_off12_inb t)).toLoadRect (bandC A c))
    (bM.view.readAt (Elt F) (Rect.unit (s := S1280x2048) (k0_off13 t) S384x128.size (k0_off13_inb t)).toLoadRect (bandC A c))
    (gM.view.readAt (Elt F) (Rect.unit (s := S32x3072) (k0_off14 t) S32x128.size (k0_off14_inb t)).toLoadRect (gC A))
    (gM.view.readAt (Elt F) (Rect.unit (s := S32x3072) (k0_off15 t) S32x128.size (k0_off15_inb t)).toLoadRect (gC A)))

/-- rows 896 to 1023. -/
def cE2 (c : Dev nD) (t : Fin k0_t2_loop.trips) : FVec F S128x128 .bf16 :=
  let q : Vec F S128x128 .bf16 := qM.view.readAt (Elt F) (Rect.unit (s := S1024x1024) (k0_off16 t) S128x128.size (k0_off16_inb t)).toLoadRect (qsC A c)
  let k : Vec F S384x128 .bf16 := bM.view.readAt (Elt F) (Rect.unit (s := S1280x2048) (k0_off17 t) S384x128.size (k0_off17_inb t)).toLoadRect (bandC A c)
  let v : Vec F S384x128 .bf16 := bM.view.readAt (Elt F) (Rect.unit (s := S1280x2048) (k0_off18 t) S384x128.size (k0_off18_inb t)).toLoadRect (bandC A c)
  let kg : Vec F S32x128 .bf16 := gM.view.readAt (Elt F) (Rect.unit (s := S32x3072) (k0_off14 t) S32x128.size (k0_off14_inb t)).toLoadRect (gC A)
  let vg : Vec F S32x128 .bf16 := gM.view.readAt (Elt F) (Rect.unit (s := S32x3072) (k0_off15 t) S32x128.size (k0_off15_inb t)).toLoadRect (gC A)
  let bm : IVec S128x384 1 := k0_pay75 k0_pay71 (k0_pay73 (idw c)) k0_pay74
  let gm : IVec S128x32 1 := k0_pay77 (idw c)
  k0_pay78 v vg (k0_pay9 bm q k) (k0_pay10 gm q kg) (k0_pay11 bm q k) (k0_pay12 gm q kg)

/-- The interior loop has one trip per head. -/
theorem trips1 : k0_t1_loop.trips = 8 := by decide
/-- The edge loop has one trip per head. -/
theorem trips2 : k0_t2_loop.trips = 8 := by decide
/-- Head `h`'s trip of each loop. -/
def t1 (h : Fin 8) : Fin k0_t1_loop.trips := ⟨h.val, by rw [trips1]; exact h.isLt⟩
/-- Head `h`'s trip of the edge loop. -/
def t2 (h : Fin 8) : Fin k0_t2_loop.trips := ⟨h.val, by rw [trips2]; exact h.isLt⟩

/-- The context on device `c` before device 0 puts in the global queries' rows. -/
def cL (c : Dev nD) : Vec F S1024x1024 .bf16 := fun i =>
  let h : Fin 8 := ⟨(i 1).val / 128, by have := idx2_lt1 i; omega⟩
  let d : Fin 128 := ⟨(i 1).val % 128, Nat.mod_lt _ (by decide)⟩
  if h0 : (i 0).val < 128 then cE1 A c (t2 h) (ix2 ⟨(i 0).val, h0⟩ d)
  else if h1 : (i 0).val < 512 then cI1 A c (t1 h) (ix2 ⟨(i 0).val - 128, by omega⟩ d)
  else if h2 : (i 0).val < 896 then cI2 A c (t1 h) (ix2 ⟨(i 0).val - 512, by omega⟩ d)
  else cE2 A c (t2 h) (ix2 ⟨(i 0).val - 896, by have := idx2_lt0 i; omega⟩ d)

/-- The context the output projection reads. -/
def cC (c : Dev nD) : Vec F S1024x1024 .bf16 := fun i =>
  if h0 : c = 0 ∧ (i 0).val < 32 then
    cG A ⟨(i 1).val / 128, by have := idx2_lt1 i; omega⟩ (ix2 ⟨(i 0).val, h0.2⟩ ⟨(i 1).val % 128, Nat.mod_lt _ (by decide)⟩)
  else cL A c i

/-- The kernel's result on device `c`. -/
def outC (c : Dev nD) : Vec F S1x1024x1024 .f32 := k0_pay80 (A.wo c) (cC A c)

end Cert.KProof

end
-- ==== Proof.Protocol.lean ====
/-
The exchange between the four devices, as a schedule of duties: every semaphore cell takes part in one round, each
duty of it is paid by one named device, and a duty's payload is the memory the payment hands over. The cells, who pays
them, how much, and what is owed at which point of the kernel are tables over the mesh, decided by evaluation.
-/
module

public import proofs.«01_k».proof.Proof.Contents

@[expose] public section

noncomputable section

namespace Cert.KProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's part, and the exchange's, whose duties are named by their payer -/

/-- The exchange's part: rounds over cells, duties named by their payer. -/
abbrev UB : Type := URounds (GSem nD τ sig) (Dev nD)
/-- Both parts. -/
abbrev UU : Type := UR sig nD τ × UB

local notation "𝕄" => MT nD τ sig Unit (Elt F) ℕ UU ℕ

/-- The pipeline's part in the whole. -/
abbrev EP : Emb (UR sig nD τ) (MT nD τ sig Unit (Elt F) ℕ UU ℕ) := embL
/-- The exchange's part in the whole. -/
abbrev ER : Emb UB (MT nD τ sig Unit (Elt F) ℕ UU ℕ) := embR

/-! ## The cells -/

/-- An array of six semaphores has a `k`-th. -/
theorem inb6 (k : Fin 6) : ∀ a, (![k.val] : Fin 1 → Nat) a + S1.size a ≤ S6.size a := by revert k; decide

/-- The barrier semaphore, the six send semaphores and the six receive semaphores. -/
abbrev barS : Sem sig := (SemArray.scalar (sig.barrier 0 rfl) : Sems sig S_).sem
/-- Send semaphore `k`. -/
abbrev sndS (k : Fin 6) : DmaSem sig :=
  ((cc0_scratch7.slice (Rect.unit (s := S6) ![k.val] S1.size (inb6 k))).squeeze S_ squeezes_S1_S_).sem
/-- Receive semaphore `k`. -/
abbrev rcvS (k : Fin 6) : DmaSem sig :=
  ((cc0_scratch8.slice (Rect.unit (s := S6) ![k.val] S1.size (inb6 k))).squeeze S_ squeezes_S1_S_).sem

/-- The thirteen semaphores of a device: 0 the barrier, 1 to 6 the sends, 7 to 12 the receives. -/
def csem : Fin 13 → SemLoc sig := fun
  | 0 => .reg barS
  | 1 => .dma (sndS 0) | 2 => .dma (sndS 1) | 3 => .dma (sndS 2) | 4 => .dma (sndS 3) | 5 => .dma (sndS 4) | 6 => .dma (sndS 5)
  | 7 => .dma (rcvS 0) | 8 => .dma (rcvS 1) | 9 => .dma (rcvS 2) | 10 => .dma (rcvS 3) | 11 => .dma (rcvS 4) | 12 => .dma (rcvS 5)

/-- The thirteen are distinct. -/
theorem csem_inj : Function.Injective csem := by decide

/-- The cell of semaphore `ck.2` on device `ck.1`. -/
abbrev kcell (ck : Dev nD × Fin 13) : GSem nD τ sig := ((ck.1 : Thread nD τ), csem ck.2)

/-- Cells of distinct devices or semaphores are distinct. -/
theorem kcell_inj : Function.Injective kcell := fun a b h => by
  have h1 : a.1 = b.1 := congrArg (fun g : GSem nD τ sig => g.1.1) h
  have h2 : csem a.2 = csem b.2 := congrArg Prod.snd h
  exact Prod.ext h1 (csem_inj h2)

open Classical in
/-- The table index of a cell, if it has one. -/
def cidx (g : GSem nD τ sig) : Option (Dev nD × Fin 13) := if h : ∃ ck, kcell ck = g then some h.choose else none

/-- A cell's index is found again. -/
theorem cidx_kcell (ck : Dev nD × Fin 13) : cidx (kcell ck) = some ck := by
  unfold cidx
  have h : ∃ x, kcell x = kcell ck := ⟨ck, rfl⟩
  rw [dif_pos h, kcell_inj h.choose_spec]

/-- A cell with an index is the cell of that index. -/
theorem cidx_some {g : GSem nD τ sig} {ck : Dev nD × Fin 13} (h : cidx g = some ck) : g = kcell ck := by
  unfold cidx at h
  split at h
  case isTrue h' => rw [← Option.some.inj h, h'.choose_spec]
  case isFalse => cases h

/-! ## Who pays, and how much -/

/-- Does device `d` pay semaphore `k` of device `c`? The barrier of `c` is signalled by three devices; the sends are
    paid at home; the two halos, the global rows and the partial sums are paid by the device they come from. -/
def pays (c : Dev nD) (k : Fin 13) (d : Dev nD) : Bool :=
  match k.val with
  | 0 => d.val != (4 - c.val) % 4
  | 1 => 0 < c.val && d.val == c.val
  | 2 => c.val < 3 && d.val == c.val
  | 3 => 0 < c.val && d.val == c.val
  | 4 => c.val == 0 && d.val == 0
  | 5 => c.val == 0 && d.val == 0
  | 6 => c.val == 0 && d.val == 0
  | 7 => 0 < c.val && d.val + 1 == c.val
  | 8 => c.val < 3 && d.val == c.val + 1
  | 9 => 0 < c.val && d.val == 0
  | 10 => c.val == 0 && d.val == 1
  | 11 => c.val == 0 && d.val == 2
  | _ => c.val == 0 && d.val == 3

/-- The devices that pay cell `ck`. -/
def dutF (ck : Dev nD × Fin 13) : Finset (Dev nD) := Finset.univ.filter fun d => pays ck.1 ck.2 d

/-- The credits of the three kinds of transfer: 128 band rows, the global rows, the partial sums. -/
abbrev NH : ℕ := (bM.slice (Rect.unit (s := S1280x2048) ![0, 0] S128x2048.size inb_S1280x2048_S128x2048_0_0) (fun _ => rfl)).view.dmaCredit
/-- The credit of a transfer of the global rows. -/
abbrev NG : ℕ := gM.view.dmaCredit
/-- The credit of a transfer of partial sums. -/
abbrev NP : ℕ := pM.view.dmaCredit

/-- A transfer of band rows has a positive credit. -/
theorem NH_pos : 0 < NH := View.dmaCredit_pos _ (by decide)
/-- A transfer of the global rows has a positive credit. -/
theorem NG_pos : 0 < NG := View.dmaCredit_pos _ (by decide)
/-- A transfer of partial sums has a positive credit. -/
theorem NP_pos : 0 < NP := View.dmaCredit_pos _ (by decide)

/-- What one payer pays onto semaphore `k`: one unit at the barrier, elsewhere its transfer's credit. -/
def amt : Fin 13 → ℕ := fun
  | 0 => 1
  | 1 => NH | 2 => NH | 3 => NP | 4 => NG | 5 => NG | 6 => NG
  | 7 => NH | 8 => NH | 9 => NG | 10 => NP | 11 => NP | 12 => NP

/-- Every payment is positive. -/
theorem amt_pos (k : Fin 13) : 0 < amt k := by
  fin_cases k
  exacts [Nat.one_pos, NH_pos, NH_pos, NP_pos, NG_pos, NG_pos, NG_pos, NH_pos, NH_pos, NG_pos, NP_pos, NP_pos, NP_pos]

/-- What cell `ck` receives in all. -/
def expN (ck : Dev nD × Fin 13) : ℕ := (dutF ck).card * amt ck.2

/-! ## The buffers' parts -/

/-- The band's left halo, own rows and right halo; -/
abbrev topS : Finset S1280x2048.Idx :=
  (bM.slice (Rect.unit (s := S1280x2048) ![0, 0] S128x2048.size inb_S1280x2048_S128x2048_0_0) (fun _ => rfl)).view.set
/-- The right halo. -/
abbrev botS : Finset S1280x2048.Idx :=
  (bM.slice (Rect.unit (s := S1280x2048) ![1152, 0] S128x2048.size inb_S1280x2048_S128x2048_1152_0) (fun _ => rfl)).view.set
/-- The device's own rows. -/
def midS : Finset S1280x2048.Idx := Finset.univ.filter fun i => 128 ≤ (i 0).val ∧ (i 0).val < 1152
/-- the own rows that go to the left and to the right neighbour. -/
abbrev loS : Finset S1280x2048.Idx :=
  (bM.slice (Rect.unit (s := S1280x2048) ![128, 0] S128x2048.size inb_S1280x2048_S128x2048_128_0) (fun _ => rfl)).view.set
/-- The own rows that go to the right neighbour. -/
abbrev hiS : Finset S1280x2048.Idx :=
  (bM.slice (Rect.unit (s := S1280x2048) ![1024, 0] S128x2048.size inb_S1280x2048_S128x2048_1024_0) (fun _ => rfl)).view.set

/-- Slot `j` lies in the receive buffer. -/
theorem inbSlot (j : Fin 3) : ∀ a, (![j.val, 0, 0] : Fin 3 → Nat) a + S1x32x1152.size a ≤ S3x32x1152.size a := by
  revert j; decide
/-- Slot `j` of the receive buffer. -/
abbrev slotS (j : Fin 3) : Finset S3x32x1152.Idx :=
  ((rM.slice (Rect.unit (s := S3x32x1152) ![j.val, 0, 0] S1x32x1152.size (inbSlot j)) (fun _ => rfl)).squeeze S32x1152 squeezes_S1x32x1152_S32x1152).view.set

variable (A : Ins F)

/-- Device `c` holds part `S` of its band by share `q`, with contents `f`. -/
def bandPt (c : Dev nD) (S : Finset S1280x2048.Idx) (q : PosShare TreeShare) (f : Vec F S1280x2048 .bf16) : sProp 𝕄 :=
  bM.view.loc (c : Thread nD τ) ↦[S]{q} f
/-- Device `c` holds its global rows by share `q`, with contents `f`. -/
def gPt (c : Dev nD) (q : PosShare TreeShare) (f : Vec F S32x3072 .bf16) : sProp 𝕄 :=
  gM.view.loc (c : Thread nD τ) ↦[gM.view.set]{q} f
/-- Device `c` holds its partial sums, with contents `f`. -/
def pPt (c : Dev nD) (f : Vec F S32x1152 .f32) : sProp 𝕄 :=
  pM.view.loc (c : Thread nD τ) ↦[pM.view.set]{fullShare} f
/-- Device `c` holds slot `j` of its receive buffer, with contents `f`. -/
def rPt (c : Dev nD) (j : Fin 3) (f : Vec F S3x32x1152 .f32) : sProp 𝕄 :=
  rM.view.loc (c : Thread nD τ) ↦[slotS j]{fullShare} f

/-- The unfilled landing places. -/
def top (c : Dev nD) : sProp 𝕄 := iprop(∃ f, bandPt (F := F) c topS fullShare f)
/-- The right halo, unfilled. -/
def bot (c : Dev nD) : sProp 𝕄 := iprop(∃ f, bandPt (F := F) c botS fullShare f)
/-- The buffer of global rows, unfilled. -/
def gb (c : Dev nD) : sProp 𝕄 := iprop(∃ f, gPt (F := F) c fullShare f)
/-- Slot `j` on device 0, unfilled. -/
def slot (j : Fin 3) : sProp 𝕄 := iprop(∃ f, rPt (F := F) 0 j f)

/-- Slot `j` filled: it holds device `j + 1`'s partial sums in the columns that are read. -/
def slotGot (j : Fin 3) : sProp 𝕄 :=
  iprop(∃ f : Vec F S3x32x1152 .f32, ⌜∀ i ∈ slotS j, (i 2).val < 1032 → f i = pvC A i⌝ ∗ rPt 0 j f)

/-- The shares of the global rows lent to the three transfers. -/
def gsh : Fin 3 → PosShare TreeShare := fun
  | 0 => fullShare.right.left
  | 1 => fullShare.right.right.left
  | 2 => fullShare.right.right.right

/-- What device `d`'s signal hands device `c`: the landing places of `d` that `c` writes. -/
def barPay (c d : Dev nD) : sProp 𝕄 :=
  match c, d with
  | 0, 1 => iprop(top (F := F) 1 ∗ gb (F := F) 1)
  | 0, 2 => gb (F := F) 2
  | 0, 3 => gb (F := F) 3
  | 1, 0 => iprop(bot (F := F) 0 ∗ slot (F := F) 0)
  | 1, 2 => top (F := F) 2
  | 2, 0 => slot (F := F) 1
  | 2, 1 => bot (F := F) 1
  | 2, 3 => top (F := F) 3
  | 3, 0 => slot (F := F) 2
  | 3, 2 => bot (F := F) 2
  | _, _ => iprop(emp)

/-- The payload of semaphore `k` on device `c`, paid by `d`. -/
def pay (c : Dev nD) (k : Fin 13) (d : Dev nD) : sProp 𝕄 :=
  match k with
  | 0 => barPay (F := F) c d
  | 1 => bandPt c loS fullShare.right (bandC A c)
  | 2 => bandPt c hiS fullShare.right (bandC A c)
  | 3 => iprop(∃ f, pPt (F := F) c f)
  | 4 => gPt c (gsh 0) (gC A)
  | 5 => gPt c (gsh 1) (gC A)
  | 6 => gPt c (gsh 2) (gC A)
  | 7 => bandPt c topS fullShare (bandC A c)
  | 8 => bandPt c botS fullShare (bandC A c)
  | 9 => gPt c fullShare (gC A)
  | 10 => slotGot A 0
  | 11 => slotGot A 1
  | 12 => slotGot A 2

omit [FloatOps F] in
instance bandPt_storable (c S q) (f : Vec F S1280x2048 .bf16) : BI.Storable (upEmb : UEmb _ 𝕄) (bandPt (F := F) c S q f) := by
  unfold bandPt; infer_instance
omit [FloatOps F] in
instance gPt_storable (c q) (f : Vec F S32x3072 .bf16) : BI.Storable (upEmb : UEmb _ 𝕄) (gPt (F := F) c q f) := by unfold gPt; infer_instance
omit [FloatOps F] in
instance pPt_storable (c) (f : Vec F S32x1152 .f32) : BI.Storable (upEmb : UEmb _ 𝕄) (pPt (F := F) c f) := by unfold pPt; infer_instance
omit [FloatOps F] in
instance rPt_storable (c j) (f : Vec F S3x32x1152 .f32) : BI.Storable (upEmb : UEmb _ 𝕄) (rPt (F := F) c j f) := by unfold rPt; infer_instance

instance barPay_storable (c d : Dev nD) : BI.Storable (upEmb : UEmb _ 𝕄) (barPay (F := F) c d) := by
  unfold barPay top bot gb slot
  split <;> infer_instance

instance pay_storable (c : Dev nD) (k : Fin 13) (d : Dev nD) : BI.Storable (upEmb : UEmb _ 𝕄) (pay A c k d) := by
  unfold pay slotGot
  split <;> infer_instance

/-! ## The schedule -/

/-- One round for each cell: its payers, the amount of each, and what each hands over. -/
def Rd : Rounds.Schedule (GSem nD τ sig) (Dev nD) 𝕄 where
  duties g r := if r = 0 then (cidx g).elim ∅ dutF else ∅
  unitless _ := False
  amount g _ _ := (cidx g).elim 1 fun ck => amt ck.2
  payload g _ d := (cidx g).elim iprop(emp) fun ck => pay A ck.1 ck.2 d
  amount_pos g _ _ _ := by
    rcases h : cidx g with _ | ck
    · exact Nat.one_pos
    · exact amt_pos ck.2

instance Rd_payload_storable (g : GSem nD τ sig) (r : ℕ) (d : Dev nD) :
    BI.Storable (upEmb : UEmb _ 𝕄) ((Rd (F := F) A).payload g r d) := by
  show BI.Storable upEmb ((cidx g).elim iprop(emp) fun ck => pay A ck.1 ck.2 d)
  rcases cidx g with _ | ck
  · show BI.Storable upEmb (iprop(emp) : sProp 𝕄); infer_instance
  · exact pay_storable A ck.1 ck.2 d

/-- The payers of a cell in its round. -/
theorem Rd_duties (ck : Dev nD × Fin 13) : (Rd A).duties (kcell ck) 0 = dutF ck := by
  show (if 0 = 0 then (cidx (kcell ck)).elim ∅ dutF else ∅) = _
  rw [if_pos rfl, cidx_kcell]; rfl
/-- There is no later round. -/
theorem Rd_later (g : GSem nD τ sig) (r : ℕ) (h : 1 ≤ r) : (Rd A).duties g r = ∅ := by
  show (if r = 0 then (cidx g).elim ∅ dutF else ∅) = _
  rw [if_neg (by omega)]
/-- The amount of a payment. -/
theorem Rd_amount (ck : Dev nD × Fin 13) (d : Dev nD) : (Rd A).amount (kcell ck) 0 d = amt ck.2 := by
  show (cidx (kcell ck)).elim 1 (fun ck => amt ck.2) = _
  rw [cidx_kcell]; rfl
/-- What a payment hands over. -/
theorem Rd_payload (ck : Dev nD × Fin 13) (d : Dev nD) : (Rd A).payload (kcell ck) 0 d = pay A ck.1 ck.2 d := by
  show (cidx (kcell ck)).elim iprop(emp) (fun ck => pay A ck.1 ck.2 d) = _
  rw [cidx_kcell]; rfl
/-- What a cell receives in its round. -/
theorem Rd_expect (ck : Dev nD × Fin 13) : (Rd A).expect (kcell ck) 0 = expN ck := by
  unfold Schedule.expect Schedule.amountOf expN
  rw [Rd_duties, Finset.sum_congr rfl fun d _ => Rd_amount A ck d, Finset.sum_const, smul_eq_mul]

/-! ## What is owed -/

/-- The cells of other devices that device `c` pays, other than those in `X` it has paid already. -/
def dues (X : Finset (Fin 13)) (c : Dev nD) : Finset (Dev nD × Fin 13) :=
  Finset.univ.filter fun ck => pays ck.1 ck.2 c = true ∧ ¬ (1 ≤ ck.2.val ∧ ck.2.val ≤ 6) ∧ ck.2 ∉ X

/-- What is owed to the cells of `S` together. -/
def Osum (S : Finset (Dev nD × Fin 13)) : CellTallies nD τ sig Unit := ∑ ck ∈ S, tallyAt (kcell ck) () (amt ck.2)

/-- One payment taken out of what is owed. -/
theorem Osum_erase {S : Finset (Dev nD × Fin 13)} {ck : Dev nD × Fin 13} (h : ck ∈ S) :
    Osum S = Osum (S.erase ck) + tallyAt (kcell ck) () (amt ck.2) := (Finset.sum_erase_add _ _ h).symm
/-- Nothing owed to no cell. -/
theorem Osum_empty : Osum ∅ = 0 := rfl

/-- The barrier below the receives of halos and global rows, those below the receives of partial sums. -/
def lvF : Fin 13 → ℕ := fun
  | 0 => 1 | 7 => 2 | 8 => 2 | 9 => 2 | 10 => 3 | 11 => 3 | 12 => 3
  | _ => 0

/-- The levels are kept for the semaphores of the tensor cores. -/
def L (g : GSem nD τ sig) : Finset Unit := if g.1.2 = .tc then {()} else ∅
/-- The level of a cell: its table's, or the bottom. -/
def lv (g : GSem nD τ sig) (_ : Unit) : ℕ := (cidx g).elim 0 fun ck => lvF ck.2

/-- No level elsewhere. -/
theorem L_of_ne (g : GSem nD τ sig) (h : g.1.2 ≠ .tc) : L g = ∅ := if_neg h
/-- One level on a tensor core. -/
theorem L_tc (c : Dev nD) (sm : SemLoc sig) : L ((c : Thread nD τ), sm) = {()} := if_pos rfl
/-- A cell of the exchange has its table's level. -/
theorem lv_kcell (ck : Dev nD × Fin 13) (u : Unit) : lv (kcell ck) u = lvF ck.2 := by unfold lv; rw [cidx_kcell]; rfl

/-- Only cells of `S` are owed anything. -/
theorem Osum_pos {S : Finset (Dev nD × Fin 13)} {g : GSem nD τ sig} {u : Unit} (h : 0 < Osum S g u) : ∃ ck ∈ S, g = kcell ck := by
  unfold Osum at h
  rw [Finset.sum_apply, Finsupp.finset_sum_apply] at h
  obtain ⟨ck, hck, hp⟩ := Finset.exists_ne_zero_of_sum_ne_zero (Nat.pos_iff_ne_zero.mp h)
  refine ⟨ck, hck, ?_⟩
  by_contra hn
  rw [tallyAt_apply, if_neg fun h' => hn h'.1] at hp
  exact hp rfl

omit [FloatOps F] in
/-- A wait on `sm` is allowed while every cell owed lies above it. -/
theorem mayWait (c : Dev nD) (sm : SemLoc sig) (n : ℕ) (S : Finset (Dev nD × Fin 13)) (hsm : lv ((c : Thread nD τ), sm) () ≤ n)
    (hS : ∀ ck ∈ S, n < lvF ck.2) : (levAts L lv : sProp 𝕄) ⊢ MayWait (c : Thread nD τ) sm () (Osum S) :=
  MayOwe.of_cut (L := L) (lev := lv) n (fun p hp => by rw [Finset.mem_singleton.mp hp, L_tc]; exact Finset.mem_singleton_self _)
    (fun g u hg => by obtain ⟨ck, -, rfl⟩ := Osum_pos hg; exact Finset.mem_singleton_self _)
    (fun p hp => by rw [Finset.mem_singleton.mp hp]; exact hsm)
    (fun g u hg => by obtain ⟨ck, hck, rfl⟩ := Osum_pos hg; rw [lv_kcell]; exact hS ck hck)

/-- A semaphore outside the exchange is at the bottom. -/
theorem lv_out (c : Dev nD) (sm : SemLoc sig) (h : ∀ k, csem k ≠ sm) : lv ((c : Thread nD τ), sm) () = 0 := by
  unfold lv
  rcases h' : cidx ((c : Thread nD τ), sm) with _ | ck
  · rfl
  · exact absurd (congrArg Prod.snd (cidx_some h')).symm (h ck.2)

end Cert.KProof

end
-- ==== Proof.Rules.lean ====
/-
One rule per kind of step of the exchange: a barrier signal, a wait, a transfer, each at a cell of the table; how the
kernel's parts are put in sequence; and how a cell is closed at the end.
-/
module

public import proofs.«01_k».proof.Proof.Protocol

@[expose] public section

noncomputable section

namespace Cert.KProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The kernel has no variants. -/
abbrev 𝒱₀ : Variants := Variants.none

/-- The weakest precondition of a piece of the kernel on device `c`. -/
abbrev WP (c : Dev nD) {α : Type} (e : Prog (TpuEff nD τ sig (Elt F) Λ₀ .tc) α) (Q : α → sProp 𝕄) : sProp 𝕄 :=
  wp frame (wpE (defs₀ (F := F)) 𝒱₀ (c : Thread nD τ) none) Set.univ e Q

variable (A : Ins F) (K : Dev nD × Fin 13 → ℕ)

/-! ## What every device knows, and what each holds -/

/-- Every cell's invariant, that every cell has reached its round, and the levels. -/
def recs : sProp 𝕄 :=
  iprop((bigSep Finset.univ fun ck : Dev nD × Fin 13 => cellInv ER (Rd A) (K ck) (kcell ck))
    ∗ (bigSep Finset.univ fun ck : Dev nD × Fin 13 => reached ER (kcell ck) 0) ∗ levAts L lv)

instance recs_persistent : BI.Persistent (recs A K) := by unfold recs; infer_instance

omit [FloatOps F] in
/-- One summand of a separating product that may be dropped. -/
theorem bigSep_at {I : Type} [DecidableEq I] [Fintype I] (Φ : I → sProp 𝕄) (i : I) : bigSep Finset.univ Φ ⊢ Φ i := bigSep_elim (Finset.mem_univ i)

/-- A cell's invariant is known. -/
theorem recs_inv (ck : Dev nD × Fin 13) : recs A K ⊢ cellInv ER (Rd A) (K ck) (kcell ck) := by
  unfold recs
  iintro ⟨#H, -, -⟩
  iapply (bigSep_at (fun ck : Dev nD × Fin 13 => cellInv ER (Rd A) (K ck) (kcell ck)) ck); iexact H
/-- That a cell is in its round is known. -/
theorem recs_reached (ck : Dev nD × Fin 13) : recs A K ⊢ reached ER (kcell ck) 0 := by
  unfold recs
  iintro ⟨-, #H, -⟩
  iapply (bigSep_at (fun ck : Dev nD × Fin 13 => (reached ER (kcell ck) 0 : sProp 𝕄)) ck); iexact H
/-- The levels are known. -/
theorem recs_lev : recs A K ⊢ levAts L lv := by
  unfold recs
  iintro ⟨-, -, #H⟩
  iexact H

/-- Device `c` still owes the cells of `S`. -/
def ow (c : Dev nD) (S : Finset (Dev nD × Fin 13)) : sProp 𝕄 := iprop(∃ W, owes (c : Thread nD τ) (Osum S) W)

/-- The right to pay duty `d` of cell `ck`. -/
def tok (ck : Dev nD × Fin 13) (d : Dev nD) : sProp 𝕄 := dutyTok ER (kcell ck) 0 d
/-- The position of device `c` at its semaphore `k`, nothing taken yet. -/
def pos (c : Dev nD) (k : Fin 13) : sProp 𝕄 := atPos ER (kcell (c, k)) 0 ∅ 0
/-- The position once nothing more is due there. -/
def done (c : Dev nD) (k : Fin 13) : sProp 𝕄 := iprop(∃ R, ⌜∀ r, R ≤ r → (Rd A).duties (kcell (c, k)) r = ∅⌝ ∗ atPos ER (kcell (c, k)) R ∅ 0)
/-- The credit for everything semaphore `k` of device `c` receives. -/
def crd (c : Dev nD) (k : Fin 13) : sProp 𝕄 := cred (tallyAt (kcell (c, k)) () (expN (c, k)))

/-- At a semaphore that nobody pays nothing is ever due. -/
theorem done_unused (c : Dev nD) (k : Fin 13) (h : dutF (c, k) = ∅) : pos (F := F) c k ⊢ done A c k := by
  unfold pos done
  iintro H
  iexists 0
  isplitr
  · ipureintro
    intro r _
    rcases Nat.eq_zero_or_pos r with rfl | hr
    · rw [Rd_duties, h]
    · exact Rd_later A _ r hr
  iexact H

/-- A finished cell gives its counter back at zero. -/
theorem done_close (c : Dev nD) (k : Fin 13) : iprop(recs A K ∗ done A c k) ⊢ |={Set.univ}=> semVal (kcell (c, k)) 0 := by
  unfold done
  iintro ⟨#H, ⟨%R, %hR, Hat⟩⟩
  iapply (Rounds.cell_close ER (Rd A) (Set.mem_univ (K (c, k))) (fun h => h) hR)
  isplitr
  · iapply (recs_inv A K (c, k)); iexact H
  iexact Hat

/-! ## The steps -/

/-- A signal to device `n`'s barrier pays this device's duty there, and hands over the landing places that go with it. -/
theorem wp_sig (c n n' : Dev nD) (hn : n' = n) (S : Finset (Dev nD × Fin 13)) (hS : (n, 0) ∈ S) (hd : c ∈ dutF (n, 0)) {k' : ℕ} (hk : 1 = k')
    {α : Type} {Q : α → sProp 𝕄} {k : PUnit → Prog (TpuEff nD τ sig (Elt F) Λ₀ .tc) α} :
    iprop(recs A K ∗ ow c S ∗ tok (n, 0) c ∗ barPay n c)
      ⊢ iprop((ow c (S.erase (n, 0)) -∗ WP c (k ⟨⟩) Q) -∗ WP c (.op (.semSignal (n' : Thread nD τ) barS k') k) Q) := by
  subst hn hk
  unfold ow tok
  iintro ⟨#H, ⟨%W, HO⟩, Ht, Hp⟩ Hk
  iapply (Rounds.wp_signal 𝒱₀ ER (Rd A) (c : Thread nD τ) none (dst := (n' : Thread nD τ)) (κ := K (n', 0)) (d := c)
    (by rw [show ((n' : Thread nD τ), SemLoc.reg barS) = kcell (n', 0) from rfl, Rd_duties]; exact hd)
    (Rd_amount A (n', 0) c) () (O₀ := Osum S) (Osum (S.erase (n', 0))) (Osum_erase hS)) $$ [HO Ht Hp]
  · isplitr; · iapply (recs_inv A K (n', 0)); iexact H
    isplitl [HO]; · iexact HO
    isplitl [Ht]; · iexact Ht
    isplitl [Hp]
    · rw [show ((n' : Thread nD τ), SemLoc.reg barS) = kcell (n', 0) from rfl, Rd_payload, show pay A (n', 0).1 (n', 0).2 c = barPay n' c from rfl]; iexact Hp
    iapply (recs_reached A K (n', 0)); iexact H
  iintro HO
  iapply Hk
  iexists W; iexact HO

/-- A wait for all that cell `(c, k)` receives. -/
theorem wp_wait (c : Dev nD) (k : Fin 13) (S : Finset (Dev nD × Fin 13)) (hS : ∀ ck ∈ S, lvF k < lvF ck.2)
    {w : TpuEff nD τ sig (Elt F) Λ₀ .tc PUnit} {k' : ℕ} (hk : k' = expN (c, k))
    (hw : ∀ X : PUnit → sProp 𝕄, wpE (defs₀ (F := F)) 𝒱₀ (c : Thread nD τ) none Set.univ w X = waitSpec (c : Thread nD τ) Set.univ (csem k) k' X)
    {α : Type} {Q : α → sProp 𝕄} {kk : PUnit → Prog (TpuEff nD τ sig (Elt F) Λ₀ .tc) α} :
    iprop(recs A K ∗ ow c S ∗ crd c k ∗ pos c k)
      ⊢ iprop(((ow c S ∗ done A c k ∗ bigSep (dutF (c, k)) fun d => pay A c k d) -∗ WP c (kk ⟨⟩) Q) -∗ WP c (.op w kk) Q) := by
  unfold ow pos crd done
  subst hk
  iintro ⟨#H, ⟨%W, HO⟩, Hc, Hp⟩ Hk
  iapply (Rounds.wp_wait_rest_token 𝒱₀ ER (Rd A) (c : Thread nD τ) none (κ := K (c, k)) (sm := csem k) hw (Set.mem_univ _) () (O := Osum S)
      (W := W) (R := 0) (m := 0) (T := ∅) (by rw [Nat.zero_add]; exact (Rd_expect A (c, k)).symm)) $$ [HO Hc Hp]
  · isplitr; · iapply (recs_inv A K (c, k)); iexact H
    isplitl [Hc]; · iexact Hc
    isplitl [HO]; · iexact HO
    isplitr
    · iapply (mayWait (F := F) c (csem k) (lvF k) S (le_of_eq (lv_kcell (c, k) ())) hS)
      iapply (recs_lev A K); iexact H
    iexact Hp
  iintro ⟨HO, Hat, -, Hpay⟩
  iapply Hk
  isplitl [HO]; · iexists _; iexact HO
  isplitl [Hat]
  · iexists (0 + 1)
    isplitr
    · ipureintro; exact fun r hr => Rd_later A _ r hr
    iexact Hat
  ihave Hp := (Entails.of_eq (show (bigSep ((Rd A).duties ((c : Thread nD τ), csem k) 0 \ ∅) fun d => (Rd A).payload ((c : Thread nD τ), csem k) 0 d)
      = bigSep (dutF (c, k)) fun d => pay A c k d by
    rw [Finset.sdiff_empty, show ((c : Thread nD τ), csem k) = kcell (c, k) from rfl, Rd_duties]
    exact bigSep_congr fun d _ => Rd_payload A (c, k) d)) $$ Hpay
  iexact Hp

/-- A transfer from device `c` to device `n`, paying `c`'s send cell `k₁` with the source and `n`'s receive cell `k₂`
    with what lands. -/
theorem wp_send (c n n' : Dev nD) (hn : n' = n) (k₁ k₂ : Fin 13) (S : Finset (Dev nD × Fin 13)) (hS : (n, k₂) ∈ S)
    (hd₁ : c ∈ dutF (c, k₁)) (hd₂ : c ∈ dutF (n, k₂)) {s : Shape} {e : EltTy}
    {src : Memref sig .tc .vmem s e} {dst : Memref sig .tc .vmem s e}
    {sS sem : SemLoc sig} (hsS : csem k₁ = sS) (hsem' : csem k₂ = sem)
    {hsc : dst.view.ref.isScScratch = false}
    {hsrc : src.view.WordExact} {hdst : dst.view.WordExact}
    {hsem : DmaTarget.Typed .vmem sem (.remote (Dev.tc n' : Thread nD τ) dst sS hsc)}
    {q : PosShare TreeShare} {fs : Buf (Elt F) (src.view.loc (c : Thread nD τ))} {fd : Buf (Elt F) (dst.view.loc (n : Thread nD τ))}
    (hN : dst.view.amount sem = amt k₂) (hN' : amt k₁ = amt k₂)
    (hpay₁ : (src.view.loc (c : Thread nD τ) ↦[src.view.set]{q} fs : sProp 𝕄) ⊢ pay A c k₁ c)
    (hpay₂ : (dst.view.loc (n : Thread nD τ) ↦[dst.view.set]{fullShare} (dst.view.write (Elt F) fd (src.view.read (Elt F) fs) Finset.univ) : sProp 𝕄) ⊢ pay A n k₂ c)
    {α : Type} {Q : α → sProp 𝕄} {kk : PUnit → Prog (TpuEff nD τ sig (Elt F) Λ₀ .tc) α}
    (hr : τ.routes (c : Thread nD τ) (n : Thread nD τ) = true := by routes) :
    iprop(recs A K ∗ ow c S ∗ tok (c, k₁) c ∗ tok (n, k₂) c ∗ (src.view.loc (c : Thread nD τ) ↦[src.view.set]{q} fs)
        ∗ (dst.view.loc (n : Thread nD τ) ↦[dst.view.set]{fullShare} fd))
      ⊢ iprop(((ow c (S.erase (n, k₂)) ∗ cred (tallyAt (kcell (c, k₁)) () (amt k₁))) -∗ WP c (kk ⟨⟩) Q)
          -∗ WP c (.op (.enqueueDma src (.remote (Dev.tc n' : Thread nD τ) dst sS hsc) sem hsrc hdst hsem) kk) Q) := by
  subst hn hsS hsem'
  unfold ow tok
  iintro ⟨#H, ⟨%W, HO⟩, Ht1, Ht2, Hs, Hd⟩ Hk
  iapply (Rounds.wp_send_pointsTo 𝒱₀ ER (Rd A) (c : Thread nD τ) none (c' := (n' : Thread nD τ)) (κ₁ := K (c, k₁)) (κ₂ := K (n', k₂))
    (sS := csem k₁) (sem := csem k₂) (r₁ := 0) (r₂ := 0) (d₁ := c) (d₂ := c) (fd := fd) (fs := fs) (q := q)
    (by rw [show ((c : Thread nD τ), csem k₁) = kcell (c, k₁) from rfl, Rd_duties]; exact hd₁)
    (by rw [show ((n' : Thread nD τ), csem k₂) = kcell (n', k₂) from rfl, Rd_duties]; exact hd₂)
    () () (amt k₂) hN ((Rd_amount A (c, k₁) c).trans hN') (Rd_amount A (n', k₂) c) (Osum (S.erase (n', k₂))) (Osum_erase hS) (W := W)
    (by rw [show ((c : Thread nD τ), csem k₁) = kcell (c, k₁) from rfl, Rd_payload]; exact hpay₁)
    (by rw [show ((n' : Thread nD τ), csem k₂) = kcell (n', k₂) from rfl, Rd_payload]; exact hpay₂) (hr := hr)) $$ [HO Ht1 Ht2 Hs Hd]
  · isplitr; · iapply (recs_inv A K (c, k₁)); iexact H
    isplitr; · iapply (recs_inv A K (n', k₂)); iexact H
    isplitl [Hs]; · iexact Hs
    isplitl [Hd]; · iexact Hd
    isplitl [HO]; · iexact HO
    isplitl [Ht1]; · iexact Ht1
    isplitr; · iapply (recs_reached A K (c, k₁)); iexact H
    isplitl [Ht2]; · iexact Ht2
    iapply (recs_reached A K (n', k₂)); iexact H
  rw [← hN']
  iintro ⟨Hc, HO⟩
  iapply Hk
  isplitl [HO]; · iexists W; iexact HO
  iexact Hc

/-! ## Putting pieces in sequence -/

/-- A piece of the program, run with what it needs while the rest is set aside. -/
theorem seg (c : Dev nD) {α β : Type} (P P' R : sProp 𝕄) {PRE : sProp 𝕄} (a : α) {e : Prog (TpuEff nD τ sig (Elt F) Λ₀ .tc) α}
    {k : α → Prog (TpuEff nD τ sig (Elt F) Λ₀ .tc) β} {Q : β → sProp 𝕄} (hsplit : PRE ⊢ iprop(P ∗ R))
    (he : ∀ Kt : α → sProp 𝕄, iprop(P ∗ (P' -∗ Kt a)) ⊢ WP c e Kt) (hk : iprop(P' ∗ R) ⊢ WP c (k a) Q) : PRE ⊢ WP c (e >>= k) Q := by
  refine hsplit.trans ?_
  unfold WP
  rw [wp_bind]
  refine (sep_mono_right ?_).trans (he fun a => wp frame (wpE (defs₀ (F := F)) 𝒱₀ (c : Thread nD τ) none) Set.univ (k a) Q)
  iintro HR HP
  iapply hk
  isplitl [HP] <;> iassumption

/-- A conditional block before the rest `k` of the program: both ways lead to `P'` and `k`. -/
theorem seg_if (c : Dev nD) {β : Type} (P' R : sProp 𝕄) {PRE : sProp 𝕄} {p : Prop} [Decidable p] {e : p → Prog (TpuEff nD τ sig (Elt F) Λ₀ .tc) β}
    {k : Prog (TpuEff nD τ sig (Elt F) Λ₀ .tc) β} {Q : β → sProp 𝕄} (h2 : ¬ p → PRE ⊢ iprop(P' ∗ R))
    (h1 : (iprop(P' ∗ R) ⊢ WP c k Q) → ∀ h : p, PRE ⊢ WP c (e h) Q) (hk : iprop(P' ∗ R) ⊢ WP c k Q) :
    PRE ⊢ WP c (dite p e fun _ => k) Q := by
  by_cases h : p
  · rw [dif_pos h]; exact h1 hk h
  · rw [dif_neg h]; exact (h2 h).trans hk

/-- The same with the rest of the context left alone: the block turns `P` into `P'` if it runs, and `P` is `P'` if it
    does not. -/
theorem wp_if (c : Dev nD) {β : Type} (P P' : sProp 𝕄) {p : Prop} [Decidable p] {e : p → Prog (TpuEff nD τ sig (Elt F) Λ₀ .tc) β}
    {k : Prog (TpuEff nD τ sig (Elt F) Λ₀ .tc) β} {Q : β → sProp 𝕄} (h2 : ¬ p → P ⊢ P')
    (h1 : ∀ h : p, iprop(P ∗ (P' -∗ WP c k Q)) ⊢ WP c (e h) Q) : P ⊢ iprop((P' -∗ WP c k Q) -∗ WP c (dite p e fun _ => k) Q) := by
  by_cases h : p
  · rw [dif_pos h]
    iintro HP Hk
    iapply (h1 h)
    isplitl [HP] <;> iassumption
  · rw [dif_neg h]
    iintro HP Hk
    iapply Hk
    iapply (h2 h)
    iexact HP

/-- Reading the device's own number. -/
theorem wp_dev (c : Dev nD) {α : Type} {Q : α → sProp 𝕄} {k : Dev nD → Prog (TpuEff nD τ sig (Elt F) Λ₀ .tc) α} :
    WP c (k c) Q ⊢ WP c (.op .deviceId k) Q := Entails.of_eq (wp_deviceId ..).symm

/-- A piece that does nothing, as the last of a sequence. -/
theorem wp_done (c : Dev nD) {α : Type} {P : sProp 𝕄} (a : α) (Kt : α → sProp 𝕄) : iprop(P ∗ (P -∗ Kt a)) ⊢ WP c (.ret a) Kt := by
  unfold WP
  rw [wp_ret]
  iintro ⟨H, Hk⟩
  imodintro
  iapply Hk
  iexact H

end Cert.KProof

end
-- ==== Proof.Memory.lean ====
/-
Reading and writing rectangles of the kernel's buffers, the regions of the band and of the receive buffer, and what
each store and each landing leaves in them.
-/
module

public import proofs.«01_k».proof.Proof.Rules
public import Idealize.ShloMosaic.Lib.Writes
public import Idealize.ShloMosaic.Lib.ValueLayout

@[expose] public section

noncomputable section

namespace Cert.KProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Rectangles of whole buffers -/

section Rects
variable {Val : EltTy → Type} (b : Ref sig .tc) (off size : Fin b.ty.shape.rank → Nat) (inb : ∀ a, off a + size a ≤ b.ty.shape.size a)
  (f : b.ty.Contents Val)

/-- An element written, at the place of the rectangle it is written from; -/
theorem write_in (w : (Rect.unit off size inb).shape.Idx → Val b.ty.elt) (i : b.ty.shape.Idx) (x : (Rect.unit off size inb).shape.Idx)
    (h : ∀ a, (i a).val = off a + (x a).val) :
    ((View.whole b).slice (Rect.unit off size inb)).write Val f w Finset.univ i = w x := by
  rw [View.write_whole_slice_unit]
  unfold updateSlice
  have hx : ∀ a, (x a).val < size a := fun a => (x a).isLt
  rw [dif_pos fun a => ⟨by rw [h a]; exact Nat.le_add_right _ _, by rw [h a]; exact Nat.add_lt_add_left (hx a) _⟩]
  congr 1
  funext a
  apply Fin.ext
  show (i a).val - off a = (x a).val
  rw [h a]; exact Nat.add_sub_cancel_left ..

/-- an element outside it keeps its value; -/
theorem write_out (w : (Rect.unit off size inb).shape.Idx → Val b.ty.elt) (i : b.ty.shape.Idx)
    (h : ∃ a, (i a).val < off a ∨ off a + size a ≤ (i a).val) :
    ((View.whole b).slice (Rect.unit off size inb)).write Val f w Finset.univ i = f i := by
  rw [View.write_whole_slice_unit]
  unfold updateSlice
  obtain ⟨a, ha⟩ := h
  rw [dif_neg fun hn => by have := hn a; have := this.2; rcases ha with h | h
                           · exact absurd (hn a).1 (by omega)
                           · exact absurd (hn a).2 (Nat.not_lt.mpr h)]

/-- and an element read. -/
theorem read_in (x : (Rect.unit off size inb).shape.Idx) (i : b.ty.shape.Idx) (h : ∀ a, (i a).val = off a + (x a).val) :
    (View.whole b).readAt Val (Rect.unit off size inb).toLoadRect f x = f i := by
  rw [View.readAt_apply, View.read_whole]
  congr 1
  funext a
  apply Fin.ext
  rw [h a]
  show off a + 1 * (x a).val = _
  rw [Nat.one_mul]

end Rects

/-- What holds of both axes holds of every axis. -/
theorem forall_fin2 {p : Fin 2 → Prop} (h0 : p 0) (h1 : p 1) : ∀ a, p a := fun a => by fin_cases a <;> assumption
/-- What holds of the three axes holds of every axis. -/
theorem forall_fin3 {p : Fin 3 → Prop} (h0 : p 0) (h1 : p 1) (h2 : p 2) : ∀ a, p a := fun a => by fin_cases a <;> assumption

/-! ## The regions -/

/-- The left halo is the rows below 128. -/
theorem mem_topS (i : S1280x2048.Idx) : i ∈ topS ↔ (i 0).val < 128 := by
  unfold topS
  rw [show (bM.slice (Rect.unit (s := S1280x2048) ![0, 0] S128x2048.size inb_S1280x2048_S128x2048_0_0) (fun _ => rfl)).view.set
    = (Rect.unit (s := S1280x2048) ![0, 0] S128x2048.size inb_S1280x2048_S128x2048_0_0).set from View.set_slice_whole _ _, Rect.mem_set_unit]
  have := idx2_lt1 i
  exact ⟨fun h => by have := (h 0).2; simpa using this, fun h => forall_fin2 ⟨Nat.zero_le _, by simpa using h⟩ ⟨Nat.zero_le _, by simpa using this⟩⟩

/-- The right halo is the rows from 1152 on. -/
theorem mem_botS (i : S1280x2048.Idx) : i ∈ botS ↔ 1152 ≤ (i 0).val := by
  unfold botS
  rw [show (bM.slice (Rect.unit (s := S1280x2048) ![1152, 0] S128x2048.size inb_S1280x2048_S128x2048_1152_0) (fun _ => rfl)).view.set
    = (Rect.unit (s := S1280x2048) ![1152, 0] S128x2048.size inb_S1280x2048_S128x2048_1152_0).set from View.set_slice_whole _ _, Rect.mem_set_unit]
  have h1 := idx2_lt1 i
  have h0 := idx2_lt0 i
  exact ⟨fun h => by have := (h 0).1; simpa using this, fun h => forall_fin2 ⟨by simpa using h, by simpa using h0⟩ ⟨Nat.zero_le _, by simpa using h1⟩⟩

/-- The rows sent to the left neighbour are 128 to 255. -/
theorem mem_loS (i : S1280x2048.Idx) : i ∈ loS ↔ 128 ≤ (i 0).val ∧ (i 0).val < 256 := by
  unfold loS
  rw [show (bM.slice (Rect.unit (s := S1280x2048) ![128, 0] S128x2048.size inb_S1280x2048_S128x2048_128_0) (fun _ => rfl)).view.set
    = (Rect.unit (s := S1280x2048) ![128, 0] S128x2048.size inb_S1280x2048_S128x2048_128_0).set from View.set_slice_whole _ _, Rect.mem_set_unit]
  have h1 := idx2_lt1 i
  exact ⟨fun h => by have := h 0; simpa using this, fun h => forall_fin2 (by simpa using h) ⟨Nat.zero_le _, by simpa using h1⟩⟩

/-- The rows sent to the right neighbour are 1024 to 1151. -/
theorem mem_hiS (i : S1280x2048.Idx) : i ∈ hiS ↔ 1024 ≤ (i 0).val ∧ (i 0).val < 1152 := by
  unfold hiS
  rw [show (bM.slice (Rect.unit (s := S1280x2048) ![1024, 0] S128x2048.size inb_S1280x2048_S128x2048_1024_0) (fun _ => rfl)).view.set
    = (Rect.unit (s := S1280x2048) ![1024, 0] S128x2048.size inb_S1280x2048_S128x2048_1024_0).set from View.set_slice_whole _ _, Rect.mem_set_unit]
  have h1 := idx2_lt1 i
  exact ⟨fun h => by have := h 0; simpa using this, fun h => forall_fin2 (by simpa using h) ⟨Nat.zero_le _, by simpa using h1⟩⟩

/-- The own rows are 128 to 1151. -/
theorem mem_midS (i : S1280x2048.Idx) : i ∈ midS ↔ 128 ≤ (i 0).val ∧ (i 0).val < 1152 := by
  unfold midS; rw [Finset.mem_filter]; exact ⟨fun h => h.2, fun h => ⟨Finset.mem_univ _, h⟩⟩

/-- Slot `j` is the entries whose first coordinate is `j`. -/
theorem mem_slotS (j : Fin 3) (i : S3x32x1152.Idx) : i ∈ slotS j ↔ (i 0).val = j.val := by
  unfold slotS
  rw [show ((rM.slice (Rect.unit (s := S3x32x1152) ![j.val, 0, 0] S1x32x1152.size (inbSlot j)) (fun _ => rfl)).squeeze S32x1152 squeezes_S1x32x1152_S32x1152).view.set
    = (Rect.unit (s := S3x32x1152) ![j.val, 0, 0] S1x32x1152.size (inbSlot j)).set from (View.set_reshape _ _).trans (View.set_slice_whole _ _), Rect.mem_set_unit]
  have h1 : (i 1).val < 32 := (i 1).isLt
  have h2 : (i 2).val < 1152 := (i 2).isLt
  exact ⟨fun h => by have := h 0; simp at this; omega,
    fun h => forall_fin3 (by simp [h]) ⟨Nat.zero_le _, by simpa using h1⟩ ⟨Nat.zero_le _, by simpa using h2⟩⟩

/-! ## Splitting and joining the band -/

section Band
variable (c : Dev nD)

/-- The middle of the device's own rows, which go to no neighbour. -/
def mmS : Finset S1280x2048.Idx := Finset.univ.filter fun i => 256 ≤ (i 0).val ∧ (i 0).val < 1024
/-- The middle rows are 256 to 1023. -/
theorem mem_mmS (i : S1280x2048.Idx) : i ∈ mmS ↔ 256 ≤ (i 0).val ∧ (i 0).val < 1024 := by
  unfold mmS; rw [Finset.mem_filter]; exact ⟨fun h => h.2, fun h => ⟨Finset.mem_univ _, h⟩⟩

/-- Two parts of the band with no common entry are disjoint. -/
theorem band_disj {S T : Finset S1280x2048.Idx} (h : ∀ i ∈ S, i ∉ T) : Disjoint S T := Finset.disjoint_left.mpr h

/-- The own rows are the two that are sent and the middle. -/
theorem mid_split : midS = loS ∪ (mmS ∪ hiS) := by
  ext i
  rw [Finset.mem_union, Finset.mem_union, mem_midS, mem_loS, mem_mmS, mem_hiS]; omega
/-- The band is its left halo, own rows and right halo. -/
theorem all_split : (Finset.univ : Finset S1280x2048.Idx) = topS ∪ (midS ∪ botS) := by
  ext i
  rw [Finset.mem_union, Finset.mem_union, mem_midS, mem_topS, mem_botS]
  exact ⟨fun _ => by omega, fun _ => Finset.mem_univ _⟩

/-- The left halo is apart from the rest. -/
theorem d_top : Disjoint topS (midS ∪ botS) := band_disj fun i h => by
  rw [mem_topS] at h; rw [Finset.mem_union, mem_midS, mem_botS]; omega
/-- The own rows are apart from the right halo. -/
theorem d_mid : Disjoint midS botS := band_disj fun i h => by rw [mem_midS] at h; rw [mem_botS]; omega
/-- The rows sent to the left are apart from the rest of the own rows. -/
theorem d_lo : Disjoint loS (mmS ∪ hiS) := band_disj fun i h => by rw [mem_loS] at h; rw [Finset.mem_union, mem_mmS, mem_hiS]; omega
/-- The middle is apart from the rows sent to the right. -/
theorem d_mm : Disjoint mmS hiS := band_disj fun i h => by rw [mem_mmS] at h; rw [mem_hiS]; omega

omit [FloatOps F] in
/-- The whole band is held exactly as its three parts are. -/
theorem band_all (q : PosShare TreeShare) (f : Vec F S1280x2048 .bf16) :
    bandPt (F := F) c Finset.univ q f ⊣⊢ iprop(bandPt c topS q f ∗ bandPt c midS q f ∗ bandPt c botS q f) := by
  unfold bandPt
  rw [all_split]
  exact (pointsTo_union d_top).trans ⟨sep_mono_right (pointsTo_union d_mid).1, sep_mono_right (pointsTo_union d_mid).2⟩

omit [FloatOps F] in
/-- The own rows are held exactly as their three parts are. -/
theorem band_mid (q : PosShare TreeShare) (f : Vec F S1280x2048 .bf16) :
    bandPt (F := F) c midS q f ⊣⊢ iprop(bandPt c loS q f ∗ bandPt c mmS q f ∗ bandPt c hiS q f) := by
  unfold bandPt
  rw [mid_split]
  exact (pointsTo_union d_lo).trans ⟨sep_mono_right (pointsTo_union d_mm).1, sep_mono_right (pointsTo_union d_mm).2⟩

omit [FloatOps F] in
/-- A part of the band held whole is held in two half shares. -/
theorem band_share (S : Finset S1280x2048.Idx) (f : Vec F S1280x2048 .bf16) :
    bandPt (F := F) c S fullShare f ⊣⊢ iprop(bandPt c S fullShare.left f ∗ bandPt c S fullShare.right f) :=
  pointsTo_share (PosShare.mem_left_op_right _)

omit [FloatOps F] in
/-- The global rows held by a share are held in its two halves. -/
theorem g_share (q : PosShare TreeShare) (f : Vec F S32x3072 .bf16) :
    gPt (F := F) c q f ⊣⊢ iprop(gPt c q.left f ∗ gPt c q.right f) :=
  pointsTo_share (PosShare.mem_left_op_right _)

omit [FloatOps F] in
/-- Only the contents on the part that is held matter. -/
theorem band_congr (S : Finset S1280x2048.Idx) (q : PosShare TreeShare) (f g : Vec F S1280x2048 .bf16) (h : ∀ i ∈ S, f i = g i) :
    bandPt (F := F) c S q f = bandPt c S q g := pointsTo_congr h

end Band

variable (A : Ins F)

/-! ## What the stores leave -/

/-- The left half of the own rows is the keys. -/
theorem own_lo (c : Dev nD) (r : Fin 1024) (q : Fin 2048) (h : q.val < 1024) : own A c r q = kb A c (ix2 r ⟨q.val, h⟩) := by
  unfold own; rw [dif_pos h]
/-- The right half is the values. -/
theorem own_hi (c : Dev nD) (r : Fin 1024) (q : Fin 2048) (h : ¬ q.val < 1024) : own A c r q = vb A c (ix2 r ⟨q.val - 1024, by omega⟩) := by
  unfold own; rw [dif_neg h]

/-- The own rows depend on the row's number alone. -/
theorem own_congr (c : Dev nD) {r r' : Fin 1024} (q : Fin 2048) (h : r.val = r'.val) : own A c r q = own A c r' q := by
  rw [Fin.ext h]

/-- The band's contents in the left halo. -/
theorem bandC_top (c : Dev nD) (i : S1280x2048.Idx) (h : (i 0).val < 128) :
    bandC A c i = if c = 0 then z16 else own A (lc c) ⟨896 + (i 0).val, by omega⟩ (i 1) := by unfold bandC; rw [dif_pos h]
/-- The band's contents in the own rows. -/
theorem bandC_mid (c : Dev nD) (i : S1280x2048.Idx) (h0 : 128 ≤ (i 0).val) (h1 : (i 0).val < 1152) :
    bandC A c i = own A c ⟨(i 0).val - 128, by omega⟩ (i 1) := by unfold bandC; rw [dif_neg (by omega), dif_pos h1]
/-- The band's contents in the right halo. -/
theorem bandC_bot (c : Dev nD) (i : S1280x2048.Idx) (h : 1152 ≤ (i 0).val) :
    bandC A c i = if c = 3 then z16 else own A (rc c) ⟨(i 0).val - 1152, by have := idx2_lt0 i; omega⟩ (i 1) := by
  unfold bandC; rw [dif_neg (by omega), dif_neg (by omega)]

/-- The device's own keys and values, stored side by side. -/
theorem band_stored (c : Dev nD) (f : Vec F S1280x2048 .bf16) (i : S1280x2048.Idx) (hi : i ∈ midS) :
    (bM.access (Rect.unit (s := S1280x2048) ![128, 1024] S1024x1024.size inb_S1280x2048_S1024x1024_128_1024) : View sig .tc _ _ _).write (Elt F)
      ((bM.access (Rect.unit (s := S1280x2048) ![128, 0] S1024x1024.size inb_S1280x2048_S1024x1024_128_0) : View sig .tc _ _ _).write (Elt F) f
        (kb A c) Finset.univ) (vb A c) Finset.univ i = bandC A c i := by
  obtain ⟨h0, h1⟩ := (mem_midS i).mp hi
  have h2 := idx2_lt1 i
  rw [bandC_mid A c i h0 h1]
  by_cases hq : (i 1).val < 1024
  · rw [own_lo A c _ (i 1) hq]
    refine (write_out (Val := Elt F) cc0_scratch0 ![128, 1024] S1024x1024.size inb_S1280x2048_S1024x1024_128_1024 _ (vb A c) i ⟨1, Or.inl hq⟩).trans ?_
    exact write_in (Val := Elt F) cc0_scratch0 ![128, 0] S1024x1024.size inb_S1280x2048_S1024x1024_128_0 f (kb A c) i _
      (forall_fin2 (by show (i 0).val = 128 + ((i 0).val - 128); omega) (by show (i 1).val = 0 + (i 1).val; omega))
  · rw [own_hi A c _ (i 1) hq]
    exact write_in (Val := Elt F) cc0_scratch0 ![128, 1024] S1024x1024.size inb_S1280x2048_S1024x1024_128_1024 _ (vb A c) i (ix2 ⟨(i 0).val - 128, by omega⟩ ⟨(i 1).val - 1024, by omega⟩)
      (forall_fin2 (by show (i 0).val = 128 + ((i 0).val - 128); omega) (by show (i 1).val = 1024 + ((i 1).val - 1024); omega))

/-- The zeros of the outermost halos. -/
theorem top_stored (f : Vec F S1280x2048 .bf16) (i : S1280x2048.Idx) (hi : i ∈ topS) :
    (bM.access (Rect.unit (s := S1280x2048) ![0, 0] S128x2048.size inb_S1280x2048_S128x2048_0_0) : View sig .tc _ _ _).write (Elt F) f
      (k0_pay33 (F := F)) Finset.univ i = bandC A 0 i := by
  have h := (mem_topS i).mp hi
  have h2 := idx2_lt1 i
  rw [bandC_top A 0 i h, if_pos rfl]
  refine (write_in (Val := Elt F) cc0_scratch0 ![0, 0] S128x2048.size inb_S1280x2048_S128x2048_0_0 f (k0_pay33 (F := F)) i (ix2 ⟨(i 0).val, h⟩ (i 1))
    (forall_fin2 (by show (i 0).val = 0 + (i 0).val; omega) (by show (i 1).val = 0 + (i 1).val; omega))).trans ?_
  unfold k0_pay33
  exact congrFun (shapeCast_self _ _) _
/-- Device 3's right halo, once zeros are stored. -/
theorem bot_stored (f : Vec F S1280x2048 .bf16) (i : S1280x2048.Idx) (hi : i ∈ botS) :
    (bM.access (Rect.unit (s := S1280x2048) ![1152, 0] S128x2048.size inb_S1280x2048_S128x2048_1152_0) : View sig .tc _ _ _).write (Elt F) f
      (k0_pay34 (F := F)) Finset.univ i = bandC A 3 i := by
  have h := (mem_botS i).mp hi
  have h2 := idx2_lt1 i
  have h3 := idx2_lt0 i
  rw [bandC_bot A 3 i h, if_pos rfl]
  refine (write_in (Val := Elt F) cc0_scratch0 ![1152, 0] S128x2048.size inb_S1280x2048_S128x2048_1152_0 f (k0_pay34 (F := F)) i (ix2 ⟨(i 0).val - 1152, by omega⟩ (i 1))
    (forall_fin2 (by show (i 0).val = 1152 + ((i 0).val - 1152); omega) (by show (i 1).val = 0 + (i 1).val; omega))).trans ?_
  unfold k0_pay34
  exact congrFun (shapeCast_self _ _) _

/-- Device 0's global rows, copied out of its band and its x. -/
theorem g_stored (f : Vec F S32x3072 .bf16) :
    (gM.access (Rect.unit (s := S32x3072) ![0, 2048] S32x1024.size inb_S32x3072_S32x1024_0_2048) : View sig .tc _ _ _).write (Elt F)
      ((gM.access (Rect.unit (s := S32x3072) ![0, 0] S32x2048.size inb_S32x3072_S32x2048_0_0) : View sig .tc _ _ _).write (Elt F) f
        (k0_pay35 (bM.view.readAt (Elt F) (Rect.unit (s := S1280x2048) ![128, 0] S32x2048.size inb_S1280x2048_S32x2048_128_0).toLoadRect (bandC A 0))) Finset.univ)
      (k0_pay36 (xbM.view.readAt (Elt F) (Rect.unit (s := S1024x1024) ![0, 0] S32x1024.size inb_S1024x1024_S32x1024_0_0).toLoadRect (xb A 0))) Finset.univ
      = gC A := by
  funext i
  have h0 := idx2_lt0 i
  have h1 := idx2_lt1 i
  unfold gC
  by_cases hq : (i 1).val < 2048
  · rw [dif_pos hq]
    refine (write_out (Val := Elt F) cc0_scratch1 ![0, 2048] S32x1024.size inb_S32x3072_S32x1024_0_2048 _ _ i ⟨1, Or.inl hq⟩).trans ?_
    refine (write_in (Val := Elt F) cc0_scratch1 ![0, 0] S32x2048.size inb_S32x3072_S32x2048_0_0 f _ i (ix2 ⟨(i 0).val, h0⟩ ⟨(i 1).val, hq⟩)
      (forall_fin2 (by show (i 0).val = 0 + (i 0).val; omega) (by show (i 1).val = 0 + (i 1).val; omega))).trans ?_
    unfold k0_pay35
    refine (congrFun (shapeCast_self _ _) _).trans ?_
    refine (read_in (Val := Elt F) cc0_scratch0 ![128, 0] S32x2048.size inb_S1280x2048_S32x2048_128_0 (bandC A 0) _
      (ix2 ⟨128 + (i 0).val, by omega⟩ ⟨(i 1).val, hq⟩) (forall_fin2 rfl (by show (i 1).val = 0 + (i 1).val; omega))).trans ?_
    rw [bandC_mid A 0 _ (by show 128 ≤ 128 + (i 0).val; omega) (by show 128 + (i 0).val < 1152; omega)]
    exact own_congr A 0 _ (by show 128 + (i 0).val - 128 = (i 0).val; omega)
  · rw [dif_neg hq]
    refine (write_in (Val := Elt F) cc0_scratch1 ![0, 2048] S32x1024.size inb_S32x3072_S32x1024_0_2048 _ _ i (ix2 ⟨(i 0).val, h0⟩ ⟨(i 1).val - 2048, by omega⟩)
      (forall_fin2 (by show (i 0).val = 0 + (i 0).val; omega) (by show (i 1).val = 2048 + ((i 1).val - 2048); omega))).trans ?_
    unfold k0_pay36
    refine (congrFun (shapeCast_self _ _) _).trans ?_
    exact read_in (Val := Elt F) cc0_scratch2 ![0, 0] S32x1024.size inb_S1024x1024_S32x1024_0_0 (xb A 0) (ix2 ⟨(i 0).val, h0⟩ ⟨(i 1).val - 2048, by omega⟩)
      (ix2 ⟨(i 0).val, by omega⟩ ⟨(i 1).val - 2048, by omega⟩) (forall_fin2 (by show (i 0).val = 0 + (i 0).val; omega) (by show (i 1).val - 2048 = 0 + ((i 1).val - 2048); omega))

/-! ## What the transfers leave -/

/-- The rows a device sends to the left arrive as its left neighbour's right halo; -/
theorem left_landed (c : Dev nD) (hc : c ≠ 0) (fd : Vec F S1280x2048 .bf16) (i : S1280x2048.Idx) (hi : i ∈ botS) :
    (bM.slice (Rect.unit (s := S1280x2048) ![1152, 0] S128x2048.size inb_S1280x2048_S128x2048_1152_0) (fun _ => rfl)).view.write (Elt F) fd
      ((bM.slice (Rect.unit (s := S1280x2048) ![128, 0] S128x2048.size inb_S1280x2048_S128x2048_128_0) (fun _ => rfl)).view.read (Elt F) (bandC A c)) Finset.univ i
      = bandC A (lc c) i := by
  have h := (mem_botS i).mp hi
  have h2 := idx2_lt1 i
  have h3 := idx2_lt0 i
  refine (write_in (Val := Elt F) cc0_scratch0 ![1152, 0] S128x2048.size inb_S1280x2048_S128x2048_1152_0 fd _ i (ix2 ⟨(i 0).val - 1152, by omega⟩ (i 1))
    (forall_fin2 (by show (i 0).val = 1152 + ((i 0).val - 1152); omega) (by show (i 1).val = 0 + (i 1).val; omega))).trans ?_
  refine (read_in (Val := Elt F) cc0_scratch0 ![128, 0] S128x2048.size inb_S1280x2048_S128x2048_128_0 (bandC A c) _
    (ix2 ⟨128 + ((i 0).val - 1152), by omega⟩ (i 1)) (forall_fin2 rfl (by show (i 1).val = 0 + (i 1).val; omega))).trans ?_
  rw [bandC_mid A c _ (by show 128 ≤ 128 + ((i 0).val - 1152); omega) (by show 128 + ((i 0).val - 1152) < 1152; omega), bandC_bot A (lc c) i h,
    if_neg (by revert hc; revert c; decide), show rc (lc c) = c by revert c; decide]
  exact own_congr A c _ (by show 128 + ((i 0).val - 1152) - 128 = (i 0).val - 1152; omega)

/-- those it sends to the right, as its right neighbour's left halo; -/
theorem right_landed (c : Dev nD) (hc : c ≠ 3) (fd : Vec F S1280x2048 .bf16) (i : S1280x2048.Idx) (hi : i ∈ topS) :
    (bM.slice (Rect.unit (s := S1280x2048) ![0, 0] S128x2048.size inb_S1280x2048_S128x2048_0_0) (fun _ => rfl)).view.write (Elt F) fd
      ((bM.slice (Rect.unit (s := S1280x2048) ![1024, 0] S128x2048.size inb_S1280x2048_S128x2048_1024_0) (fun _ => rfl)).view.read (Elt F) (bandC A c)) Finset.univ i
      = bandC A (rc c) i := by
  have h := (mem_topS i).mp hi
  have h2 := idx2_lt1 i
  refine (write_in (Val := Elt F) cc0_scratch0 ![0, 0] S128x2048.size inb_S1280x2048_S128x2048_0_0 fd _ i (ix2 ⟨(i 0).val, h⟩ (i 1))
    (forall_fin2 (by show (i 0).val = 0 + (i 0).val; omega) (by show (i 1).val = 0 + (i 1).val; omega))).trans ?_
  refine (read_in (Val := Elt F) cc0_scratch0 ![1024, 0] S128x2048.size inb_S1280x2048_S128x2048_1024_0 (bandC A c) _
    (ix2 ⟨1024 + (i 0).val, by omega⟩ (i 1)) (forall_fin2 rfl (by show (i 1).val = 0 + (i 1).val; omega))).trans ?_
  rw [bandC_mid A c _ (by show 128 ≤ 1024 + (i 0).val; omega) (by show 1024 + (i 0).val < 1152; omega), bandC_top A (rc c) i h,
    if_neg (by revert hc; revert c; decide), show lc (rc c) = c by revert c; decide]
  exact own_congr A c _ (by show 1024 + (i 0).val - 128 = 896 + (i 0).val; omega)

/-- the global rows arrive as they are. -/
theorem g_landed (fd f : Vec F S32x3072 .bf16) : gM.view.write (Elt F) fd (gM.view.read (Elt F) f) Finset.univ = f := by
  show (View.whole cc0_scratch1).write (Elt F) fd ((View.whole cc0_scratch1).read (Elt F) f) Finset.univ = f
  rw [View.read_whole]
  exact View.write_whole_univ _ _ _

/-! ## The partial sums -/

/-- The partial-sum buffer is filled up to column `n`. -/
def psOK (c : Dev nD) (n : ℕ) (f : Vec F S32x1152 .f32) : Prop := ∀ i, (i 1).val < n → f i = psC A c i

/-- One head's weighted sums stored. -/
theorem ps_num (c : Dev nD) (h : Fin 8) {off : Fin 2 → Nat} (hoff : off = ![0, 128 * h.val]) (inb : ∀ a, off a + S32x128.size a ≤ S32x1152.size a)
    {f : Vec F S32x1152 .f32} (hf : psOK A c (128 * h.val) f) :
    psOK A c (128 * (h.val + 1)) ((pM.access (Rect.unit (s := S32x1152) off S32x128.size inb) : View sig .tc _ _ _).write (Elt F) f (pnum A c h) Finset.univ) := by
  subst hoff
  intro i hi
  have h0 := idx2_lt0 i
  have h1 := idx2_lt1 i
  have hh := h.isLt
  by_cases hq : (i 1).val < 128 * h.val
  · exact (write_out (Val := Elt F) cc0_scratch5 ![0, 128 * h.val] S32x128.size inb f (pnum A c h) i ⟨1, Or.inl hq⟩).trans (hf i hq)
  · refine (write_in (Val := Elt F) cc0_scratch5 ![0, 128 * h.val] S32x128.size inb f (pnum A c h) i (ix2 ⟨(i 0).val, h0⟩ ⟨(i 1).val - 128 * h.val, by omega⟩)
      (forall_fin2 (by show (i 0).val = 0 + (i 0).val; omega) (by show (i 1).val = 128 * h.val + ((i 1).val - 128 * h.val); omega))).trans ?_
    unfold psC
    rw [dif_pos (by omega)]
    have e1 : (⟨(i 1).val / 128, by omega⟩ : Fin 8) = h := Fin.ext (by show (i 1).val / 128 = h.val; omega)
    have e2 : (⟨(i 1).val % 128, Nat.mod_lt _ (by decide)⟩ : Fin 128) = ⟨(i 1).val - 128 * h.val, by omega⟩ :=
      Fin.ext (by show (i 1).val % 128 = (i 1).val - 128 * h.val; omega)
    rw [e1, e2]

/-- The plain sums stored. -/
theorem ps_den (c : Dev nD) {f : Vec F S32x1152 .f32} (hf : psOK A c 1024 f) :
    psOK A c 1032 ((pM.access (Rect.unit (s := S32x1152) ![0, 1024] S32x8.size inb_S32x1152_S32x8_0_1024) : View sig .tc _ _ _).write (Elt F) f (pden A c) Finset.univ) := by
  intro i hi
  have h0 := idx2_lt0 i
  by_cases hq : (i 1).val < 1024
  · exact (write_out (Val := Elt F) cc0_scratch5 ![0, 1024] S32x8.size inb_S32x1152_S32x8_0_1024 f (pden A c) i ⟨1, Or.inl hq⟩).trans (hf i hq)
  · refine (write_in (Val := Elt F) cc0_scratch5 ![0, 1024] S32x8.size inb_S32x1152_S32x8_0_1024 f (pden A c) i (ix2 ⟨(i 0).val, h0⟩ ⟨(i 1).val - 1024, by omega⟩)
      (forall_fin2 (by show (i 0).val = 0 + (i 0).val; omega) (by show (i 1).val = 1024 + ((i 1).val - 1024); omega))).trans ?_
    unfold psC
    rw [dif_neg hq, dif_pos hi]

/-- What a device's partial sums leave in slot `j` of the receive buffer. -/
theorem slot_landed (j : Fin 3) (c : Dev nD) (hc : c.val = j.val + 1) (fd : Vec F S3x32x1152 .f32) {f : Vec F S32x1152 .f32} (hf : psOK A c 1032 f)
    (i : S3x32x1152.Idx) (hi : i ∈ slotS j) (h2 : (i 2).val < 1032) :
    ((rM.slice (Rect.unit (s := S3x32x1152) ![j.val, 0, 0] S1x32x1152.size (inbSlot j)) (fun _ => rfl)).squeeze S32x1152 squeezes_S1x32x1152_S32x1152).view.write (Elt F) fd
      (pM.view.read (Elt F) f) Finset.univ i = pvC A i := by
  have h0 := (mem_slotS j i).mp hi
  have e : (View.reshape (View.slice (View.whole cc0_scratch6) (Rect.unit (s := S3x32x1152) ![j.val, 0, 0] S1x32x1152.size (inbSlot j))) S32x1152
      squeezes_S1x32x1152_S32x1152.numel_eq).write (Elt F) fd (pM.view.read (Elt F) f) Finset.univ i = f (ix2 (i 1) (i 2)) := by
    rw [View.write_reshape_univ]
    refine (write_in (Val := Elt F) cc0_scratch6 ![j.val, 0, 0] S1x32x1152.size (inbSlot j) fd _ i (ix3 (0 : Fin 1) (i 1) (i 2))
      (forall_fin3 (by show (i 0).val = j.val + 0; omega) (by show (i 1).val = 0 + (i 1).val; omega) (by show (i 2).val = 0 + (i 2).val; omega))).trans ?_
    show f _ = _
    congr 1
    exact (Equiv.symm_apply_eq _).mpr (reshapeEquiv_ix2_1ab _ (i 1) (i 2)).symm
  refine e.trans ((hf _ h2).trans ?_)
  unfold pvC
  congr 1
  exact Fin.ext (by show c.val = (i 0).val + 1; omega)

/-- Reads of the partial sums see only filled columns. -/
theorem ps_read (c : Dev nD) {off size : Fin 2 → Nat} (inb : ∀ a, off a + size a ≤ S32x1152.size a) {f : Vec F S32x1152 .f32} (hf : psOK A c 1032 f)
    (h : off 1 + size 1 ≤ 1032) :
    pM.view.readAt (Elt F) (Rect.unit (s := S32x1152) off size inb).toLoadRect f = pM.view.readAt (Elt F) (Rect.unit (s := S32x1152) off size inb).toLoadRect (psC A c) := by
  funext x
  refine hf _ ?_
  show off 1 + 1 * (x 1).val < 1032
  have : (x 1).val < size 1 := (x 1).isLt
  omega

/-- A read of slot `j` within the columns that are filled sees device `j + 1`'s partial sums. -/
theorem rv_read (j : Fin 3) {off size : Fin 3 → Nat} (inb : ∀ a, off a + size a ≤ S3x32x1152.size a) {f : Vec F S3x32x1152 .f32}
    (hf : ∀ i ∈ slotS j, (i 2).val < 1032 → f i = pvC A i) (h0 : off 0 = j.val) (h0' : size 0 = 1) (h : off 2 + size 2 ≤ 1032) :
    rM.view.readAt (Elt F) (Rect.unit (s := S3x32x1152) off size inb).toLoadRect f = rM.view.readAt (Elt F) (Rect.unit (s := S3x32x1152) off size inb).toLoadRect (pvC A) := by
  funext x
  refine hf _ ((mem_slotS j _).mpr ?_) ?_
  · show off 0 + 1 * (x 0).val = j.val
    have : (x 0).val < size 0 := (x 0).isLt
    omega
  · show off 2 + 1 * (x 2).val < 1032
    have : (x 2).val < size 2 := (x 2).isLt
    omega

/-- A read inside slot `j` touches only slot `j`. -/
theorem rv_sub (j : Fin 3) {off size : Fin 3 → Nat} (inb : ∀ a, off a + size a ≤ S3x32x1152.size a) (h0 : off 0 = j.val) (h0' : size 0 = 1) :
    rM.view.setOn (Rect.unit (s := S3x32x1152) off size inb).toLoadRect.set ⊆ slotS j := by
  intro i hi
  have hi' : i ∈ (Rect.unit (s := S3x32x1152) off size inb).set := by
    obtain ⟨y, hy, rfl⟩ := Finset.mem_map.mp hi
    exact hy
  rw [mem_slotS]
  have := Rect.mem_set_unit.mp hi' 0
  rw [h0, h0'] at this
  omega

/-- An access of the band stays in a region that holds all its rows. -/
theorem band_sub {S : Finset S1280x2048.Idx} {off size : Fin 2 → Nat} (inb : ∀ a, off a + size a ≤ S1280x2048.size a)
    (h : ∀ i : S1280x2048.Idx, off 0 ≤ (i 0).val → (i 0).val < off 0 + size 0 → i ∈ S) :
    bM.view.setOn (Rect.unit (s := S1280x2048) off size inb).toLoadRect.set ⊆ S := by
  intro i hi
  have hi' : i ∈ (Rect.unit (s := S1280x2048) off size inb).set := by
    obtain ⟨y, hy, rfl⟩ := Finset.mem_map.mp hi
    exact hy
  have := Rect.mem_set_unit.mp hi' 0
  exact h i this.1 this.2

/-- The same of a store's rectangle. -/
theorem band_sub' {S : Finset S1280x2048.Idx} {off size : Fin 2 → Nat} (inb : ∀ a, off a + size a ≤ S1280x2048.size a)
    (h : ∀ i : S1280x2048.Idx, off 0 ≤ (i 0).val → (i 0).val < off 0 + size 0 → i ∈ S) :
    (bM.access (Rect.unit (s := S1280x2048) off size inb) : View sig .tc _ _ _).setOn Finset.univ ⊆ S := by
  intro i hi
  obtain ⟨y, hy, rfl⟩ := Finset.mem_map.mp hi
  have hy0 : (y 0).val < size 0 := (y 0).isLt
  refine h _ ?_ ?_
  · show off 0 ≤ off 0 + 1 * (y 0).val; omega
  · show off 0 + 1 * (y 0).val < off 0 + size 0; omega

/-! ## The context -/

/-- A rectangle of the context stored with the right values brings a set of right elements up by that rectangle. -/
theorem ctx_store {P P' : S1024x1024.Idx → Prop} {g : Vec F S1024x1024 .bf16} {off size : Fin 2 → Nat} (inb : ∀ a, off a + size a ≤ S1024x1024.size a)
    {f : Vec F S1024x1024 .bf16} (hf : ∀ i, P i → f i = g i) (w : (Rect.unit (s := S1024x1024) off size inb).shape.Idx → F .bf16)
    (hw : ∀ x i, (i 0).val = off 0 + (x 0).val → (i 1).val = off 1 + (x 1).val → w x = g i)
    (hP : ∀ i, P' i → P i ∨ (off 0 ≤ (i 0).val ∧ (i 0).val < off 0 + size 0 ∧ off 1 ≤ (i 1).val ∧ (i 1).val < off 1 + size 1)) :
    ∀ i, P' i → (cM.access (Rect.unit (s := S1024x1024) off size inb) : View sig .tc _ _ _).write (Elt F) f w Finset.univ i = g i := by
  intro i hi
  by_cases hin : off 0 ≤ (i 0).val ∧ (i 0).val < off 0 + size 0 ∧ off 1 ≤ (i 1).val ∧ (i 1).val < off 1 + size 1
  · have hx : ∀ a, ((fun a => ⟨(i a).val - off a, by
        revert a; exact forall_fin2 (by show (i 0).val - off 0 < size 0; omega) (by show (i 1).val - off 1 < size 1; omega)⟩ :
          (Rect.unit (s := S1024x1024) off size inb).shape.Idx) a).val = (i a).val - off a := fun a => rfl
    refine (write_in (Val := Elt F) cc0_scratch4 off size inb f w i (fun a => ⟨(i a).val - off a, by
        revert a; exact forall_fin2 (by show (i 0).val - off 0 < size 0; omega) (by show (i 1).val - off 1 < size 1; omega)⟩)
      (forall_fin2 (by show (i 0).val = off 0 + ((i 0).val - off 0); omega) (by show (i 1).val = off 1 + ((i 1).val - off 1); omega))).trans ?_
    exact hw _ i (by show (i 0).val = off 0 + ((i 0).val - off 0); omega) (by show (i 1).val = off 1 + ((i 1).val - off 1); omega)
  · have hp : P i := (hP i hi).resolve_right hin
    refine (write_out (Val := Elt F) cc0_scratch4 off size inb f w i ?_).trans (hf i hp)
    by_contra hn
    push Not at hn
    exact hin ⟨(hn 0).1, (hn 0).2, (hn 1).1, (hn 1).2⟩

end Cert.KProof

end
-- ==== Proof.Exchange.lean ====
/-
What the devices hand each other at the start: the rights each holds, the landing places each gives and gets, and the
kernel's first part, in which every device signals three barriers and stores its own keys.
-/
module

public import proofs.«01_k».proof.Proof.Memory

@[expose] public section

noncomputable section

namespace Cert.KProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Ins F) (K : Dev nD × Fin 13 → ℕ)

/-- A fact about every device is four facts. -/
theorem dev_cases {P : Dev nD → Prop} (h0 : P 0) (h1 : P 1) (h2 : P 2) (h3 : P 3) : ∀ c, P c
  | 0 => h0 | 1 => h1 | 2 => h2 | 3 => h3

omit [FloatOps F] in
/-- A listed product, one factor at a time. -/
theorem list_sep {I : Type} (i j : I) (l : List I) (Φ : I → sProp 𝕄) : bigSepL (i :: j :: l) Φ = iprop(Φ i ∗ bigSepL (j :: l) Φ) := rfl

/-! ## What a device holds at the start -/

/-- The rights to signal the other devices' barriers, -/
def sigToks : Dev nD → sProp 𝕄 := fun
  | 0 => iprop(tok (1, 0) 0 ∗ tok (2, 0) 0 ∗ tok (3, 0) 0)
  | 1 => iprop(tok (0, 0) 1 ∗ tok (2, 0) 1 ∗ tok (1, 0) 1)
  | 2 => iprop(tok (0, 0) 2 ∗ tok (1, 0) 2 ∗ tok (3, 0) 2)
  | 3 => iprop(tok (0, 0) 3 ∗ tok (2, 0) 3 ∗ tok (3, 0) 3)
/-- to send the global rows, -/
def gToks : Dev nD → sProp 𝕄 := fun
  | 0 => iprop((tok (0, 4) 0 ∗ tok (1, 9) 0) ∗ (tok (0, 5) 0 ∗ tok (2, 9) 0) ∗ (tok (0, 6) 0 ∗ tok (3, 9) 0))
  | _ => iprop(emp)
/-- to send a halo to the left, -/
def lToks : Dev nD → sProp 𝕄 := fun
  | 0 => iprop(emp)
  | 1 => iprop(tok (1, 1) 1 ∗ tok (0, 8) 1)
  | 2 => iprop(tok (2, 1) 2 ∗ tok (1, 8) 2)
  | 3 => iprop(tok (3, 1) 3 ∗ tok (2, 8) 3)
/-- to the right, -/
def rToks : Dev nD → sProp 𝕄 := fun
  | 0 => iprop(tok (0, 2) 0 ∗ tok (1, 7) 0)
  | 1 => iprop(tok (1, 2) 1 ∗ tok (2, 7) 1)
  | 2 => iprop(tok (2, 2) 2 ∗ tok (3, 7) 2)
  | 3 => iprop(emp)
/-- and to send the partial sums. -/
def pToks : Dev nD → sProp 𝕄 := fun
  | 0 => iprop(emp)
  | 1 => iprop(tok (1, 3) 1 ∗ tok (0, 10) 1)
  | 2 => iprop(tok (2, 3) 2 ∗ tok (0, 11) 2)
  | 3 => iprop(tok (3, 3) 3 ∗ tok (0, 12) 3)

/-- All of them, from the table. -/
theorem toks_split : ∀ c : Dev nD, (bigSep (Finset.univ.filter fun ck : Dev nD × Fin 13 => pays ck.1 ck.2 c = true) fun ck => tok (F := F) ck c)
    ⊢ iprop(sigToks c ∗ gToks c ∗ lToks c ∗ rToks c ∗ pToks c) := by
  refine dev_cases ?_ ?_ ?_ ?_
  · rw [bigSep_eq_bigSepL_of_eq [(1, 0), (2, 0), (3, 0), (0, 4), (1, 9), (0, 5), (2, 9), (0, 6), (3, 9), (0, 2), (1, 7)] (by decide) (by decide)]
    simp only [list_sep, bigSepL_singleton, sigToks, gToks, lToks, rToks, pToks]
    iintro ⟨H1, H2, H3, H4, H5, H6, H7, H8, H9, H10, H11⟩
    isplitl [H1 H2 H3]
    · isplitl [H1]; · iexact H1
      isplitl [H2] <;> iassumption
    isplitl [H4 H5 H6 H7 H8 H9]
    · isplitl [H4 H5]; · isplitl [H4] <;> iassumption
      isplitl [H6 H7]; · isplitl [H6] <;> iassumption
      isplitl [H8] <;> iassumption
    isplitr; · iempintro
    isplitl [H10 H11]; · isplitl [H10] <;> iassumption
    iempintro
  · rw [bigSep_eq_bigSepL_of_eq [(0, 0), (2, 0), (1, 0), (1, 1), (0, 8), (1, 2), (2, 7), (1, 3), (0, 10)] (by decide) (by decide)]
    simp only [list_sep, bigSepL_singleton, sigToks, gToks, lToks, rToks, pToks]
    iintro ⟨H1, H2, H3, H4, H5, H6, H7, H8, H9⟩
    isplitl [H1 H2 H3]
    · isplitl [H1]; · iexact H1
      isplitl [H2] <;> iassumption
    isplitr; · iempintro
    isplitl [H4 H5]; · isplitl [H4] <;> iassumption
    isplitl [H6 H7]; · isplitl [H6] <;> iassumption
    isplitl [H8] <;> iassumption
  · rw [bigSep_eq_bigSepL_of_eq [(0, 0), (1, 0), (3, 0), (2, 1), (1, 8), (2, 2), (3, 7), (2, 3), (0, 11)] (by decide) (by decide)]
    simp only [list_sep, bigSepL_singleton, sigToks, gToks, lToks, rToks, pToks]
    iintro ⟨H1, H2, H3, H4, H5, H6, H7, H8, H9⟩
    isplitl [H1 H2 H3]
    · isplitl [H1]; · iexact H1
      isplitl [H2] <;> iassumption
    isplitr; · iempintro
    isplitl [H4 H5]; · isplitl [H4] <;> iassumption
    isplitl [H6 H7]; · isplitl [H6] <;> iassumption
    isplitl [H8] <;> iassumption
  · rw [bigSep_eq_bigSepL_of_eq [(0, 0), (2, 0), (3, 0), (3, 1), (2, 8), (3, 3), (0, 12)] (by decide) (by decide)]
    simp only [list_sep, bigSepL_singleton, sigToks, gToks, lToks, rToks, pToks]
    iintro ⟨H1, H2, H3, H4, H5, H6, H7⟩
    isplitl [H1 H2 H3]
    · isplitl [H1]; · iexact H1
      isplitl [H2] <;> iassumption
    isplitr; · iempintro
    isplitl [H4 H5]; · isplitl [H4] <;> iassumption
    isplitr; · iempintro
    isplitl [H6] <;> iassumption

/-- The landing places a device gives away with its signals, -/
def give : Dev nD → sProp 𝕄 := fun
  | 0 => iprop(bot (F := F) 0 ∗ slot (F := F) 0 ∗ slot (F := F) 1 ∗ slot (F := F) 2)
  | 1 => iprop(top (F := F) 1 ∗ gb (F := F) 1 ∗ bot (F := F) 1)
  | 2 => iprop(gb (F := F) 2 ∗ bot (F := F) 2 ∗ top (F := F) 2)
  | 3 => iprop(gb (F := F) 3 ∗ top (F := F) 3)
/-- and the parts of its scratch it keeps: device 0 its left halo and its global rows, device 3 its right halo. -/
def keepT : Dev nD → sProp 𝕄 := fun
  | 0 => top (F := F) 0
  | _ => iprop(emp)
/-- Device 3 keeps its right halo. -/
def keepB : Dev nD → sProp 𝕄 := fun
  | 3 => bot (F := F) 3
  | _ => iprop(emp)
/-- Device 0 keeps its buffer of global rows. -/
def keepG : Dev nD → sProp 𝕄 := fun
  | 0 => gb (F := F) 0
  | _ => iprop(emp)
/-- The receive buffer where nothing is received. -/
def keepR : Dev nD → sProp 𝕄 := fun
  | 0 => iprop(emp)
  | c => iprop(∃ f : Vec F S3x32x1152 .f32, rM.view.loc (c : Thread nD τ) ↦{fullShare} f)

/-- The landing places a device has received once its barrier is through: for the global rows, the two halos, the
    partial sums. -/
def landG : Dev nD → sProp 𝕄 := fun
  | 0 => iprop(gb (F := F) 1 ∗ gb (F := F) 2 ∗ gb (F := F) 3)
  | _ => iprop(emp)
/-- The left neighbour's right halo, where there is a left neighbour. -/
def landL : Dev nD → sProp 𝕄 := fun
  | 0 => iprop(emp)
  | 1 => bot (F := F) 0
  | 2 => bot (F := F) 1
  | 3 => bot (F := F) 2
/-- The right neighbour's left halo, where there is a right neighbour. -/
def landR : Dev nD → sProp 𝕄 := fun
  | 0 => top (F := F) 1
  | 1 => top (F := F) 2
  | 2 => top (F := F) 3
  | 3 => iprop(emp)
/-- The slot of device 0 for this device's partial sums. -/
def landP : Dev nD → sProp 𝕄 := fun
  | 0 => iprop(emp)
  | 1 => slot (F := F) 0
  | 2 => slot (F := F) 1
  | 3 => slot (F := F) 2

/-- What the barrier's payers handed over, sorted. -/
theorem bar_got : ∀ c : Dev nD, (bigSep (dutF (c, 0)) fun d => pay A c 0 d) ⊢ iprop(landG (F := F) c ∗ landL c ∗ landR c ∗ landP c) := by
  refine dev_cases ?_ ?_ ?_ ?_
  · rw [bigSep_eq_bigSepL_of_eq [1, 2, 3] (by decide) (by decide)]
    simp only [list_sep, bigSepL_singleton, pay, barPay, landG, landL, landR, landP]
    iintro ⟨⟨H1, H2⟩, H3, H4⟩
    isplitl [H2 H3 H4]
    · isplitl [H2]; · iexact H2
      isplitl [H3] <;> iassumption
    isplitr; · iempintro
    isplitl [H1]; · iexact H1
    iempintro
  · rw [bigSep_eq_bigSepL_of_eq [0, 1, 2] (by decide) (by decide)]
    simp only [list_sep, bigSepL_singleton, pay, barPay, landG, landL, landR, landP]
    iintro ⟨⟨H1, H2⟩, -, H3⟩
    isplitr; · iempintro
    isplitl [H1]; · iexact H1
    isplitl [H3] <;> iassumption
  · rw [bigSep_eq_bigSepL_of_eq [0, 1, 3] (by decide) (by decide)]
    simp only [list_sep, bigSepL_singleton, pay, barPay, landG, landL, landR, landP]
    iintro ⟨H1, H2, H3⟩
    isplitr; · iempintro
    isplitl [H2]; · iexact H2
    isplitl [H3] <;> iassumption
  · rw [bigSep_eq_bigSepL_of_eq [0, 2, 3] (by decide) (by decide)]
    simp only [list_sep, bigSepL_singleton, pay, barPay, landG, landL, landR, landP]
    iintro ⟨H1, H2, -⟩
    isplitr; · iempintro
    isplitl [H2]; · iexact H2
    isplitr; · iempintro
    iexact H1

/-! ## The entry signals, and the own keys and values -/

/-- Before and after device `c`'s three signals. -/
def sigPre (c : Dev nD) : sProp 𝕄 := iprop(recs A K ∗ ow c (dues ∅ c) ∗ sigToks c ∗ give c)
/-- After the signals only the transfers are owed. -/
def sigPost (c : Dev nD) : sProp 𝕄 := ow c (dues {0} c)
/-- The same, once the first `n` devices' blocks of the program are behind. -/
def sigSt (n : ℕ) (c : Dev nD) : sProp 𝕄 := if c.val < n then sigPost (F := F) c else sigPre A K c

/-- Another device's block of signals changes nothing. -/
theorem sigSt_skip (n : ℕ) (c : Dev nD) (h : c.val ≠ n) : sigSt A K n c = sigSt A K (n + 1) c := by
  unfold sigSt
  by_cases h' : c.val < n
  · rw [if_pos h', if_pos (by omega)]
  · rw [if_neg h', if_neg (by omega)]

/-- Whole blocks read are the blocks. -/
theorem read_x (f : Vec F S1x1024x1024 .bf16) : xM.view.readAt (Elt F) (Rect.unit (s := S1x1024x1024) ![0, 0, 0] S1x1024x1024.size inb_S1x1024x1024_S1x1024x1024_0_0_0).toLoadRect f = f :=
  Memref.readAt_unit_zero (Elt F) cc0_stg0_0 (funext fun a => by fin_cases a <;> rfl) _ _
/-- The whole block of keys read is the block. -/
theorem read_k (f : Vec F S1x1024x8x128 .bf16) : kM.view.readAt (Elt F) (Rect.unit (s := S1x1024x8x128) ![0, 0, 0, 0] S1x1024x8x128.size inb_S1x1024x8x128_S1x1024x8x128_0_0_0_0).toLoadRect f = f :=
  Memref.readAt_unit_zero (Elt F) cc0_stg2_0 (funext fun a => by fin_cases a <;> rfl) _ _
/-- The whole block of values read is the block. -/
theorem read_v (f : Vec F S1x1024x8x128 .bf16) : vM.view.readAt (Elt F) (Rect.unit (s := S1x1024x8x128) ![0, 0, 0, 0] S1x1024x8x128.size inb_S1x1024x8x128_S1x1024x8x128_0_0_0_0).toLoadRect f = f :=
  Memref.readAt_unit_zero (Elt F) cc0_stg3_0 (funext fun a => by fin_cases a <;> rfl) _ _

/-- The rows 128 to 1151 are the band's own rows. -/
theorem mid_rows (i : S1280x2048.Idx) (h0 : 128 ≤ (i 0).val) (h1 : (i 0).val < 128 + 1024) : i ∈ midS := (mem_midS i).mpr ⟨h0, h1⟩

/-- A whole buffer of device `c`. -/
def blk (c : Dev nD) (r : Ref sig .tc) (f : r.ty.Contents (Elt F)) : sProp 𝕄 := (View.whole r).loc (c : Thread nD τ) ↦{fullShare} f

/-- The band's own rows once the keys are in, before the values. -/
def midK (c : Dev nD) : sProp 𝕄 :=
  iprop(∃ f : Vec F S1280x2048 .bf16, bandPt c midS fullShare
    ((bM.access (Rect.unit (s := S1280x2048) ![128, 0] S1024x1024.size inb_S1280x2048_S1024x1024_128_0) : View sig .tc _ _ _).write (Elt F) f
      (kb A c) Finset.univ))

set_option maxHeartbeats 1000000 in
/-- The first part: the signals, then the keys into the band. -/
theorem part12 (c : Dev nD) (Kt : _ → sProp 𝕄) :
    iprop((sigPre A K c ∗ blk c cc0_stg2_0 (A.k c) ∗ blk c cc0_stg3_0 (A.v c) ∗ (∃ f, bandPt (F := F) c midS fullShare f))
      ∗ ((sigPost c ∗ blk c cc0_stg2_0 (A.k c) ∗ blk c cc0_stg3_0 (A.v c) ∗ midK A c)
        -∗ Kt ⟨c, idw c, Scalar.remsi (Scalar.subi (Scalar.addi (idw c) 4#32) 1#32) 4#32, Scalar.remsi (Scalar.addi (idw c) 1#32) 4#32,
            SemArray.scalar (sig.barrier 0 rfl), k0_pay30 (A.v c)⟩))
      ⊢ WP c (k0_part12 (F := F) xM (Memref.isWhole_whole _) wqM (Memref.isWhole_whole _) kM (Memref.isWhole_whole _) vM (Memref.isWhole_whole _) woM (Memref.isWhole_whole _) oM (Memref.isWhole_whole _) bM (Memref.isWhole_whole _) gM (Memref.isWhole_whole _) xbM (Memref.isWhole_whole _) qM (Memref.isWhole_whole _) cM (Memref.isWhole_whole _) pM (Memref.isWhole_whole _) rM (Memref.isWhole_whole _) cc0_scratch7 cc0_scratch8) Kt := by
  simp only [k0_part12_eq_skeleton]; unfold k0_part12_skel
  simp only [semSignalWord, semSignalHereWord, Prog.lift, Prog.bind_op, Prog.bind_ret, Prog.pure_eq_ret, wp_deviceId]
  refine sep_assoc.1.trans ?_
  rw [show sigPre A K c = sigSt A K 0 c from (if_neg (Nat.not_lt_zero _)).symm]
  refine seg_if c (sigSt A K 1 c) _ (fun h => sep_mono_left (Entails.of_eq (sigSt_skip A K 0 c (by revert h; revert c; decide)))) (fun hk h => ?_) ?_
  · obtain rfl : c = 0 := by clear hk; revert h; revert c; decide
    refine (sep_mono_left (Entails.of_eq (show sigSt A K 0 0 = sigPre A K 0 from rfl))).trans ?_
    unfold sigPre sigToks give
    iintro ⟨⟨#H, HO, ⟨Ht0, Ht1, Ht2⟩, ⟨Hb, Hs0, Hs1, Hs2⟩⟩, HR⟩
    iapply (wp_sig A K 0 1 _ rfl (dues ∅ 0) (by decide) (by decide) rfl) $$ [HO Ht0 Hb Hs0]
    · isplitr; · iexact H
      isplitl [HO]; · iexact HO
      isplitl [Ht0]; · iexact Ht0
      rw [show barPay (F := F) 1 0 = iprop(bot (F := F) 0 ∗ slot (F := F) 0) from rfl]
      isplitl [Hb] <;> iassumption
    iintro HO
    iapply (wp_sig A K 0 2 _ rfl ((dues ∅ 0).erase (1, 0)) (by decide) (by decide) rfl) $$ [HO Ht1 Hs1]
    · isplitr; · iexact H
      isplitl [HO]; · iexact HO
      isplitl [Ht1]; · iexact Ht1
      rw [show barPay (F := F) 2 0 = slot (F := F) 1 from rfl]
      iexact Hs1
    iintro HO
    iapply (wp_sig A K 0 3 _ rfl (((dues ∅ 0).erase (1, 0)).erase (2, 0)) (by decide) (by decide) rfl) $$ [HO Ht2 Hs2]
    · isplitr; · iexact H
      isplitl [HO]; · iexact HO
      isplitl [Ht2]; · iexact Ht2
      rw [show barPay (F := F) 3 0 = slot (F := F) 2 from rfl]
      iexact Hs2
    iintro HO
    iapply hk
    isplitl [HO]
    · rw [show ((((dues ∅ 0).erase (1, 0)).erase (2, 0)).erase (3, 0)) = dues {0} 0 by decide, show sigSt A K 1 0 = ow 0 (dues {0} 0) from rfl]; iexact HO
    iexact HR
  refine seg_if c (sigSt A K 2 c) _ (fun h => sep_mono_left (Entails.of_eq (sigSt_skip A K 1 c (by revert h; revert c; decide)))) (fun hk h => ?_) ?_
  · obtain rfl : c = 1 := by clear hk; revert h; revert c; decide
    refine (sep_mono_left (Entails.of_eq (show sigSt A K 1 1 = sigPre A K 1 from rfl))).trans ?_
    unfold sigPre sigToks give
    iintro ⟨⟨#H, HO, ⟨Ht0, Ht1, Ht2⟩, ⟨Ht, Hg, Hb⟩⟩, HR⟩
    iapply (wp_sig A K 1 0 _ rfl (dues ∅ 1) (by decide) (by decide) rfl) $$ [HO Ht0 Ht Hg]
    · isplitr; · iexact H
      isplitl [HO]; · iexact HO
      isplitl [Ht0]; · iexact Ht0
      rw [show barPay (F := F) 0 1 = iprop(top (F := F) 1 ∗ gb (F := F) 1) from rfl]
      isplitl [Ht] <;> iassumption
    iintro HO
    iapply (wp_sig A K 1 2 _ rfl ((dues ∅ 1).erase (0, 0)) (by decide) (by decide) rfl) $$ [HO Ht1 Hb]
    · isplitr; · iexact H
      isplitl [HO]; · iexact HO
      isplitl [Ht1]; · iexact Ht1
      rw [show barPay (F := F) 2 1 = bot (F := F) 1 from rfl]
      iexact Hb
    iintro HO
    iapply (wp_dev (F := F) _)
    iapply (wp_sig A K 1 1 _ rfl (((dues ∅ 1).erase (0, 0)).erase (2, 0)) (by decide) (by decide) rfl) $$ [HO Ht2]
    · isplitr; · iexact H
      isplitl [HO]; · iexact HO
      isplitl [Ht2]; · iexact Ht2
      rw [show barPay (F := F) 1 1 = iprop(emp) from rfl]; iempintro
    iintro HO
    iapply hk
    isplitl [HO]
    · rw [show ((((dues ∅ 1).erase (0, 0)).erase (2, 0)).erase (1, 0)) = dues {0} 1 by decide, show sigSt A K 2 1 = ow 1 (dues {0} 1) from rfl]; iexact HO
    iexact HR
  refine seg_if c (sigSt A K 3 c) _ (fun h => sep_mono_left (Entails.of_eq (sigSt_skip A K 2 c (by revert h; revert c; decide)))) (fun hk h => ?_) ?_
  · obtain rfl : c = 2 := by clear hk; revert h; revert c; decide
    refine (sep_mono_left (Entails.of_eq (show sigSt A K 2 2 = sigPre A K 2 from rfl))).trans ?_
    unfold sigPre sigToks give
    iintro ⟨⟨#H, HO, ⟨Ht0, Ht1, Ht2⟩, ⟨Hg, Hb, Ht⟩⟩, HR⟩
    iapply (wp_sig A K 2 0 _ rfl (dues ∅ 2) (by decide) (by decide) rfl) $$ [HO Ht0 Hg]
    · isplitr; · iexact H
      isplitl [HO]; · iexact HO
      isplitl [Ht0]; · iexact Ht0
      rw [show barPay (F := F) 0 2 = gb (F := F) 2 from rfl]
      iexact Hg
    iintro HO
    iapply (wp_sig A K 2 1 _ rfl ((dues ∅ 2).erase (0, 0)) (by decide) (by decide) rfl) $$ [HO Ht1 Ht]
    · isplitr; · iexact H
      isplitl [HO]; · iexact HO
      isplitl [Ht1]; · iexact Ht1
      rw [show barPay (F := F) 1 2 = top (F := F) 2 from rfl]
      iexact Ht
    iintro HO
    iapply (wp_sig A K 2 3 _ rfl (((dues ∅ 2).erase (0, 0)).erase (1, 0)) (by decide) (by decide) rfl) $$ [HO Ht2 Hb]
    · isplitr; · iexact H
      isplitl [HO]; · iexact HO
      isplitl [Ht2]; · iexact Ht2
      rw [show barPay (F := F) 3 2 = bot (F := F) 2 from rfl]
      iexact Hb
    iintro HO
    iapply hk
    isplitl [HO]
    · rw [show ((((dues ∅ 2).erase (0, 0)).erase (1, 0)).erase (3, 0)) = dues {0} 2 by decide, show sigSt A K 3 2 = ow 2 (dues {0} 2) from rfl]; iexact HO
    iexact HR
  refine seg_if c (sigSt A K 4 c) _ (fun h => sep_mono_left (Entails.of_eq (sigSt_skip A K 3 c (by revert h; revert c; decide)))) (fun hk h => ?_) ?_
  · obtain rfl : c = 3 := by clear hk; revert h; revert c; decide
    refine (sep_mono_left (Entails.of_eq (show sigSt A K 3 3 = sigPre A K 3 from rfl))).trans ?_
    unfold sigPre sigToks give
    iintro ⟨⟨#H, HO, ⟨Ht0, Ht1, Ht2⟩, ⟨Hg, Ht⟩⟩, HR⟩
    iapply (wp_sig A K 3 0 _ rfl (dues ∅ 3) (by decide) (by decide) rfl) $$ [HO Ht0 Hg]
    · isplitr; · iexact H
      isplitl [HO]; · iexact HO
      isplitl [Ht0]; · iexact Ht0
      rw [show barPay (F := F) 0 3 = gb (F := F) 3 from rfl]
      iexact Hg
    iintro HO
    iapply (wp_sig A K 3 2 _ rfl ((dues ∅ 3).erase (0, 0)) (by decide) (by decide) rfl) $$ [HO Ht1 Ht]
    · isplitr; · iexact H
      isplitl [HO]; · iexact HO
      isplitl [Ht1]; · iexact Ht1
      rw [show barPay (F := F) 2 3 = top (F := F) 3 from rfl]
      iexact Ht
    iintro HO
    iapply (wp_dev (F := F) _)
    iapply (wp_sig A K 3 3 _ rfl (((dues ∅ 3).erase (0, 0)).erase (2, 0)) (by decide) (by decide) rfl) $$ [HO Ht2]
    · isplitr; · iexact H
      isplitl [HO]; · iexact HO
      isplitl [Ht2]; · iexact Ht2
      rw [show barPay (F := F) 3 3 = iprop(emp) from rfl]; iempintro
    iintro HO
    iapply hk
    isplitl [HO]
    · rw [show ((((dues ∅ 3).erase (0, 0)).erase (2, 0)).erase (3, 0)) = dues {0} 3 by decide, show sigSt A K 4 3 = ow 3 (dues {0} 3) from rfl]; iexact HO
    iexact HR
  iintro ⟨HO, ⟨Hk, Hv, ⟨%f, Hb⟩⟩, HK⟩
  unfold blk bandPt idw
  iapply (wp_load 𝒱₀ (c : Thread nD τ) none Set.univ (m := kM) (Finset.subset_univ _)) $$ Hk; iintro Hk
  rw [read_k]
  iapply (wp_load 𝒱₀ (c : Thread nD τ) none Set.univ (m := bM) (band_sub _ mid_rows)) $$ Hb; iintro Hb
  iapply (wp_store 𝒱₀ (c : Thread nD τ) none Set.univ (m := bM) (r := Rect.unit (s := S1280x2048) ![128, 0] S1024x1024.size inb_S1280x2048_S1024x1024_128_0) (Mk := Finset.univ)
    (S := midS) (band_sub' _ mid_rows)) $$ Hb; iintro Hb
  iapply (wp_load 𝒱₀ (c : Thread nD τ) none Set.univ (m := vM) (Finset.subset_univ _)) $$ Hv; iintro Hv
  rw [read_v, wp_ret]; imodintro
  iapply HK
  isplitl [HO]; · rw [show sigPost c = sigSt A K 4 c from (if_pos c.isLt).symm]; iexact HO
  isplitl [Hk]; · iexact Hk
  isplitl [Hv]; · iexact Hv
  unfold midK bandPt kb
  iexists f; iexact Hb

end Cert.KProof

end
-- ==== Proof.Transfers.lean ====
/-
The kernel's second part: the values stored, the barrier, and the transfers of the global rows and the halos started.
-/
module

public import proofs.«01_k».proof.Proof.Exchange

@[expose] public section

noncomputable section

namespace Cert.KProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Ins F) (K : Dev nD × Fin 13 → ℕ)

/-! ## What a device holds once its transfers are under way -/

/-- The zeros of the outer halos, on the two devices that have one. -/
def topK : Dev nD → sProp 𝕄 := fun
  | 0 => bandPt 0 topS fullShare (bandC A 0)
  | _ => iprop(emp)
/-- The right halo of device 3, its zeros stored. -/
def botK : Dev nD → sProp 𝕄 := fun
  | 3 => bandPt 3 botS fullShare (bandC A 3)
  | _ => iprop(emp)
/-- The rows sent, or the credit of their transfer. -/
def loK : Dev nD → sProp 𝕄 := fun
  | 0 => bandPt 0 loS fullShare.right (bandC A 0)
  | c => crd c 1
/-- The rows sent to the right, or the credit of their transfer. -/
def hiK : Dev nD → sProp 𝕄 := fun
  | 3 => bandPt 3 hiS fullShare.right (bandC A 3)
  | c => crd c 2
/-- Device 0's global rows, the three transfers under way. -/
def gK : Dev nD → sProp 𝕄 := fun
  | 0 => iprop(gPt 0 fullShare.left (gC A) ∗ crd 0 4 ∗ crd 0 5 ∗ crd 0 6)
  | _ => iprop(emp)

omit [FloatOps F] in
/-- The credit of a semaphore with one payer is that payer's amount. -/
theorem crd_of (c : Dev nD) (k : Fin 13) (h : (dutF (c, k)).card = 1) : cred (tallyAt (kcell (c, k)) () (amt k)) = crd (F := F) c k := by
  unfold crd expN
  rw [h, Nat.one_mul]

/-- The two rights for the halo to the left. -/
theorem lToks_eq : ∀ c : Dev nD, c ≠ 0 → lToks (F := F) c = iprop(tok (c, 1) c ∗ tok (lc c, 8) c) :=
  dev_cases (fun h => absurd rfl h) (fun _ => rfl) (fun _ => rfl) (fun _ => rfl)
/-- The two rights for the halo to the right. -/
theorem rToks_eq : ∀ c : Dev nD, c ≠ 3 → rToks (F := F) c = iprop(tok (c, 2) c ∗ tok (rc c, 7) c) :=
  dev_cases (fun _ => rfl) (fun _ => rfl) (fun _ => rfl) (fun h => absurd rfl h)
/-- It lands in the left neighbour's right halo. -/
theorem landL_eq : ∀ c : Dev nD, c ≠ 0 → landL (F := F) c = bot (lc c) :=
  dev_cases (fun h => absurd rfl h) (fun _ => rfl) (fun _ => rfl) (fun _ => rfl)
/-- It lands in the right neighbour's left halo. -/
theorem landR_eq : ∀ c : Dev nD, c ≠ 3 → landR (F := F) c = top (rc c) :=
  dev_cases (fun _ => rfl) (fun _ => rfl) (fun _ => rfl) (fun h => absurd rfl h)
/-- Where there is a left neighbour, the rows sent to it are under way. -/
theorem loK_eq : ∀ c : Dev nD, c ≠ 0 → loK A c = crd c 1 :=
  dev_cases (fun h => absurd rfl h) (fun _ => rfl) (fun _ => rfl) (fun _ => rfl)
/-- Where there is a right neighbour, the rows sent to it are under way. -/
theorem hiK_eq : ∀ c : Dev nD, c ≠ 3 → hiK A c = crd c 2 :=
  dev_cases (fun _ => rfl) (fun _ => rfl) (fun _ => rfl) (fun h => absurd rfl h)

/-- The buffer of global rows is held in all its entries. -/
theorem g_univ : gM.view.set = Finset.univ := View.set_whole _

/-! ## The three kinds of transfer of this part -/

/-- The global rows to device `n`. -/
theorem send_g (j : Fin 3) (n n' : Dev nD) (hn : n' = n) (k : Fin 13) (S : Finset (Dev nD × Fin 13)) (hS : (n, 9) ∈ S)
    (hk : k.val = 4 + j.val) (hd : (0 : Dev nD) ∈ dutF (n, 9))
    {sS sem : SemLoc sig} (hsS : csem k = sS) (hsem' : csem 9 = sem)
    {hsc : gM.view.ref.isScScratch = false} {hsrc : gM.view.WordExact} {hdst : gM.view.WordExact}
    {hsem : DmaTarget.Typed .vmem sem (.remote (Dev.tc n' : Thread nD τ) gM sS hsc)}
    {α : Type} {Q : α → sProp 𝕄} {kk : PUnit → Prog (TpuEff nD τ sig (Elt F) Λ₀ .tc) α} :
    iprop(recs A K ∗ ow 0 S ∗ (tok (0, k) 0 ∗ tok (n, 9) 0) ∗ gPt 0 (gsh j) (gC A) ∗ gb n)
      ⊢ iprop(((ow 0 (S.erase (n, 9)) ∗ crd 0 k) -∗ WP 0 (kk ⟨⟩) Q)
          -∗ WP 0 (.op (.enqueueDma gM (.remote (Dev.tc n' : Thread nD τ) gM sS hsc) sem hsrc hdst hsem) kk) Q) := by
  subst hsS hsem'
  have hk' : k = 4 ∧ j = 0 ∨ k = 5 ∧ j = 1 ∨ k = 6 ∧ j = 2 := by revert hk; clear hsem; revert k j; decide
  have hc : (dutF (0, k)).card = 1 := by rcases hk' with ⟨rfl, -⟩ | ⟨rfl, -⟩ | ⟨rfl, -⟩ <;> decide
  rw [← crd_of 0 k hc]
  unfold gb gPt
  iintro ⟨#H, HO, ⟨Ht1, Ht2⟩, Hs, ⟨%fd, Hd⟩⟩
  iapply (wp_send A K 0 n n' hn k 9 S hS (by rcases hk' with ⟨rfl, -⟩ | ⟨rfl, -⟩ | ⟨rfl, -⟩ <;> decide) hd rfl rfl (q := gsh j) (fs := gC A) (fd := fd) rfl
    (by rcases hk' with ⟨rfl, -⟩ | ⟨rfl, -⟩ | ⟨rfl, -⟩ <;> rfl)
    (by rcases hk' with ⟨rfl, rfl⟩ | ⟨rfl, rfl⟩ | ⟨rfl, rfl⟩ <;> exact .rfl)
    (by rw [g_landed]; exact .rfl))
  isplitr; · iexact H
  isplitl [HO]; · iexact HO
  isplitl [Ht1]; · iexact Ht1
  isplitl [Ht2]; · iexact Ht2
  isplitl [Hs] <;> iassumption

/-- A device's first rows to the left; -/
theorem send_l (c n' : Dev nD) (h : c ≠ 0) (hn : n' = lc c) {sS sem : SemLoc sig} (hsS : csem 1 = sS) (hsem' : csem 8 = sem)
    {hsc : (bM.slice (Rect.unit (s := S1280x2048) ![1152, 0] S128x2048.size inb_S1280x2048_S128x2048_1152_0) (fun _ => rfl)).view.ref.isScScratch = false}
    {hsrc : (bM.slice (Rect.unit (s := S1280x2048) ![128, 0] S128x2048.size inb_S1280x2048_S128x2048_128_0) (fun _ => rfl)).view.WordExact}
    {hdst : (bM.slice (Rect.unit (s := S1280x2048) ![1152, 0] S128x2048.size inb_S1280x2048_S128x2048_1152_0) (fun _ => rfl)).view.WordExact}
    {hsem : DmaTarget.Typed .vmem sem (.remote (Dev.tc n' : Thread nD τ)
      (bM.slice (Rect.unit (s := S1280x2048) ![1152, 0] S128x2048.size inb_S1280x2048_S128x2048_1152_0) (fun _ => rfl)) sS hsc)}
    {α : Type} {Q : α → sProp 𝕄} {kk : PUnit → Prog (TpuEff nD τ sig (Elt F) Λ₀ .tc) α} :
    iprop(recs A K ∗ ow c (dues {0, 9} c) ∗ lToks c ∗ bandPt c loS fullShare.right (bandC A c) ∗ landL c)
      ⊢ iprop(((ow c (dues {0, 8, 9} c) ∗ loK A c) -∗ WP c (kk ⟨⟩) Q)
          -∗ WP c (.op (.enqueueDma (bM.slice (Rect.unit (s := S1280x2048) ![128, 0] S128x2048.size inb_S1280x2048_S128x2048_128_0) (fun _ => rfl))
            (.remote (Dev.tc n' : Thread nD τ) (bM.slice (Rect.unit (s := S1280x2048) ![1152, 0] S128x2048.size inb_S1280x2048_S128x2048_1152_0) (fun _ => rfl)) sS hsc)
            sem hsrc hdst hsem) kk) Q) := by
  rw [lToks_eq c h, landL_eq c h, loK_eq A c h, ← crd_of c 1 (by clear hsem hn; revert h; revert c; decide),
    show dues {0, 8, 9} c = (dues {0, 9} c).erase (lc c, 8) by clear hsem hn; revert h; revert c; decide]
  unfold bot bandPt
  iintro ⟨#H, HO, ⟨Ht1, Ht2⟩, Hs, ⟨%fd, Hd⟩⟩
  have hS : (lc c, 8) ∈ dues {0, 9} c := by clear hsem hn; revert h; revert c; decide
  have h1 : c ∈ dutF (c, 1) := by clear hsem hn; revert h; revert c; decide
  have h2 : c ∈ dutF (lc c, 8) := by clear hsem hn; revert h; revert c; decide
  have hp1 : bandPt c loS fullShare.right (bandC A c) ⊢ pay A c 1 c := .rfl
  have hp2 : ((bM.slice (Rect.unit (s := S1280x2048) ![1152, 0] S128x2048.size inb_S1280x2048_S128x2048_1152_0) (fun _ => rfl)).view.loc (lc c : Thread nD τ) ↦[(bM.slice (Rect.unit (s := S1280x2048) ![1152, 0] S128x2048.size inb_S1280x2048_S128x2048_1152_0) (fun _ => rfl)).view.set]{fullShare}
      ((bM.slice (Rect.unit (s := S1280x2048) ![1152, 0] S128x2048.size inb_S1280x2048_S128x2048_1152_0) (fun _ => rfl)).view.write (Elt F) fd ((bM.slice (Rect.unit (s := S1280x2048) ![128, 0] S128x2048.size inb_S1280x2048_S128x2048_128_0) (fun _ => rfl)).view.read (Elt F) (bandC A c)) Finset.univ) : sProp 𝕄) ⊢ pay A (lc c) 8 c := by
    refine Entails.of_eq ?_
    show _ = bandPt (lc c) botS fullShare (bandC A (lc c))
    exact pointsTo_congr fun i hi => left_landed A c h fd i hi
  have key := @wp_send F _ A K c (lc c) n' hn 1 8 (dues {0, 9} c) hS h1 h2 S128x2048 .bf16 (bM.slice (Rect.unit (s := S1280x2048) ![128, 0] S128x2048.size inb_S1280x2048_S128x2048_128_0) (fun _ => rfl)) (bM.slice (Rect.unit (s := S1280x2048) ![1152, 0] S128x2048.size inb_S1280x2048_S128x2048_1152_0) (fun _ => rfl)) sS sem hsS hsem' hsc hsrc hdst hsem
    fullShare.right (bandC A c) fd (by subst hsem'; rfl) rfl hp1 hp2 α Q kk (by routes)
  iapply key
  isplitr; · iexact H
  isplitl [HO]; · iexact HO
  isplitl [Ht1]; · iexact Ht1
  isplitl [Ht2]; · iexact Ht2
  isplitl [Hs] <;> iassumption

/-- its last rows to the right. -/
theorem send_r (c n' : Dev nD) (h : c ≠ 3) (hn : n' = rc c) {sS sem : SemLoc sig} (hsS : csem 2 = sS) (hsem' : csem 7 = sem)
    {hsc : (bM.slice (Rect.unit (s := S1280x2048) ![0, 0] S128x2048.size inb_S1280x2048_S128x2048_0_0) (fun _ => rfl)).view.ref.isScScratch = false}
    {hsrc : (bM.slice (Rect.unit (s := S1280x2048) ![1024, 0] S128x2048.size inb_S1280x2048_S128x2048_1024_0) (fun _ => rfl)).view.WordExact}
    {hdst : (bM.slice (Rect.unit (s := S1280x2048) ![0, 0] S128x2048.size inb_S1280x2048_S128x2048_0_0) (fun _ => rfl)).view.WordExact}
    {hsem : DmaTarget.Typed .vmem sem (.remote (Dev.tc n' : Thread nD τ)
      (bM.slice (Rect.unit (s := S1280x2048) ![0, 0] S128x2048.size inb_S1280x2048_S128x2048_0_0) (fun _ => rfl)) sS hsc)}
    {α : Type} {Q : α → sProp 𝕄} {kk : PUnit → Prog (TpuEff nD τ sig (Elt F) Λ₀ .tc) α} :
    iprop(recs A K ∗ ow c (dues {0, 8, 9} c) ∗ rToks c ∗ bandPt c hiS fullShare.right (bandC A c) ∗ landR c)
      ⊢ iprop(((ow c (dues {0, 7, 8, 9} c) ∗ hiK A c) -∗ WP c (kk ⟨⟩) Q)
          -∗ WP c (.op (.enqueueDma (bM.slice (Rect.unit (s := S1280x2048) ![1024, 0] S128x2048.size inb_S1280x2048_S128x2048_1024_0) (fun _ => rfl))
            (.remote (Dev.tc n' : Thread nD τ) (bM.slice (Rect.unit (s := S1280x2048) ![0, 0] S128x2048.size inb_S1280x2048_S128x2048_0_0) (fun _ => rfl)) sS hsc)
            sem hsrc hdst hsem) kk) Q) := by
  rw [rToks_eq c h, landR_eq c h, hiK_eq A c h, ← crd_of c 2 (by clear hsem hn; revert h; revert c; decide),
    show dues {0, 7, 8, 9} c = (dues {0, 8, 9} c).erase (rc c, 7) by clear hsem hn; revert h; revert c; decide]
  unfold top bandPt
  iintro ⟨#H, HO, ⟨Ht1, Ht2⟩, Hs, ⟨%fd, Hd⟩⟩
  have hS : (rc c, 7) ∈ dues {0, 8, 9} c := by clear hsem hn; revert h; revert c; decide
  have h1 : c ∈ dutF (c, 2) := by clear hsem hn; revert h; revert c; decide
  have h2 : c ∈ dutF (rc c, 7) := by clear hsem hn; revert h; revert c; decide
  have hp1 : bandPt c hiS fullShare.right (bandC A c) ⊢ pay A c 2 c := .rfl
  have hp2 : ((bM.slice (Rect.unit (s := S1280x2048) ![0, 0] S128x2048.size inb_S1280x2048_S128x2048_0_0) (fun _ => rfl)).view.loc (rc c : Thread nD τ) ↦[(bM.slice (Rect.unit (s := S1280x2048) ![0, 0] S128x2048.size inb_S1280x2048_S128x2048_0_0) (fun _ => rfl)).view.set]{fullShare}
      ((bM.slice (Rect.unit (s := S1280x2048) ![0, 0] S128x2048.size inb_S1280x2048_S128x2048_0_0) (fun _ => rfl)).view.write (Elt F) fd ((bM.slice (Rect.unit (s := S1280x2048) ![1024, 0] S128x2048.size inb_S1280x2048_S128x2048_1024_0) (fun _ => rfl)).view.read (Elt F) (bandC A c)) Finset.univ) : sProp 𝕄) ⊢ pay A (rc c) 7 c := by
    refine Entails.of_eq ?_
    show _ = bandPt (rc c) topS fullShare (bandC A (rc c))
    exact pointsTo_congr fun i hi => right_landed A c h fd i hi
  have key := @wp_send F _ A K c (rc c) n' hn 2 7 (dues {0, 8, 9} c) hS h1 h2 S128x2048 .bf16 (bM.slice (Rect.unit (s := S1280x2048) ![1024, 0] S128x2048.size inb_S1280x2048_S128x2048_1024_0) (fun _ => rfl)) (bM.slice (Rect.unit (s := S1280x2048) ![0, 0] S128x2048.size inb_S1280x2048_S128x2048_0_0) (fun _ => rfl)) sS sem hsS hsem' hsc hsrc hdst hsem
    fullShare.right (bandC A c) fd (by subst hsem'; rfl) rfl hp1 hp2 α Q kk (by routes)
  iapply key
  isplitr; · iexact H
  isplitl [HO]; · iexact HO
  isplitl [Ht1]; · iexact Ht1
  isplitl [Ht2]; · iexact Ht2
  isplitl [Hs] <;> iassumption

/-! ## The second part of the kernel -/

/-- Before the second part: the barrier is still to wait for, the keys are stored. -/
def pre13 (c : Dev nD) : sProp 𝕄 :=
  iprop(recs A K ∗ sigPost c ∗ crd c 0 ∗ pos c 0 ∗ midK A c ∗ keepT c ∗ keepB c ∗ keepG c ∗ gToks c ∗ lToks c ∗ rToks c
    ∗ blk c cc0_stg0_0 (A.x c) ∗ blk c cc0_stg1_0 (A.wq c) ∗ (∃ f, blk (F := F) c cc0_scratch2 f))
/-- After it: every transfer that the device starts with is under way, the own rows are stored. -/
def post13 (c : Dev nD) : sProp 𝕄 :=
  iprop(ow c (dues {0, 7, 8, 9} c) ∗ done A c 0 ∗ landP c ∗ bandPt c midS fullShare.left (bandC A c) ∗ bandPt c mmS fullShare.right (bandC A c)
    ∗ topK A c ∗ botK A c ∗ gK A c ∗ loK A c ∗ hiK A c
    ∗ blk c cc0_stg0_0 (A.x c) ∗ blk c cc0_stg1_0 (A.wq c) ∗ blk c cc0_scratch2 (xb A c))

/-- The band's own rows, both halves stored. -/
theorem band_filled (c : Dev nD) (f : Vec F S1280x2048 .bf16) :
    ((bM.access (Rect.unit (s := S1280x2048) ![128, 1024] S1024x1024.size inb_S1280x2048_S1024x1024_128_1024) : View sig .tc _ _ _).loc (c : Thread nD τ)
      ↦[midS]{fullShare} ((bM.access (Rect.unit (s := S1280x2048) ![128, 1024] S1024x1024.size inb_S1280x2048_S1024x1024_128_1024) : View sig .tc _ _ _).write (Elt F)
      ((bM.access (Rect.unit (s := S1280x2048) ![128, 0] S1024x1024.size inb_S1280x2048_S1024x1024_128_0) : View sig .tc _ _ _).write (Elt F) f
        (kb A c) Finset.univ) (k0_pay31 (k0_pay30 (A.v c))) Finset.univ) : sProp 𝕄) ⊢ bandPt c midS fullShare (bandC A c) :=
  Entails.of_eq (pointsTo_congr fun i hi => band_stored A c f i hi)

/-- Whole square buffers read and written. -/
theorem read_xb (f : Vec F S1024x1024 .bf16) : xbM.view.readAt (Elt F) (Rect.unit (s := S1024x1024) ![0, 0] S1024x1024.size inb_S1024x1024_S1024x1024_0_0).toLoadRect f = f :=
  Memref.readAt_unit_zero (Elt F) cc0_scratch2 (funext fun a => by fin_cases a <;> rfl) _ _
/-- The whole query weights read are the weights. -/
theorem read_wq (f : Vec F S1024x1024 .bf16) : wqM.view.readAt (Elt F) (Rect.unit (s := S1024x1024) ![0, 0] S1024x1024.size inb_S1024x1024_S1024x1024_0_0).toLoadRect f = f :=
  Memref.readAt_unit_zero (Elt F) cc0_stg1_0 (funext fun a => by fin_cases a <;> rfl) _ _
/-- A store of the whole buffer of x leaves what was stored. -/
theorem write_xb (f w : Vec F S1024x1024 .bf16) : (xbM.access (Rect.unit (s := S1024x1024) ![0, 0] S1024x1024.size inb_S1024x1024_S1024x1024_0_0) : View sig .tc _ _ _).write (Elt F) f w Finset.univ = w :=
  Memref.write_access_unit_zero_univ (Elt F) cc0_scratch2 (funext fun a => by fin_cases a <;> rfl) _ _ _

/-- The rows 0 to 127 are the left halo. -/
theorem top_rows (i : S1280x2048.Idx) (h0 : 0 ≤ (i 0).val) (h1 : (i 0).val < 0 + 128) : i ∈ topS := (mem_topS i).mpr (by omega)
/-- The rows 1152 to 1279 are the right halo. -/
theorem bot_rows (i : S1280x2048.Idx) (h0 : 1152 ≤ (i 0).val) (h1 : (i 0).val < 1152 + 128) : i ∈ botS := (mem_botS i).mpr h0
/-- The first 32 own rows lie among the own rows. -/
theorem glob_rows (i : S1280x2048.Idx) (h0 : 128 ≤ (i 0).val) (h1 : (i 0).val < 128 + 32) : i ∈ midS := (mem_midS i).mpr ⟨h0, by omega⟩

/-- A device without the outer halo, or without global rows to send, goes on as it is. -/
theorem topK_skip : ∀ c : Dev nD, c ≠ 0 → (keepT (F := F) c ⊢ topK A c) :=
  dev_cases (fun h => absurd rfl h) (fun _ => .rfl) (fun _ => .rfl) (fun _ => .rfl)
/-- Off device 3 nothing is kept of the right halo. -/
theorem botK_skip : ∀ c : Dev nD, c ≠ 3 → (keepB (F := F) c ⊢ botK A c) :=
  dev_cases (fun _ => .rfl) (fun _ => .rfl) (fun _ => .rfl) (fun h => absurd rfl h)
/-- Off device 0 there are no global rows to send. -/
theorem gK_emp : ∀ c : Dev nD, c ≠ 0 → gK A c = iprop(emp) :=
  dev_cases (fun h => absurd rfl h) (fun _ => rfl) (fun _ => rfl) (fun _ => rfl)
/-- Off device 0 the sending of the global rows is skipped. -/
theorem gK_skip (c : Dev nD) (h : c ≠ 0) :
    iprop(recs A K ∗ ow c (dues {0} c) ∗ gToks c ∗ landG c ∗ keepG c ∗ bandPt c midS fullShare (bandC A c) ∗ blk c cc0_scratch2 (xb A c))
      ⊢ iprop(ow c (dues {0, 9} c) ∗ gK A c ∗ bandPt c midS fullShare (bandC A c) ∗ blk c cc0_scratch2 (xb A c)) := by
  rw [gK_emp A c h, show dues {0, 9} c = dues {0} c by revert h; revert c; decide]
  iintro ⟨-, HO, -, -, -, Hb, Hx⟩
  isplitl [HO]; · iexact HO
  isplitr; · iempintro
  isplitl [Hb] <;> iassumption

set_option maxHeartbeats 1000000 in
/-- The second part: the values and x stored, the outer halos zeroed, the barrier, and the transfers started. -/
theorem part13 (c : Dev nD) (v5 v7 : BitVec 32) (Kt : _ → sProp 𝕄) :
    iprop(pre13 A K c ∗ (post13 A c -∗ Kt ⟨k0_pay37 (A.wq c), k0_pay38 (A.wq c) (xb A c)⟩))
      ⊢ WP c (k0_part13 (F := F) xM (Memref.isWhole_whole _) wqM (Memref.isWhole_whole _) kM (Memref.isWhole_whole _) vM (Memref.isWhole_whole _) woM (Memref.isWhole_whole _) oM (Memref.isWhole_whole _) bM (Memref.isWhole_whole _) gM (Memref.isWhole_whole _) xbM (Memref.isWhole_whole _) qM (Memref.isWhole_whole _) cM (Memref.isWhole_whole _) pM (Memref.isWhole_whole _) rM (Memref.isWhole_whole _) cc0_scratch7 cc0_scratch8 c (idw c) v5 v7
          (SemArray.scalar (sig.barrier 0 rfl)) (k0_pay30 (A.v c))) Kt := by
  simp only [k0_part13_eq_skeleton]; unfold k0_part13_skel
  simp only [semWaitWord, Prog.lift, Prog.bind_op, Prog.bind_ret, Prog.pure_eq_ret]
  unfold pre13 midK blk bandPt
  iintro ⟨⟨#H, HO, Hc, Hp, ⟨%fb, Hb⟩, HkT, HkB, HkG, HtG, HtL, HtR, Hx, Hwq, ⟨%fx, Hxb⟩⟩, HK⟩
  iapply (wp_load 𝒱₀ (c : Thread nD τ) none Set.univ (m := bM) (S := midS) (band_sub _ mid_rows)) $$ Hb; iintro Hb
  iapply (wp_store 𝒱₀ (c : Thread nD τ) none Set.univ (m := bM)
    (r := Rect.unit (s := S1280x2048) ![128, 1024] S1024x1024.size inb_S1280x2048_S1024x1024_128_1024) (Mk := Finset.univ) (S := midS) (band_sub' _ mid_rows)) $$ Hb; iintro Hb
  ihave Hb := (band_filled A c fb) $$ Hb
  iapply (wp_load 𝒱₀ (c : Thread nD τ) none Set.univ (m := xM) (Finset.subset_univ _)) $$ Hx; iintro Hx
  rw [read_x]
  iapply (wp_load 𝒱₀ (c : Thread nD τ) none Set.univ (m := xbM) (Finset.subset_univ _)) $$ Hxb; iintro Hxb
  iapply (wp_store 𝒱₀ (c : Thread nD τ) none Set.univ (m := xbM)
    (r := Rect.unit (s := S1024x1024) ![0, 0] S1024x1024.size inb_S1024x1024_S1024x1024_0_0) (Mk := Finset.univ) (Finset.subset_univ _)) $$ Hxb; iintro Hxb
  rw [write_xb]
  -- the outer halos
  iapply (wp_if c (keepT c) (topK A c) (fun h => topK_skip A c (by revert h; revert c; decide))
    (fun h => by
      obtain rfl : c = 0 := by revert h; revert c; decide
      rw [show keepT (F := F) 0 = iprop(∃ f, bandPt (F := F) 0 topS fullShare f) from rfl, show topK A 0 = bandPt 0 topS fullShare (bandC A 0) from rfl]
      unfold bandPt
      iintro ⟨⟨%f, Hb⟩, HK⟩
      iapply (wp_load 𝒱₀ ((0 : Dev nD) : Thread nD τ) none Set.univ (m := bM) (S := topS) (band_sub _ top_rows)) $$ Hb; iintro Hb
      iapply (wp_store 𝒱₀ ((0 : Dev nD) : Thread nD τ) none Set.univ (m := bM)
        (r := Rect.unit (s := S1280x2048) ![0, 0] S128x2048.size inb_S1280x2048_S128x2048_0_0) (Mk := Finset.univ) (S := topS) (band_sub' _ top_rows)) $$ Hb; iintro Hb
      iapply HK
      ihave Hb := (Entails.of_eq (pointsTo_congr fun i hi => top_stored A f i hi)) $$ Hb
      iexact Hb)) $$ HkT
  iintro HkT
  iapply (wp_if c (keepB c) (botK A c) (fun h => botK_skip A c (by revert h; revert c; decide))
    (fun h => by
      obtain rfl : c = 3 := by revert h; revert c; decide
      rw [show keepB (F := F) 3 = iprop(∃ f, bandPt (F := F) 3 botS fullShare f) from rfl, show botK A 3 = bandPt 3 botS fullShare (bandC A 3) from rfl]
      unfold bandPt
      iintro ⟨⟨%f, Hb⟩, HK⟩
      iapply (wp_load 𝒱₀ ((3 : Dev nD) : Thread nD τ) none Set.univ (m := bM) (S := botS) (band_sub _ bot_rows)) $$ Hb; iintro Hb
      iapply (wp_store 𝒱₀ ((3 : Dev nD) : Thread nD τ) none Set.univ (m := bM)
        (r := Rect.unit (s := S1280x2048) ![1152, 0] S128x2048.size inb_S1280x2048_S128x2048_1152_0) (Mk := Finset.univ) (S := botS) (band_sub' _ bot_rows)) $$ Hb; iintro Hb
      iapply HK
      ihave Hb := (Entails.of_eq (pointsTo_congr fun i hi => bot_stored A f i hi)) $$ Hb
      iexact Hb)) $$ HkB
  iintro HkB
  -- the barrier
  unfold sigPost
  iapply (wp_wait A K c 0 (dues {0} c) (by revert c; decide) (by revert c; decide) (wpE_semWait_eq 𝒱₀ (c : Thread nD τ) none Set.univ)) $$ [HO Hc Hp]
  · isplitr; · iexact H
    isplitl [HO]; · iexact HO
    isplitl [Hc] <;> iassumption
  iintro ⟨HO, Hdone, Hgot⟩
  ihave Hgot := (bar_got A c) $$ Hgot
  icases Hgot with ⟨HlG, HlL, HlR, HlP⟩
  -- the global rows
  iapply (wp_if c (iprop(recs A K ∗ ow c (dues {0} c) ∗ gToks c ∗ landG c ∗ keepG c ∗ bandPt c midS fullShare (bandC A c) ∗ blk c cc0_scratch2 (xb A c)))
    (iprop(ow c (dues {0, 9} c) ∗ gK A c ∗ bandPt c midS fullShare (bandC A c) ∗ blk c cc0_scratch2 (xb A c)))
    (fun h => gK_skip A K c (by revert h; revert c; decide))
    (fun h => by
      obtain rfl : c = 0 := by revert h; revert c; decide
      rw [show gToks (F := F) 0 = iprop((tok (0, 4) 0 ∗ tok (1, 9) 0) ∗ (tok (0, 5) 0 ∗ tok (2, 9) 0) ∗ (tok (0, 6) 0 ∗ tok (3, 9) 0)) from rfl,
        show landG (F := F) 0 = iprop(gb (F := F) 1 ∗ gb (F := F) 2 ∗ gb (F := F) 3) from rfl, show keepG (F := F) 0 = iprop(∃ f, gPt (F := F) 0 fullShare f) from rfl,
        show gK A 0 = iprop(gPt 0 fullShare.left (gC A) ∗ crd 0 4 ∗ crd 0 5 ∗ crd 0 6) from rfl]
      unfold blk
      iintro ⟨⟨#H, HO, ⟨Ht1, Ht2, Ht3⟩, ⟨Hl1, Hl2, Hl3⟩, ⟨%fg, Hg⟩, Hb, Hxb⟩, HK⟩
      unfold bandPt gPt
      rw [g_univ]
      iapply (wp_load 𝒱₀ ((0 : Dev nD) : Thread nD τ) none Set.univ (m := bM) (S := midS) (band_sub _ glob_rows)) $$ Hb; iintro Hb
      iapply (wp_load 𝒱₀ ((0 : Dev nD) : Thread nD τ) none Set.univ (m := gM) (Finset.subset_univ _)) $$ Hg; iintro Hg
      iapply (wp_store 𝒱₀ ((0 : Dev nD) : Thread nD τ) none Set.univ (m := gM)
        (r := Rect.unit (s := S32x3072) ![0, 0] S32x2048.size inb_S32x3072_S32x2048_0_0) (Mk := Finset.univ) (Finset.subset_univ _)) $$ Hg; iintro Hg
      iapply (wp_load 𝒱₀ ((0 : Dev nD) : Thread nD τ) none Set.univ (m := xbM) (Finset.subset_univ _)) $$ Hxb; iintro Hxb
      iapply (wp_load 𝒱₀ ((0 : Dev nD) : Thread nD τ) none Set.univ (m := gM) (Finset.subset_univ _)) $$ Hg; iintro Hg
      iapply (wp_store 𝒱₀ ((0 : Dev nD) : Thread nD τ) none Set.univ (m := gM)
        (r := Rect.unit (s := S32x3072) ![0, 2048] S32x1024.size inb_S32x3072_S32x1024_0_2048) (Mk := Finset.univ) (Finset.subset_univ _)) $$ Hg; iintro Hg
      rw [g_stored]
      ihave Hg := (show _ ⊢ gPt 0 fullShare (gC A) by unfold gPt; rw [g_univ]) $$ Hg
      ihave Hg := (g_share 0 fullShare (gC A)).1 $$ Hg
      icases Hg with ⟨Hg0, Hg⟩
      ihave Hg := (g_share 0 fullShare.right (gC A)).1 $$ Hg
      icases Hg with ⟨Hg1, Hg⟩
      ihave Hg := (g_share 0 fullShare.right.right (gC A)).1 $$ Hg
      icases Hg with ⟨Hg2, Hg3⟩
      iapply (send_g A K 0 1 _ rfl 4 (dues {0} 0) (by decide) rfl (by decide) rfl rfl) $$ [HO Ht1 Hg1 Hl1]
      · isplitr; · iexact H
        isplitl [HO]; · iexact HO
        isplitl [Ht1]; · iexact Ht1
        isplitl [Hg1]; · iexact Hg1
        unfold gb gPt; iexact Hl1
      iintro ⟨HO, Hc1⟩
      iapply (send_g A K 1 2 _ rfl 5 ((dues {0} 0).erase (1, 9)) (by decide) rfl (by decide) rfl rfl) $$ [HO Ht2 Hg2 Hl2]
      · isplitr; · iexact H
        isplitl [HO]; · iexact HO
        isplitl [Ht2]; · iexact Ht2
        isplitl [Hg2]; · iexact Hg2
        unfold gb gPt; iexact Hl2
      iintro ⟨HO, Hc2⟩
      iapply (send_g A K 2 3 _ rfl 6 (((dues {0} 0).erase (1, 9)).erase (2, 9)) (by decide) rfl (by decide) rfl rfl) $$ [HO Ht3 Hg3 Hl3]
      · isplitr; · iexact H
        isplitl [HO]; · iexact HO
        isplitl [Ht3]; · iexact Ht3
        isplitl [Hg3]; · iexact Hg3
        unfold gb gPt; iexact Hl3
      iintro ⟨HO, Hc3⟩
      iapply HK
      isplitl [HO]
      · rw [show dues {0, 9} 0 = (((dues {0} 0).erase (1, 9)).erase (2, 9)).erase (3, 9) by decide]; iexact HO
      isplitl [Hg0 Hc1 Hc2 Hc3]
      · isplitl [Hg0]; · (unfold gPt; rw [g_univ]; iexact Hg0)
        isplitl [Hc1]; · iexact Hc1
        isplitl [Hc2] <;> iassumption
      isplitl [Hb] <;> iassumption)) $$ [HO HtG HlG HkG Hb Hxb]
  · isplitr; · iexact H
    isplitl [HO]; · iexact HO
    isplitl [HtG]; · iexact HtG
    isplitl [HlG]; · iexact HlG
    isplitl [HkG]; · iexact HkG
    isplitl [Hb]; · iexact Hb
    unfold blk; iexact Hxb
  iintro ⟨HO, HgK, Hb, Hxb⟩
  ihave Hb := (band_share c midS (bandC A c)).1 $$ Hb
  icases Hb with ⟨HbL, HbR⟩
  ihave HbR := (band_mid c fullShare.right (bandC A c)).1 $$ HbR
  icases HbR with ⟨Hlo, Hmm, Hhi⟩
  -- the halos
  iapply (wp_if c (iprop(recs A K ∗ ow c (dues {0, 9} c) ∗ lToks c ∗ bandPt c loS fullShare.right (bandC A c) ∗ landL c)) (iprop(ow c (dues {0, 8, 9} c) ∗ loK A c))
    (fun h => by
      obtain rfl : c = 0 := by revert h; revert c; decide
      unfold loK
      iintro ⟨-, HO, -, Hb, -⟩
      isplitl [HO]
      · rw [show dues {0, 8, 9} 0 = dues {0, 9} 0 by decide]; iexact HO
      iexact Hb)
    (fun h => by
      have hc : c ≠ 0 := by revert h; revert c; decide
      iintro ⟨HP, HK⟩
      iapply (send_l A K c _ hc (by revert h hc; revert c; decide) rfl rfl) $$ HP
      iexact HK)) $$ [HO HtL Hlo HlL]
  · isplitr; · iexact H
    isplitl [HO]; · iexact HO
    isplitl [HtL]; · iexact HtL
    isplitl [Hlo] <;> iassumption
  iintro ⟨HO, Hlo⟩
  iapply (wp_if c (iprop(recs A K ∗ ow c (dues {0, 8, 9} c) ∗ rToks c ∗ bandPt c hiS fullShare.right (bandC A c) ∗ landR c)) (iprop(ow c (dues {0, 7, 8, 9} c) ∗ hiK A c))
    (fun h => by
      obtain rfl : c = 3 := by revert h; revert c; decide
      unfold hiK
      iintro ⟨-, HO, -, Hb, -⟩
      isplitl [HO]
      · rw [show dues {0, 7, 8, 9} 3 = dues {0, 8, 9} 3 by decide]; iexact HO
      iexact Hb)
    (fun h => by
      have hc : c ≠ 3 := by revert h; revert c; decide
      iintro ⟨HP, HK⟩
      iapply (send_r A K c _ hc (by revert h hc; revert c; decide) rfl rfl) $$ HP
      iexact HK)) $$ [HO HtR Hhi HlR]
  · isplitr; · iexact H
    isplitl [HO]; · iexact HO
    isplitl [HtR]; · iexact HtR
    isplitl [Hhi] <;> iassumption
  iintro ⟨HO, Hhi⟩
  unfold blk
  iapply (wp_load 𝒱₀ (c : Thread nD τ) none Set.univ (m := wqM) (Finset.subset_univ _)) $$ Hwq; iintro Hwq
  rw [read_wq]
  iapply (wp_load 𝒱₀ (c : Thread nD τ) none Set.univ (m := xbM) (Finset.subset_univ _)) $$ Hxb; iintro Hxb
  rw [read_xb, wp_ret]; imodintro
  iapply HK
  unfold post13 blk bandPt
  isplitl [HO]; · iexact HO
  isplitl [Hdone]; · iexact Hdone
  isplitl [HlP]; · iexact HlP
  isplitl [HbL]; · iexact HbL
  isplitl [Hmm]; · iexact Hmm
  isplitl [HkT]; · iexact HkT
  isplitl [HkB]; · iexact HkB
  isplitl [HgK]; · iexact HgK
  isplitl [Hlo]; · iexact Hlo
  isplitl [Hhi]; · iexact Hhi
  isplitl [Hx]; · iexact Hx
  isplitl [Hwq] <;> iassumption

end Cert.KProof

end
-- ==== Proof.Partials.lean ====
/-
The kernel's third stretch: the queries stored, the global rows received, and each device's partial sums for the
32 global queries computed head by head and sent to device 0.
-/
module

public import proofs.«01_k».proof.Proof.Transfers

@[expose] public section

noncomputable section

namespace Cert.KProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Ins F) (K : Dev nD × Fin 13 → ℕ)

/-! ## A wait at a cell with one payer -/

/-- What a single payer hands over. -/
theorem pay_one (c : Dev nD) (k : Fin 13) (d : Dev nD) (h : dutF (c, k) = {d}) : (bigSep (dutF (c, k)) fun d => pay A c k d) ⊢ pay A c k d := by
  rw [h]
  exact Entails.of_eq bigSep_singleton

/-- A cell with one payer receives that payer's amount in all. -/
theorem exp_one (c : Dev nD) (k : Fin 13) (d : Dev nD) (h : dutF (c, k) = {d}) : amt k = expN (c, k) := by
  unfold expN
  rw [h, Finset.card_singleton, Nat.one_mul]

/-- A wait for a transfer. -/
theorem wait_one (c : Dev nD) (k : Fin 13) (d : Dev nD) (hd : dutF (c, k) = {d}) (S : Finset (Dev nD × Fin 13)) (hS : ∀ ck ∈ S, lvF k < lvF ck.2)
    {w : TpuEff nD τ sig (Elt F) Λ₀ .tc PUnit}
    (hw : ∀ X : PUnit → sProp 𝕄, wpE (defs₀ (F := F)) 𝒱₀ (c : Thread nD τ) none Set.univ w X = waitSpec (c : Thread nD τ) Set.univ (csem k) (amt k) X)
    {α : Type} {Q : α → sProp 𝕄} {kk : PUnit → Prog (TpuEff nD τ sig (Elt F) Λ₀ .tc) α} :
    iprop(recs A K ∗ ow c S ∗ crd c k ∗ pos c k)
      ⊢ iprop(((ow c S ∗ done A c k ∗ pay A c k d) -∗ WP c (kk ⟨⟩) Q) -∗ WP c (.op w kk) Q) := by
  iintro HP HK
  iapply (wp_wait A K c k S hS (exp_one c k d hd) hw) $$ HP
  iintro ⟨HO, Hd, Hp⟩
  iapply HK
  isplitl [HO]; · iexact HO
  isplitl [Hd]; · iexact Hd
  iapply (pay_one A c k d hd)
  iexact Hp

/-! ## What is held of the global rows and of the partial sums -/

/-- The share of the global rows device `c` reads with: device 0 has lent the rest to its transfers. -/
def gshr : Dev nD → PosShare TreeShare := fun
  | 0 => fullShare.left
  | _ => fullShare
/-- The credits of device 0's three transfers. -/
def gCr : Dev nD → sProp 𝕄 := fun
  | 0 => iprop(crd 0 4 ∗ crd 0 5 ∗ crd 0 6)
  | _ => iprop(emp)
/-- The partial sums stored up to column `n`. -/
def psSt (c : Dev nD) (n : ℕ) : sProp 𝕄 := iprop(∃ f : Vec F S32x1152 .f32, ⌜psOK A c n f⌝ ∗ blk c cc0_scratch5 f)
/-- The partial sums kept on device 0, sent by the others. -/
def pK : Dev nD → sProp 𝕄 := fun
  | 0 => psSt A 0 1032
  | c => crd c 3

/-- Off device 0 the global rows are held whole. -/
theorem gshr_ne : ∀ c : Dev nD, c ≠ 0 → gshr c = fullShare :=
  dev_cases (fun h => absurd rfl h) (fun _ => rfl) (fun _ => rfl) (fun _ => rfl)
/-- Off device 0 there are no transfers of global rows. -/
theorem gCr_ne : ∀ c : Dev nD, c ≠ 0 → gCr (F := F) c = iprop(emp) :=
  dev_cases (fun h => absurd rfl h) (fun _ => rfl) (fun _ => rfl) (fun _ => rfl)
/-- Off device 0 the partial sums are on their way. -/
theorem pK_ne : ∀ c : Dev nD, c ≠ 0 → pK A c = crd c 3 :=
  dev_cases (fun h => absurd rfl h) (fun _ => rfl) (fun _ => rfl) (fun _ => rfl)

/-- One head's weighted sums go in. -/
theorem ps_step (c : Dev nD) (h : Fin 8) (n n' : ℕ) (hn : n = 128 * h.val) (hn' : n' = 128 * (h.val + 1)) {off : Fin 2 → Nat} (hoff : off = ![0, 128 * h.val])
    (inb : ∀ a, off a + S32x128.size a ≤ S32x1152.size a) {f : Vec F S32x1152 .f32} (hf : psOK A c n f) :
    ((View.whole cc0_scratch5).loc (c : Thread nD τ) ↦{fullShare} ((pM.access (Rect.unit (s := S32x1152) off S32x128.size inb) : View sig .tc _ _ _).write (Elt F) f (pnum A c h) Finset.univ) : sProp 𝕄)
      ⊢ psSt A c n' := by
  unfold psSt blk
  subst hn hn'
  iintro H
  iexists _
  isplitr
  · ipureintro; exact ps_num A c h hoff inb hf
  iexact H

/-- The plain sums go in. -/
theorem ps_last (c : Dev nD) {f : Vec F S32x1152 .f32} (hf : psOK A c 1024 f) :
    ((View.whole cc0_scratch5).loc (c : Thread nD τ) ↦{fullShare} ((pM.access (Rect.unit (s := S32x1152) ![0, 1024] S32x8.size inb_S32x1152_S32x8_0_1024) : View sig .tc _ _ _).write (Elt F) f (pden A c) Finset.univ) : sProp 𝕄)
      ⊢ psSt A c 1032 := by
  unfold psSt blk
  iintro H
  iexists _
  isplitr
  · ipureintro; exact ps_den A c hf
  iexact H

/-- The whole square buffer of queries is written. -/
theorem write_qs (f w : Vec F S1024x1024 .bf16) : (qM.access (Rect.unit (s := S1024x1024) ![0, 0] S1024x1024.size inb_S1024x1024_S1024x1024_0_0) : View sig .tc _ _ _).write (Elt F) f w Finset.univ = w :=
  Memref.write_access_unit_zero_univ (Elt F) cc0_scratch3 (funext fun a => by fin_cases a <;> rfl) _ _ _

/-- The band's own rows, as every load here reads them. -/
theorem own_rows (i : S1280x2048.Idx) (h0 : 128 ≤ (i 0).val) (h1 : (i 0).val < 128 + 1024) : i ∈ midS := mid_rows i h0 h1

/-! ## The queries and head 0 -/

/-- Before the queries: the global rows may be on their way, the own rows are readable. -/
def pre14 (c : Dev nD) : sProp 𝕄 :=
  iprop(recs A K ∗ ow c (dues {0, 7, 8, 9} c) ∗ crd c 9 ∗ pos c 9 ∗ gK A c ∗ bandPt c midS fullShare.left (bandC A c)
    ∗ (∃ f, blk (F := F) c cc0_scratch3 f) ∗ (∃ f, blk (F := F) c cc0_scratch5 f))
/-- After them: the global rows are in, the queries and head 0's partial sums are stored. -/
def post14 (c : Dev nD) : sProp 𝕄 :=
  iprop(ow c (dues {0, 7, 8, 9} c) ∗ done A c 9 ∗ gPt c (gshr c) (gC A) ∗ gCr c ∗ bandPt c midS fullShare.left (bandC A c)
    ∗ blk c cc0_scratch3 (qsC A c) ∗ psSt A c 128)

set_option maxHeartbeats 1000000 in
/-- The third part: the queries stored, the global rows waited for, head 0's sums stored. -/
theorem part14 (c : Dev nD) (Kt : _ → sProp 𝕄) :
    iprop(pre14 A K c ∗ (post14 A c -∗ Kt ⟨gq A c, gden (gq A c) 0 (kH A c 0), gexp (gq A c) 1 (kH A c 1),
        k0_pay45 (k0_pay37 (A.wq c)) (gM.view.readAt (Elt F) (Rect.unit (s := S32x3072) ![0, 2048] S32x1024.size inb_S32x3072_S32x1024_0_2048).toLoadRect (gC A)) (kH A c 1) (vH A c 1)⟩))
      ⊢ WP c (k0_part14 (F := F) xM (Memref.isWhole_whole _) wqM (Memref.isWhole_whole _) kM (Memref.isWhole_whole _) vM (Memref.isWhole_whole _) woM (Memref.isWhole_whole _) oM (Memref.isWhole_whole _) bM (Memref.isWhole_whole _) gM (Memref.isWhole_whole _) xbM (Memref.isWhole_whole _) qM (Memref.isWhole_whole _) cM (Memref.isWhole_whole _) pM (Memref.isWhole_whole _) rM (Memref.isWhole_whole _) cc0_scratch7 cc0_scratch8 (idw c) (k0_pay37 (A.wq c)) (k0_pay38 (A.wq c) (xb A c))) Kt := by
  simp only [k0_part14_eq_skeleton]; unfold k0_part14_skel
  simp only [semWaitWord, Prog.lift, Prog.bind_op, Prog.bind_ret, Prog.pure_eq_ret]
  unfold pre14 blk bandPt
  iintro ⟨⟨#H, HO, Hc, Hpos, HgK, Hb, ⟨%fq, Hq⟩, ⟨%f, Hp⟩⟩, HK⟩
  iapply (wp_load 𝒱₀ (c : Thread nD τ) none Set.univ (m := qM) (Finset.subset_univ _)) $$ Hq; iintro Hq
  iapply (wp_store 𝒱₀ (c : Thread nD τ) none Set.univ (m := qM)
    (r := Rect.unit (s := S1024x1024) ![0, 0] S1024x1024.size inb_S1024x1024_S1024x1024_0_0) (Mk := Finset.univ) (Finset.subset_univ _)) $$ Hq; iintro Hq
  rw [write_qs]
  iapply (wp_if c (iprop(recs A K ∗ ow c (dues {0, 7, 8, 9} c) ∗ crd c 9 ∗ pos c 9 ∗ gK A c))
    (iprop(ow c (dues {0, 7, 8, 9} c) ∗ done A c 9 ∗ gPt c (gshr c) (gC A) ∗ gCr c))
    (fun h => by
      obtain rfl : c = 0 := by revert h; revert c; decide
      rw [show gK A 0 = iprop(gPt 0 fullShare.left (gC A) ∗ crd 0 4 ∗ crd 0 5 ∗ crd 0 6) from rfl, show gCr (F := F) 0 = iprop(crd 0 4 ∗ crd 0 5 ∗ crd 0 6) from rfl,
        show gshr 0 = fullShare.left from rfl]
      iintro ⟨-, HO, -, Hpos, Hg, Hc⟩
      isplitl [HO]; · iexact HO
      isplitl [Hpos]; · (iapply (done_unused A 0 9 (by decide)); iexact Hpos)
      isplitl [Hg] <;> iassumption)
    (fun h => by
      have hc : c ≠ 0 := by revert h; revert c; decide
      have hd : dutF (c, 9) = {0} := by clear h; revert hc; revert c; decide
      have hS : ∀ ck ∈ dues {0, 7, 8, 9} c, lvF 9 < lvF ck.2 := by clear h hd hc; revert c; decide
      rw [gshr_ne c hc, gCr_ne c hc]
      iintro ⟨⟨#H, HO, Hc, Hpos, -⟩, HK⟩
      iapply (wait_one A K c 9 0 hd (dues {0, 7, 8, 9} c) hS (wpE_waitDma2_eq 𝒱₀ (c : Thread nD τ) none Set.univ)) $$ [HO Hc Hpos]
      · isplitr; · iexact H
        isplitl [HO]; · iexact HO
        isplitl [Hc] <;> iassumption
      iintro ⟨HO, Hd, Hg⟩
      iapply HK
      isplitl [HO]; · iexact HO
      isplitl [Hd]; · iexact Hd
      isplitl [Hg]; · (iapply (show pay A c 9 0 ⊢ gPt c fullShare (gC A) from .rfl); iexact Hg)
      iempintro)) $$ [HO Hc Hpos HgK]
  · isplitr; · iexact H
    isplitl [HO]; · iexact HO
    isplitl [Hc]; · iexact Hc
    isplitl [Hpos] <;> iassumption
  iintro ⟨HO, Hd, Hg, Hgc⟩
  unfold gPt
  rw [g_univ]
  iapply (wp_load 𝒱₀ (c : Thread nD τ) none Set.univ (m := gM) (Finset.subset_univ _)) $$ Hg; iintro Hg
  iapply (wp_load 𝒱₀ (c : Thread nD τ) none Set.univ (m := bM) (S := midS) (band_sub _ mid_rows)) $$ Hb; iintro Hb
  rw [show bM.view.readAt (Elt F) (Rect.unit (s := S1280x2048) ![128, 0] S1024x128.size inb_S1280x2048_S1024x128_128_0).toLoadRect (bandC A c) = kH A c 0 from rfl]
  iapply (wp_load 𝒱₀ (c : Thread nD τ) none Set.univ (m := bM) (S := midS) (band_sub _ mid_rows)) $$ Hb; iintro Hb
  rw [show bM.view.readAt (Elt F) (Rect.unit (s := S1280x2048) ![128, 1024] S1024x128.size inb_S1280x2048_S1024x128_128_1024).toLoadRect (bandC A c) = vH A c 0 from rfl]
  iapply (wp_load 𝒱₀ (c : Thread nD τ) none Set.univ (m := pM) (Finset.subset_univ _)) $$ Hp; iintro Hp
  have hp : psOK A c 0 f := fun i hi => absurd hi (Nat.not_lt_zero _)
  iapply (wp_store 𝒱₀ (c : Thread nD τ) none Set.univ (m := pM)
    (r := Rect.unit (s := S32x1152) ![0, 0] S32x128.size inb_S32x1152_S32x128_0_0) (Mk := Finset.univ) (Finset.subset_univ _)) $$ Hp; iintro Hp
  rw [show k0_pay42 (k0_pay37 (A.wq c)) (gM.view.readAt (Elt F) (Rect.unit (s := S32x3072) ![0, 2048] S32x1024.size inb_S32x3072_S32x1024_0_2048).toLoadRect (gC A)) (kH A c 0) (vH A c 0) = pnum A c 0 from rfl]
  ihave Hp := (ps_step A c 0 0 128 rfl rfl (off := ![0, 0]) rfl inb_S32x1152_S32x128_0_0 hp) $$ Hp
  unfold psSt blk
  icases Hp with ⟨%f, %hp, Hp⟩
  iapply (wp_load 𝒱₀ (c : Thread nD τ) none Set.univ (m := bM) (S := midS) (band_sub _ mid_rows)) $$ Hb; iintro Hb
  rw [show bM.view.readAt (Elt F) (Rect.unit (s := S1280x2048) ![128, 128] S1024x128.size inb_S1280x2048_S1024x128_128_128).toLoadRect (bandC A c) = kH A c 1 from rfl]
  iapply (wp_load 𝒱₀ (c : Thread nD τ) none Set.univ (m := bM) (S := midS) (band_sub _ mid_rows)) $$ Hb; iintro Hb
  rw [show bM.view.readAt (Elt F) (Rect.unit (s := S1280x2048) ![128, 1152] S1024x128.size inb_S1280x2048_S1024x128_128_1152).toLoadRect (bandC A c) = vH A c 1 from rfl]
  rw [show k0_pay40 (k0_pay37 (A.wq c)) (gM.view.readAt (Elt F) (Rect.unit (s := S32x3072) ![0, 2048] S32x1024.size inb_S32x3072_S32x1024_0_2048).toLoadRect (gC A)) = gq A c from rfl,
    show k0_pay43 (k0_pay37 (A.wq c)) (gM.view.readAt (Elt F) (Rect.unit (s := S32x3072) ![0, 2048] S32x1024.size inb_S32x3072_S32x1024_0_2048).toLoadRect (gC A)) (kH A c 0) = gden (gq A c) 0 (kH A c 0) from rfl,
    show k0_pay44 (k0_pay37 (A.wq c)) (gM.view.readAt (Elt F) (Rect.unit (s := S32x3072) ![0, 2048] S32x1024.size inb_S32x3072_S32x1024_0_2048).toLoadRect (gC A)) (kH A c 1) = gexp (gq A c) 1 (kH A c 1) from rfl, wp_ret]; imodintro
  iapply HK
  unfold post14 psSt blk bandPt gPt
  rw [g_univ]
  isplitl [HO]; · iexact HO
  isplitl [Hd]; · iexact Hd
  isplitl [Hg]; · iexact Hg
  isplitl [Hgc]; · iexact Hgc
  isplitl [Hb]; · iexact Hb
  isplitl [Hq]; · iexact Hq
  iexists f
  isplitr; · ipureintro; exact hp
  iexact Hp

/-! ## Heads 1 to 6 -/

set_option maxHeartbeats 1000000 in
/-- The fourth part: heads 1 to 3's weighted sums are stored, their plain sums handed on. -/
theorem part15 (c : Dev nD) (Kt : _ → sProp 𝕄) :
    iprop((bandPt c midS fullShare.left (bandC A c) ∗ psSt A c 128) ∗ ((bandPt c midS fullShare.left (bandC A c) ∗ psSt A c 512)
      -∗ Kt ⟨gden (gq A c) 1 (kH A c 1), gden (gq A c) 2 (kH A c 2), gden (gq A c) 3 (kH A c 3), kH A c 4, vH A c 4, k0_pay54 (gq A c)⟩))
      ⊢ WP c (k0_part15 (F := F) xM (Memref.isWhole_whole _) wqM (Memref.isWhole_whole _) kM (Memref.isWhole_whole _) vM (Memref.isWhole_whole _) woM (Memref.isWhole_whole _) oM (Memref.isWhole_whole _) bM (Memref.isWhole_whole _) gM (Memref.isWhole_whole _) xbM (Memref.isWhole_whole _) qM (Memref.isWhole_whole _) cM (Memref.isWhole_whole _) pM (Memref.isWhole_whole _) rM (Memref.isWhole_whole _) cc0_scratch7 cc0_scratch8 (gq A c) (gexp (gq A c) 1 (kH A c 1)) (k0_pay45 (k0_pay37 (A.wq c)) (gM.view.readAt (Elt F) (Rect.unit (s := S32x3072) ![0, 2048] S32x1024.size inb_S32x3072_S32x1024_0_2048).toLoadRect (gC A)) (kH A c 1) (vH A c 1))) Kt := by
  simp only [k0_part15_eq_skeleton]; unfold k0_part15_skel
  simp only [semWaitWord, Prog.lift, Prog.bind_op, Prog.bind_ret, Prog.pure_eq_ret]
  unfold psSt blk bandPt
  iintro ⟨⟨Hb, ⟨%f, %hp, Hp⟩⟩, HK⟩
  iapply (wp_load 𝒱₀ (c : Thread nD τ) none Set.univ (m := pM) (Finset.subset_univ _)) $$ Hp; iintro Hp
  iapply (wp_store 𝒱₀ (c : Thread nD τ) none Set.univ (m := pM)
    (r := Rect.unit (s := S32x1152) ![0, 128] S32x128.size inb_S32x1152_S32x128_0_128) (Mk := Finset.univ) (Finset.subset_univ _)) $$ Hp; iintro Hp
  rw [show k0_pay46 (k0_pay45 (k0_pay37 (A.wq c)) (gM.view.readAt (Elt F) (Rect.unit (s := S32x3072) ![0, 2048] S32x1024.size inb_S32x3072_S32x1024_0_2048).toLoadRect (gC A)) (kH A c 1) (vH A c 1)) = pnum A c 1 from rfl]
  ihave Hp := (ps_step A c 1 128 256 rfl rfl (off := ![0, 128]) rfl inb_S32x1152_S32x128_0_128 hp) $$ Hp
  unfold psSt blk
  icases Hp with ⟨%f, %hp, Hp⟩
  iapply (wp_load 𝒱₀ (c : Thread nD τ) none Set.univ (m := bM) (S := midS) (band_sub _ mid_rows)) $$ Hb; iintro Hb
  rw [show bM.view.readAt (Elt F) (Rect.unit (s := S1280x2048) ![128, 256] S1024x128.size inb_S1280x2048_S1024x128_128_256).toLoadRect (bandC A c) = kH A c 2 from rfl]
  iapply (wp_load 𝒱₀ (c : Thread nD τ) none Set.univ (m := bM) (S := midS) (band_sub _ mid_rows)) $$ Hb; iintro Hb
  rw [show bM.view.readAt (Elt F) (Rect.unit (s := S1280x2048) ![128, 1280] S1024x128.size inb_S1280x2048_S1024x128_128_1280).toLoadRect (bandC A c) = vH A c 2 from rfl]
  iapply (wp_load 𝒱₀ (c : Thread nD τ) none Set.univ (m := pM) (Finset.subset_univ _)) $$ Hp; iintro Hp
  iapply (wp_store 𝒱₀ (c : Thread nD τ) none Set.univ (m := pM)
    (r := Rect.unit (s := S32x1152) ![0, 256] S32x128.size inb_S32x1152_S32x128_0_256) (Mk := Finset.univ) (Finset.subset_univ _)) $$ Hp; iintro Hp
  rw [show k0_pay49 (gq A c) (kH A c 2) (vH A c 2) = pnum A c 2 from rfl]
  ihave Hp := (ps_step A c 2 256 384 rfl rfl (off := ![0, 256]) rfl inb_S32x1152_S32x128_0_256 hp) $$ Hp
  unfold psSt blk
  icases Hp with ⟨%f, %hp, Hp⟩
  iapply (wp_load 𝒱₀ (c : Thread nD τ) none Set.univ (m := bM) (S := midS) (band_sub _ mid_rows)) $$ Hb; iintro Hb
  rw [show bM.view.readAt (Elt F) (Rect.unit (s := S1280x2048) ![128, 384] S1024x128.size inb_S1280x2048_S1024x128_128_384).toLoadRect (bandC A c) = kH A c 3 from rfl]
  iapply (wp_load 𝒱₀ (c : Thread nD τ) none Set.univ (m := bM) (S := midS) (band_sub _ mid_rows)) $$ Hb; iintro Hb
  rw [show bM.view.readAt (Elt F) (Rect.unit (s := S1280x2048) ![128, 1408] S1024x128.size inb_S1280x2048_S1024x128_128_1408).toLoadRect (bandC A c) = vH A c 3 from rfl]
  iapply (wp_load 𝒱₀ (c : Thread nD τ) none Set.univ (m := pM) (Finset.subset_univ _)) $$ Hp; iintro Hp
  iapply (wp_store 𝒱₀ (c : Thread nD τ) none Set.univ (m := pM)
    (r := Rect.unit (s := S32x1152) ![0, 384] S32x128.size inb_S32x1152_S32x128_0_384) (Mk := Finset.univ) (Finset.subset_univ _)) $$ Hp; iintro Hp
  rw [show k0_pay52 (gq A c) (kH A c 3) (vH A c 3) = pnum A c 3 from rfl]
  ihave Hp := (ps_step A c 3 384 512 rfl rfl (off := ![0, 384]) rfl inb_S32x1152_S32x128_0_384 hp) $$ Hp
  unfold psSt blk
  icases Hp with ⟨%f, %hp, Hp⟩
  iapply (wp_load 𝒱₀ (c : Thread nD τ) none Set.univ (m := bM) (S := midS) (band_sub _ mid_rows)) $$ Hb; iintro Hb
  rw [show bM.view.readAt (Elt F) (Rect.unit (s := S1280x2048) ![128, 512] S1024x128.size inb_S1280x2048_S1024x128_128_512).toLoadRect (bandC A c) = kH A c 4 from rfl]
  iapply (wp_load 𝒱₀ (c : Thread nD τ) none Set.univ (m := bM) (S := midS) (band_sub _ mid_rows)) $$ Hb; iintro Hb
  rw [show bM.view.readAt (Elt F) (Rect.unit (s := S1280x2048) ![128, 1536] S1024x128.size inb_S1280x2048_S1024x128_128_1536).toLoadRect (bandC A c) = vH A c 4 from rfl]
  rw [show k0_pay47 (gexp (gq A c) 1 (kH A c 1)) = gden (gq A c) 1 (kH A c 1) from rfl, show k0_pay50 (gq A c) (kH A c 2) = gden (gq A c) 2 (kH A c 2) from rfl,
    show k0_pay53 (gq A c) (kH A c 3) = gden (gq A c) 3 (kH A c 3) from rfl]
  rw [wp_ret]; imodintro
  iapply HK
  isplitl [Hb]; · iexact Hb
  iexists f
  isplitr; · ipureintro; exact hp
  iexact Hp

set_option maxHeartbeats 1000000 in
/-- The fifth part: heads 4 to 6's weighted sums are stored, their plain sums handed on. -/
theorem part16 (c : Dev nD) (Kt : _ → sProp 𝕄) :
    iprop((bandPt c midS fullShare.left (bandC A c) ∗ psSt A c 512) ∗ ((bandPt c midS fullShare.left (bandC A c) ∗ psSt A c 896)
      -∗ Kt ⟨gden (gq A c) 4 (kH A c 4), gden (gq A c) 5 (kH A c 5), gden (gq A c) 6 (kH A c 6)⟩))
      ⊢ WP c (k0_part16 (F := F) xM (Memref.isWhole_whole _) wqM (Memref.isWhole_whole _) kM (Memref.isWhole_whole _) vM (Memref.isWhole_whole _) woM (Memref.isWhole_whole _) oM (Memref.isWhole_whole _) bM (Memref.isWhole_whole _) gM (Memref.isWhole_whole _) xbM (Memref.isWhole_whole _) qM (Memref.isWhole_whole _) cM (Memref.isWhole_whole _) pM (Memref.isWhole_whole _) rM (Memref.isWhole_whole _) cc0_scratch7 cc0_scratch8 (gq A c) (kH A c 4) (vH A c 4) (k0_pay54 (gq A c))) Kt := by
  simp only [k0_part16_eq_skeleton]; unfold k0_part16_skel
  simp only [semWaitWord, Prog.lift, Prog.bind_op, Prog.bind_ret, Prog.pure_eq_ret]
  unfold psSt blk bandPt
  iintro ⟨⟨Hb, ⟨%f, %hp, Hp⟩⟩, HK⟩
  iapply (wp_load 𝒱₀ (c : Thread nD τ) none Set.univ (m := pM) (Finset.subset_univ _)) $$ Hp; iintro Hp
  iapply (wp_store 𝒱₀ (c : Thread nD τ) none Set.univ (m := pM)
    (r := Rect.unit (s := S32x1152) ![0, 512] S32x128.size inb_S32x1152_S32x128_0_512) (Mk := Finset.univ) (Finset.subset_univ _)) $$ Hp; iintro Hp
  rw [show k0_pay56 (kH A c 4) (vH A c 4) (k0_pay54 (gq A c)) = pnum A c 4 from rfl]
  ihave Hp := (ps_step A c 4 512 640 rfl rfl (off := ![0, 512]) rfl inb_S32x1152_S32x128_0_512 hp) $$ Hp
  unfold psSt blk
  icases Hp with ⟨%f, %hp, Hp⟩
  iapply (wp_load 𝒱₀ (c : Thread nD τ) none Set.univ (m := bM) (S := midS) (band_sub _ mid_rows)) $$ Hb; iintro Hb
  rw [show bM.view.readAt (Elt F) (Rect.unit (s := S1280x2048) ![128, 640] S1024x128.size inb_S1280x2048_S1024x128_128_640).toLoadRect (bandC A c) = kH A c 5 from rfl]
  iapply (wp_load 𝒱₀ (c : Thread nD τ) none Set.univ (m := bM) (S := midS) (band_sub _ mid_rows)) $$ Hb; iintro Hb
  rw [show bM.view.readAt (Elt F) (Rect.unit (s := S1280x2048) ![128, 1664] S1024x128.size inb_S1280x2048_S1024x128_128_1664).toLoadRect (bandC A c) = vH A c 5 from rfl]
  iapply (wp_load 𝒱₀ (c : Thread nD τ) none Set.univ (m := pM) (Finset.subset_univ _)) $$ Hp; iintro Hp
  iapply (wp_store 𝒱₀ (c : Thread nD τ) none Set.univ (m := pM)
    (r := Rect.unit (s := S32x1152) ![0, 640] S32x128.size inb_S32x1152_S32x128_0_640) (Mk := Finset.univ) (Finset.subset_univ _)) $$ Hp; iintro Hp
  rw [show k0_pay59 (gq A c) (kH A c 5) (vH A c 5) = pnum A c 5 from rfl]
  ihave Hp := (ps_step A c 5 640 768 rfl rfl (off := ![0, 640]) rfl inb_S32x1152_S32x128_0_640 hp) $$ Hp
  unfold psSt blk
  icases Hp with ⟨%f, %hp, Hp⟩
  iapply (wp_load 𝒱₀ (c : Thread nD τ) none Set.univ (m := bM) (S := midS) (band_sub _ mid_rows)) $$ Hb; iintro Hb
  rw [show bM.view.readAt (Elt F) (Rect.unit (s := S1280x2048) ![128, 768] S1024x128.size inb_S1280x2048_S1024x128_128_768).toLoadRect (bandC A c) = kH A c 6 from rfl]
  iapply (wp_load 𝒱₀ (c : Thread nD τ) none Set.univ (m := bM) (S := midS) (band_sub _ mid_rows)) $$ Hb; iintro Hb
  rw [show bM.view.readAt (Elt F) (Rect.unit (s := S1280x2048) ![128, 1792] S1024x128.size inb_S1280x2048_S1024x128_128_1792).toLoadRect (bandC A c) = vH A c 6 from rfl]
  iapply (wp_load 𝒱₀ (c : Thread nD τ) none Set.univ (m := pM) (Finset.subset_univ _)) $$ Hp; iintro Hp
  iapply (wp_store 𝒱₀ (c : Thread nD τ) none Set.univ (m := pM)
    (r := Rect.unit (s := S32x1152) ![0, 768] S32x128.size inb_S32x1152_S32x128_0_768) (Mk := Finset.univ) (Finset.subset_univ _)) $$ Hp; iintro Hp
  rw [show k0_pay62 (gq A c) (kH A c 6) (vH A c 6) = pnum A c 6 from rfl]
  ihave Hp := (ps_step A c 6 768 896 rfl rfl (off := ![0, 768]) rfl inb_S32x1152_S32x128_0_768 hp) $$ Hp
  unfold psSt blk
  icases Hp with ⟨%f, %hp, Hp⟩
  rw [show k0_pay57 (kH A c 4) (k0_pay54 (gq A c)) = gden (gq A c) 4 (kH A c 4) from rfl, show k0_pay60 (gq A c) (kH A c 5) = gden (gq A c) 5 (kH A c 5) from rfl,
    show k0_pay63 (gq A c) (kH A c 6) = gden (gq A c) 6 (kH A c 6) from rfl]
  rw [wp_ret]; imodintro
  iapply HK
  isplitl [Hb]; · iexact Hb
  iexists f
  isplitr; · ipureintro; exact hp
  iexact Hp

/-! ## Head 7, the plain sums, and the partial sums on their way -/

/-- The receive cell on device 0 for slot `j`, and the device whose sums land there. -/
def k10 (j : Fin 3) : Fin 13 := ⟨10 + j.val, by omega⟩
/-- The device whose partial sums go into slot `j`. -/
def jd (j : Fin 3) : Dev nD := ⟨j.val + 1, by show _ < 4; omega⟩

/-- The receive semaphore of slot `j` hands over the slot, filled. -/
theorem pay_slot (j : Fin 3) (d : Dev nD) : pay A 0 (k10 j) d = slotGot A j := by fin_cases j <;> rfl
/-- The sender's two rights: its own send semaphore, and slot `j`'s receive semaphore. -/
theorem pToks_eq (j : Fin 3) : pToks (F := F) (jd j) = iprop(tok (jd j, 3) (jd j) ∗ tok (0, k10 j) (jd j)) := by fin_cases j <;> rfl
/-- The landing place that the sender was given is slot `j`. -/
theorem landP_eq (j : Fin 3) : landP (F := F) (jd j) = slot j := by fin_cases j <;> rfl
/-- The transfer's amount is that of the partial sums. -/
theorem amt_slot (j : Fin 3) : amt (k10 j) = NP := by fin_cases j <;> rfl

/-- Where the kernel does not send partial sums is device 0. -/
theorem c0_of11 : ∀ c : Dev nD, ¬ k0_cond11 c = 1#1 → c = 0 := by decide
/-- Where it does is a device after device 0. -/
theorem jd_of11 : ∀ c : Dev nD, k0_cond11 c = 1#1 → ∃ j : Fin 3, c = jd j := by decide
/-- The sender is not device 0. -/
theorem jd_ne : ∀ j : Fin 3, jd j ≠ 0 := by decide
/-- The receive semaphore that the kernel computes from its position. -/
theorem off1_jd : ∀ j : Fin 3, k0_off1 (jd j) = ![j.val + 3] := by decide
/-- The slot that the kernel computes from its position. -/
theorem off2_jd : ∀ j : Fin 3, k0_off2 (jd j) = ![j.val, 0, 0] := by decide
/-- That semaphore is the schedule's for slot `j`. -/
theorem sem_slot (j : Fin 3) {off : Fin 1 → Nat} (h : off = ![j.val + 3]) (inb : ∀ a, off a + S1.size a ≤ S6.size a) :
    csem (k10 j) = .dma ((cc0_scratch8.slice (Rect.unit (s := S6) off S1.size inb)).squeeze S_ squeezes_S1_S_).sem := by
  subst h
  fin_cases j <;> rfl

/-- The partial sums sent to device 0. -/
theorem send_p (j : Fin 3) (n' : Dev nD) (hn : n' = 0) {f : Vec F S32x1152 .f32} (hf : psOK A (jd j) 1032 f)
    {off : Fin 3 → Nat} (hoff : off = ![j.val, 0, 0]) {inb : ∀ a, off a + S1x32x1152.size a ≤ S3x32x1152.size a}
    {sS sem : SemLoc sig} (hsS : csem 3 = sS) (hsem' : csem (k10 j) = sem)
    {hsc : (((rM.slice (Rect.unit (s := S3x32x1152) off S1x32x1152.size inb) (fun _ => rfl)).squeeze S32x1152 squeezes_S1x32x1152_S32x1152)).view.ref.isScScratch = false}
    {hsrc : pM.view.WordExact} {hdst : (((rM.slice (Rect.unit (s := S3x32x1152) off S1x32x1152.size inb) (fun _ => rfl)).squeeze S32x1152 squeezes_S1x32x1152_S32x1152)).view.WordExact}
    {hsem : DmaTarget.Typed .vmem sem (.remote (Dev.tc n' : Thread nD τ) ((rM.slice (Rect.unit (s := S3x32x1152) off S1x32x1152.size inb) (fun _ => rfl)).squeeze S32x1152 squeezes_S1x32x1152_S32x1152) sS hsc)}
    {α : Type} {Q : α → sProp 𝕄} {kk : PUnit → Prog (TpuEff nD τ sig (Elt F) Λ₀ .tc) α} :
    iprop(recs A K ∗ ow (jd j) (dues {0, 7, 8, 9} (jd j)) ∗ pToks (jd j) ∗ blk (jd j) cc0_scratch5 f ∗ landP (jd j))
      ⊢ iprop(((ow (jd j) ∅ ∗ crd (jd j) 3) -∗ WP (jd j) (kk ⟨⟩) Q)
          -∗ WP (jd j) (.op (.enqueueDma pM (.remote (Dev.tc n' : Thread nD τ)
            ((rM.slice (Rect.unit (s := S3x32x1152) off S1x32x1152.size inb) (fun _ => rfl)).squeeze S32x1152 squeezes_S1x32x1152_S32x1152) sS hsc) sem hsrc hdst hsem) kk) Q) := by
  subst hoff
  rw [pToks_eq, landP_eq]
  unfold slot rPt
  iintro ⟨#H, HO, ⟨Ht1, Ht2⟩, Hs, ⟨%fd, Hd⟩⟩ HK
  have hS : (0, k10 j) ∈ dues {0, 7, 8, 9} (jd j) := by clear hsem' hsem hf hdst hsc inb; revert j; decide
  have he : (dues {0, 7, 8, 9} (jd j)).erase (0, k10 j) = ∅ := by clear hS hsem' hsem hf hdst hsc inb; revert j; decide
  have h1 : jd j ∈ dutF (jd j, 3) := by clear he hS hsem' hsem hf hdst hsc inb; revert j; decide
  have h1' : (dutF (jd j, 3)).card = 1 := by clear h1 he hS hsem' hsem hf hdst hsc inb; revert j; decide
  have h2 : jd j ∈ dutF (0, k10 j) := by clear h1' h1 he hS hsem' hsem hf hdst hsc inb; revert j; decide
  have hp1 : (pM.view.loc (jd j : Thread nD τ) ↦[pM.view.set]{fullShare} f : sProp 𝕄) ⊢ pay A (jd j) 3 (jd j) := by
    show _ ⊢ iprop(∃ f, pPt (F := F) (jd j) f)
    unfold pPt
    iintro H
    iexists f; iexact H
  have hp2 : (((rM.slice (Rect.unit (s := S3x32x1152) ![j.val, 0, 0] S1x32x1152.size inb) (fun _ => rfl)).squeeze S32x1152 squeezes_S1x32x1152_S32x1152).view.loc ((0 : Dev nD) : Thread nD τ)
      ↦[((rM.slice (Rect.unit (s := S3x32x1152) ![j.val, 0, 0] S1x32x1152.size inb) (fun _ => rfl)).squeeze S32x1152 squeezes_S1x32x1152_S32x1152).view.set]{fullShare}
      (((rM.slice (Rect.unit (s := S3x32x1152) ![j.val, 0, 0] S1x32x1152.size inb) (fun _ => rfl)).squeeze S32x1152 squeezes_S1x32x1152_S32x1152).view.write (Elt F) fd (pM.view.read (Elt F) f) Finset.univ) : sProp 𝕄)
      ⊢ pay A 0 (k10 j) (jd j) := by
    rw [pay_slot]
    unfold slotGot rPt
    iintro H
    iexists _
    isplitr
    · ipureintro
      exact fun i hi hi2 => slot_landed A j (jd j) rfl fd hf i hi hi2
    iexact H
  have key := @wp_send F _ A K (jd j) 0 n' hn 3 (k10 j) (dues {0, 7, 8, 9} (jd j)) hS h1 h2 S32x1152 .f32 pM
    ((rM.slice (Rect.unit (s := S3x32x1152) ![j.val, 0, 0] S1x32x1152.size inb) (fun _ => rfl)).squeeze S32x1152 squeezes_S1x32x1152_S32x1152) sS sem hsS hsem' hsc hsrc hdst hsem
    fullShare f fd (by rw [amt_slot]; subst hsem'; fin_cases j <;> rfl) (by rw [amt_slot]; rfl) hp1 hp2 α Q kk (by routes)
  rw [he, crd_of (jd j) 3 h1'] at key
  iapply key $$ [HO Ht1 Ht2 Hs Hd]
  · isplitr; · iexact H
    isplitl [HO]; · iexact HO
    isplitl [Ht1]; · iexact Ht1
    isplitl [Ht2]; · iexact Ht2
    isplitl [Hs]
    · rw [show pM.view.set = Finset.univ from View.set_whole _]
      unfold blk; iexact Hs
    iexact Hd
  iexact HK

set_option maxHeartbeats 1000000 in
/-- The last part of this stretch: head 7, the plain sums, and the sums sent off by every device but the first. -/
theorem part17 (c : Dev nD) (Kt : _ → sProp 𝕄) :
    iprop((recs A K ∗ ow c (dues {0, 7, 8, 9} c) ∗ pToks c ∗ landP c ∗ bandPt c midS fullShare.left (bandC A c) ∗ psSt A c 896)
      ∗ ((ow c ∅ ∗ bandPt c midS fullShare.left (bandC A c) ∗ pK A c)
        -∗ Kt ⟨k0_pay67, k0_pay68 (idw c), Scalar.muli (idw c) 1024#32, 512#32⟩))
      ⊢ WP c (k0_part17 (F := F) xM (Memref.isWhole_whole _) wqM (Memref.isWhole_whole _) kM (Memref.isWhole_whole _) vM (Memref.isWhole_whole _) woM (Memref.isWhole_whole _) oM (Memref.isWhole_whole _) bM (Memref.isWhole_whole _) gM (Memref.isWhole_whole _) xbM (Memref.isWhole_whole _) qM (Memref.isWhole_whole _) cM (Memref.isWhole_whole _) pM (Memref.isWhole_whole _) rM (Memref.isWhole_whole _) cc0_scratch7 cc0_scratch8 c (idw c) (gq A c) (gden (gq A c) 0 (kH A c 0)) (gden (gq A c) 1 (kH A c 1)) (gden (gq A c) 2 (kH A c 2)) (gden (gq A c) 3 (kH A c 3))
          (gden (gq A c) 4 (kH A c 4)) (gden (gq A c) 5 (kH A c 5)) (gden (gq A c) 6 (kH A c 6))) Kt := by
  simp only [k0_part17_eq_skeleton]; unfold k0_part17_skel
  simp only [semWaitWord, Prog.lift, Prog.bind_op, Prog.bind_ret, Prog.pure_eq_ret]
  unfold psSt blk bandPt
  iintro ⟨⟨#H, HO, Ht, Hl, Hb, ⟨%f, %hp, Hp⟩⟩, HK⟩
  iapply (wp_load 𝒱₀ (c : Thread nD τ) none Set.univ (m := bM) (S := midS) (band_sub _ mid_rows)) $$ Hb; iintro Hb
  rw [show bM.view.readAt (Elt F) (Rect.unit (s := S1280x2048) ![128, 896] S1024x128.size inb_S1280x2048_S1024x128_128_896).toLoadRect (bandC A c) = kH A c 7 from rfl]
  iapply (wp_load 𝒱₀ (c : Thread nD τ) none Set.univ (m := bM) (S := midS) (band_sub _ mid_rows)) $$ Hb; iintro Hb
  rw [show bM.view.readAt (Elt F) (Rect.unit (s := S1280x2048) ![128, 1920] S1024x128.size inb_S1280x2048_S1024x128_128_1920).toLoadRect (bandC A c) = vH A c 7 from rfl]
  iapply (wp_load 𝒱₀ (c : Thread nD τ) none Set.univ (m := pM) (Finset.subset_univ _)) $$ Hp; iintro Hp
  iapply (wp_store 𝒱₀ (c : Thread nD τ) none Set.univ (m := pM)
    (r := Rect.unit (s := S32x1152) ![0, 896] S32x128.size inb_S32x1152_S32x128_0_896) (Mk := Finset.univ) (Finset.subset_univ _)) $$ Hp; iintro Hp
  rw [show k0_pay65 (gq A c) (kH A c 7) (vH A c 7) = pnum A c 7 from rfl]
  ihave Hp := (ps_step A c 7 896 1024 rfl rfl (off := ![0, 896]) rfl inb_S32x1152_S32x128_0_896 hp) $$ Hp
  unfold psSt blk
  icases Hp with ⟨%f, %hp, Hp⟩
  iapply (wp_load 𝒱₀ (c : Thread nD τ) none Set.univ (m := pM) (Finset.subset_univ _)) $$ Hp; iintro Hp
  iapply (wp_store 𝒱₀ (c : Thread nD τ) none Set.univ (m := pM)
    (r := Rect.unit (s := S32x1152) ![0, 1024] S32x8.size inb_S32x1152_S32x8_0_1024) (Mk := Finset.univ) (Finset.subset_univ _)) $$ Hp; iintro Hp
  rw [show k0_pay66 (gq A c) (gden (gq A c) 0 (kH A c 0)) (gden (gq A c) 1 (kH A c 1)) (gden (gq A c) 2 (kH A c 2)) (gden (gq A c) 3 (kH A c 3))
    (gden (gq A c) 4 (kH A c 4)) (gden (gq A c) 5 (kH A c 5)) (gden (gq A c) 6 (kH A c 6)) (kH A c 7) = pden A c from rfl]
  ihave Hp := (ps_last A c hp) $$ Hp
  iapply (wp_if c (iprop(recs A K ∗ ow c (dues {0, 7, 8, 9} c) ∗ pToks c ∗ landP c ∗ psSt A c 1032)) (iprop(ow c ∅ ∗ pK A c))
    (fun h => by
      obtain rfl : c = 0 := c0_of11 c h
      rw [show pK A 0 = psSt A 0 1032 from rfl, show dues {0, 7, 8, 9} 0 = ∅ by decide]
      iintro ⟨-, HO, -, -, Hp⟩
      isplitl [HO] <;> iassumption)
    (fun h => by
      obtain ⟨j, rfl⟩ : ∃ j : Fin 3, c = jd j := jd_of11 c h
      have hc := jd_ne j
      rw [pK_ne A _ hc]
      unfold psSt
      iintro ⟨⟨#H, HO, Ht, Hl, ⟨%f', %hp', Hp⟩⟩, HK⟩
      iapply (send_p A K j _ (Fin.ext k0_dev16_eq) hp' (off2_jd j) rfl (sem_slot j (off1_jd j) _)) $$ [HO Ht Hp Hl]
      · isplitr; · iexact H
        isplitl [HO]; · iexact HO
        isplitl [Ht]; · iexact Ht
        isplitl [Hp] <;> iassumption
      iexact HK)) $$ [HO Ht Hl Hp]
  · isplitr; · iexact H
    isplitl [HO]; · iexact HO
    isplitl [Ht]; · iexact Ht
    isplitl [Hl] <;> iassumption
  iintro ⟨HO, Hp⟩
  unfold WP
  rw [wp_ret]; imodintro
  iapply HK
  isplitl [HO]; · iexact HO
  isplitl [Hb] <;> iassumption

end Cert.KProof

end
-- ==== Proof.Blocks.lean ====
/-
The two loops over the heads: each trip computes two row blocks of the context from the queries, the band and the
global rows. The interior loop runs before the halos have arrived, the edge loop after.
-/
module

public import proofs.«01_k».proof.Proof.Partials

@[expose] public section

noncomputable section

namespace Cert.KProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Ins F) (K : Dev nD × Fin 13 → ℕ)

/-! ## The context, as far as it is computed -/

/-- The context buffer, right on the elements of `P`. -/
def ctxSt (c : Dev nD) (P : S1024x1024.Idx → Prop) : sProp 𝕄 :=
  iprop(∃ f : Vec F S1024x1024 .bf16, ⌜∀ i, P i → f i = cL A c i⌝ ∗ blk c cc0_scratch4 f)

/-- One block of it stored. -/
theorem ctx_step (c : Dev nD) (P P' : S1024x1024.Idx → Prop) {off size : Fin 2 → Nat} (o : Fin 2 → Nat) (ho : off = o) (inb : ∀ a, off a + size a ≤ S1024x1024.size a)
    {f : Vec F S1024x1024 .bf16} (hf : ∀ i, P i → f i = cL A c i) (w : (Rect.unit (s := S1024x1024) off size inb).shape.Idx → F .bf16)
    (hw : ∀ x i, (i 0).val = o 0 + (x 0).val → (i 1).val = o 1 + (x 1).val → w x = cL A c i)
    (hP : ∀ i, P' i → P i ∨ (o 0 ≤ (i 0).val ∧ (i 0).val < o 0 + size 0 ∧ o 1 ≤ (i 1).val ∧ (i 1).val < o 1 + size 1)) :
    ((View.whole cc0_scratch4).loc (c : Thread nD τ) ↦{fullShare} ((cM.access (Rect.unit (s := S1024x1024) off size inb) : View sig .tc _ _ _).write (Elt F) f w Finset.univ) : sProp 𝕄)
      ⊢ ctxSt A c P' := by
  subst ho
  unfold ctxSt blk
  iintro H
  iexists _
  isplitr
  · ipureintro; exact ctx_store inb hf w hw hP
  iexact H

/-- A two-dimensional index is the pair of its coordinates. -/
theorem ix2_back {n m : ℕ} (x : Shape.Idx ⟨2, ![n, m]⟩) {a : Fin n} {b : Fin m} (ha : a.val = (x 0).val) (hb : b.val = (x 1).val) : ix2 a b = x := by
  funext d
  refine Fin.ext ?_
  revert d
  exact forall_fin2 ha hb

/-! Each block of the context is the computed block. -/

/-- Rows 0 to 127 of the context are the edge loop's first block. -/
theorem cL_E1 (c : Dev nD) (t : Fin k0_t2_loop.trips) (x : S128x128.Idx) (i : S1024x1024.Idx) (h0 : (i 0).val = 0 + (x 0).val)
    (h1 : (i 1).val = 128 * t.val + (x 1).val) : cE1 A c t x = cL A c i := by
  have x0 := idx2_lt0 x
  have x1 := idx2_lt1 x
  unfold cL
  rw [dif_pos (by omega)]
  have ht : t2 ⟨(i 1).val / 128, by have := idx2_lt1 i; omega⟩ = t := Fin.ext (by show (i 1).val / 128 = t.val; omega)
  dsimp only
  rw [ht]
  exact congrArg (cE1 A c t) (ix2_back x (by show (i 0).val = (x 0).val; omega) (by show (i 1).val % 128 = _; omega)).symm

/-- Rows 128 to 511 of the context are the interior loop's first block. -/
theorem cL_I1 (c : Dev nD) (t : Fin k0_t1_loop.trips) (x : S384x128.Idx) (i : S1024x1024.Idx) (h0 : (i 0).val = 128 + (x 0).val)
    (h1 : (i 1).val = 128 * t.val + (x 1).val) : cI1 A c t x = cL A c i := by
  have x0 := idx2_lt0 x
  have x1 := idx2_lt1 x
  unfold cL
  rw [dif_neg (by omega), dif_pos (by omega)]
  have ht : t1 ⟨(i 1).val / 128, by have := idx2_lt1 i; omega⟩ = t := Fin.ext (by show (i 1).val / 128 = t.val; omega)
  dsimp only
  rw [ht]
  exact congrArg (cI1 A c t) (ix2_back x (by show (i 0).val - 128 = (x 0).val; omega) (by show (i 1).val % 128 = _; omega)).symm

/-- Rows 512 to 895 of the context are the interior loop's second block. -/
theorem cL_I2 (c : Dev nD) (t : Fin k0_t1_loop.trips) (x : S384x128.Idx) (i : S1024x1024.Idx) (h0 : (i 0).val = 512 + (x 0).val)
    (h1 : (i 1).val = 128 * t.val + (x 1).val) : cI2 A c t x = cL A c i := by
  have x0 := idx2_lt0 x
  have x1 := idx2_lt1 x
  unfold cL
  rw [dif_neg (by omega), dif_neg (by omega), dif_pos (by omega)]
  have ht : t1 ⟨(i 1).val / 128, by have := idx2_lt1 i; omega⟩ = t := Fin.ext (by show (i 1).val / 128 = t.val; omega)
  dsimp only
  rw [ht]
  exact congrArg (cI2 A c t) (ix2_back x (by show (i 0).val - 512 = (x 0).val; omega) (by show (i 1).val % 128 = _; omega)).symm

/-- Rows 896 to 1023 of the context are the edge loop's second block. -/
theorem cL_E2 (c : Dev nD) (t : Fin k0_t2_loop.trips) (x : S128x128.Idx) (i : S1024x1024.Idx) (h0 : (i 0).val = 896 + (x 0).val)
    (h1 : (i 1).val = 128 * t.val + (x 1).val) : cE2 A c t x = cL A c i := by
  have x0 := idx2_lt0 x
  have x1 := idx2_lt1 x
  unfold cL
  rw [dif_neg (by omega), dif_neg (by omega), dif_neg (by omega)]
  have ht : t2 ⟨(i 1).val / 128, by have := idx2_lt1 i; omega⟩ = t := Fin.ext (by show (i 1).val / 128 = t.val; omega)
  dsimp only
  rw [ht]
  exact congrArg (cE2 A c t) (ix2_back x (by show (i 0).val - 896 = (x 0).val; omega) (by show (i 1).val % 128 = _; omega)).symm

/-! ## The interior loop -/

/-- What a trip reads: the band's own rows, the global rows, the queries. -/
def rd1 (c : Dev nD) : sProp 𝕄 :=
  iprop(bandPt c midS fullShare.left (bandC A c) ∗ gPt c (gshr c) (gC A) ∗ blk c cc0_scratch3 (qsC A c))
/-- What is computed after `k` heads. -/
def P1 (k : ℕ) (i : S1024x1024.Idx) : Prop := 128 ≤ (i 0).val ∧ (i 0).val < 896 ∧ (i 1).val < 128 * k
/-- In the middle of head `k`. -/
def P1' (k : ℕ) (i : S1024x1024.Idx) : Prop := P1 k i ∨ (128 ≤ (i 0).val ∧ (i 0).val < 512 ∧ (i 1).val < 128 * k + 128)

/-- The keys that the interior loop's first block reads lie in the band's own rows. -/
theorem rows4 (t : Fin k0_t1_loop.trips) (i : S1280x2048.Idx) (h0 : k0_off4 t 0 ≤ (i 0).val) (h1 : (i 0).val < k0_off4 t 0 + 640) : i ∈ midS := by
  rw [k0_off4_eq] at h0 h1
  rw [mem_midS]
  have e : (![128, 128 * t.val] : Fin 2 → ℕ) 0 = 128 := rfl
  rw [e] at h0 h1
  omega
/-- The values that the interior loop's first block reads lie in the band's own rows. -/
theorem rows5 (t : Fin k0_t1_loop.trips) (i : S1280x2048.Idx) (h0 : k0_off5 t 0 ≤ (i 0).val) (h1 : (i 0).val < k0_off5 t 0 + 640) : i ∈ midS := by
  rw [k0_off5_eq] at h0 h1
  rw [mem_midS]
  have e : (![128, 128 * t.val + 1024] : Fin 2 → ℕ) 0 = 128 := rfl
  rw [e] at h0 h1
  omega
/-- The keys that the interior loop's second block reads lie in the band's own rows. -/
theorem rows9 (t : Fin k0_t1_loop.trips) (i : S1280x2048.Idx) (h0 : k0_off9 t 0 ≤ (i 0).val) (h1 : (i 0).val < k0_off9 t 0 + 640) : i ∈ midS := by
  rw [k0_off9_eq] at h0 h1
  rw [mem_midS]
  have e : (![512, 128 * t.val] : Fin 2 → ℕ) 0 = 512 := rfl
  rw [e] at h0 h1
  omega
/-- The values that the interior loop's second block reads lie in the band's own rows. -/
theorem rows10 (t : Fin k0_t1_loop.trips) (i : S1280x2048.Idx) (h0 : k0_off10 t 0 ≤ (i 0).val) (h1 : (i 0).val < k0_off10 t 0 + 640) : i ∈ midS := by
  rw [k0_off10_eq] at h0 h1
  rw [mem_midS]
  have e : (![512, 128 * t.val + 1024] : Fin 2 → ℕ) 0 = 512 := rfl
  rw [e] at h0 h1
  omega
/-- What the first store of a trip adds: its block of rows 128 to 511. -/
theorem P1'_mid (k : ℕ) (i : S1024x1024.Idx) (h : P1' k i) : P1 k i ∨ (128 ≤ (i 0).val ∧ (i 0).val < 128 + 384 ∧ 128 * k ≤ (i 1).val ∧ (i 1).val < 128 * k + 128) := by
  unfold P1' P1 at *
  omega
/-- What the second store of a trip adds: its block of rows 512 to 895. -/
theorem P1'_end (k : ℕ) (i : S1024x1024.Idx) (h : P1 (k + 1) i) : P1' k i ∨ (512 ≤ (i 0).val ∧ (i 0).val < 512 + 384 ∧ 128 * k ≤ (i 1).val ∧ (i 1).val < 128 * k + 128) := by
  unfold P1' P1 at *
  omega

set_option maxHeartbeats 1000000 in
/-- One trip of the interior loop. -/
theorem trip1 (c : Dev nD) (v5 v7 : BitVec 32) (t : Fin k0_t1_loop.trips) (u : Unit) :
    iprop(rd1 A c ∗ ctxSt A c (P1 t.val))
      ⊢ WP c (k0_t1_body (F := F) xM (Memref.isWhole_whole _) wqM (Memref.isWhole_whole _) kM (Memref.isWhole_whole _) vM (Memref.isWhole_whole _) woM (Memref.isWhole_whole _) oM (Memref.isWhole_whole _) bM (Memref.isWhole_whole _) gM (Memref.isWhole_whole _) xbM (Memref.isWhole_whole _) qM (Memref.isWhole_whole _) cM (Memref.isWhole_whole _) pM (Memref.isWhole_whole _) rM (Memref.isWhole_whole _) cc0_scratch7 cc0_scratch8 (idw c) v5 v7 k0_pay67 (k0_pay68 (idw c))
          (Scalar.muli (idw c) 1024#32) 512#32 t u) fun _ => iprop(rd1 A c ∗ ctxSt A c (P1 (t.val + 1))) := by
  unfold k0_t1_body
  simp only [k0_part1_eq_skeleton, k0_part2_eq_skeleton]; unfold k0_part1_skel k0_part2_skel
  simp only [Prog.lift, Prog.bind_op, Prog.bind_ret, Prog.pure_eq_ret]
  unfold rd1 ctxSt blk bandPt gPt
  rw [g_univ]
  iintro ⟨⟨Hb, Hg, Hq⟩, ⟨%f, %hf, Hc⟩⟩
  iapply (wp_load 𝒱₀ (c : Thread nD τ) none Set.univ (m := qM) (Finset.subset_univ _)) $$ Hq; iintro Hq
  iapply (wp_load 𝒱₀ (c : Thread nD τ) none Set.univ (m := bM) (S := midS) (band_sub _ (rows4 t))) $$ Hb; iintro Hb
  iapply (wp_load 𝒱₀ (c : Thread nD τ) none Set.univ (m := bM) (S := midS) (band_sub _ (rows5 t))) $$ Hb; iintro Hb
  iapply (wp_load 𝒱₀ (c : Thread nD τ) none Set.univ (m := gM) (Finset.subset_univ _)) $$ Hg; iintro Hg
  iapply (wp_load 𝒱₀ (c : Thread nD τ) none Set.univ (m := gM) (Finset.subset_univ _)) $$ Hg; iintro Hg
  iapply (wp_load 𝒱₀ (c : Thread nD τ) none Set.univ (m := cM) (Finset.subset_univ _)) $$ Hc; iintro Hc
  iapply (wp_store 𝒱₀ (c : Thread nD τ) none Set.univ (m := cM)
    (r := Rect.unit (s := S1024x1024) (k0_off3 t) S384x128.size (k0_off3_inb t)) (Mk := Finset.univ) (Finset.subset_univ _)) $$ Hc; iintro Hc
  generalize hw : k0_pay2 (F := F) _ = w
  obtain rfl : w = cI1 A c t := hw.symm
  ihave Hc := (ctx_step A c (P1 t.val) (P1' t.val) _ (k0_off3_eq t) (k0_off3_inb t) hf (cI1 A c t) (fun x i h0 h1 => cL_I1 A c t x i h0 h1)
    (P1'_mid t.val)) $$ Hc
  unfold ctxSt blk
  icases Hc with ⟨%f', %hf', Hc⟩
  iapply (wp_load 𝒱₀ (c : Thread nD τ) none Set.univ (m := qM) (Finset.subset_univ _)) $$ Hq; iintro Hq
  iapply (wp_load 𝒱₀ (c : Thread nD τ) none Set.univ (m := bM) (S := midS) (band_sub _ (rows9 t))) $$ Hb; iintro Hb
  iapply (wp_load 𝒱₀ (c : Thread nD τ) none Set.univ (m := bM) (S := midS) (band_sub _ (rows10 t))) $$ Hb; iintro Hb
  iapply (wp_load 𝒱₀ (c : Thread nD τ) none Set.univ (m := gM) (Finset.subset_univ _)) $$ Hg; iintro Hg
  iapply (wp_load 𝒱₀ (c : Thread nD τ) none Set.univ (m := gM) (Finset.subset_univ _)) $$ Hg; iintro Hg
  iapply (wp_load 𝒱₀ (c : Thread nD τ) none Set.univ (m := cM) (Finset.subset_univ _)) $$ Hc; iintro Hc
  iapply (wp_store 𝒱₀ (c : Thread nD τ) none Set.univ (m := cM)
    (r := Rect.unit (s := S1024x1024) (k0_off8 t) S384x128.size (k0_off8_inb t)) (Mk := Finset.univ) (Finset.subset_univ _)) $$ Hc; iintro Hc
  generalize hw : k0_pay70 (F := F) _ _ _ _ _ _ = w
  obtain rfl : w = cI2 A c t := hw.symm
  ihave Hc := (ctx_step A c (P1' t.val) (P1 (t.val + 1)) _ (k0_off8_eq t) (k0_off8_inb t) hf' (cI2 A c t) (fun x i h0 h1 => cL_I2 A c t x i h0 h1)
    (P1'_end t.val)) $$ Hc
  try unfold WP
  rw [wp_ret]; imodintro
  isplitl [Hb Hg Hq]
  · isplitl [Hb]; · iexact Hb
    isplitl [Hg] <;> iassumption
  unfold ctxSt blk; iexact Hc

/-! ## The edge loop -/

/-- What a trip reads: the whole band, the global rows, the queries. -/
def rd2 (c : Dev nD) : sProp 𝕄 :=
  iprop(bandPt c Finset.univ fullShare.left (bandC A c) ∗ gPt c (gshr c) (gC A) ∗ blk c cc0_scratch3 (qsC A c))
/-- What is computed after `k` heads of the edge loop: the interior rows, and every row of those heads. -/
def P2 (k : ℕ) (i : S1024x1024.Idx) : Prop := (128 ≤ (i 0).val ∧ (i 0).val < 896) ∨ (i 1).val < 128 * k
/-- In the middle of head `k` of the edge loop, the first 128 rows too. -/
def P2' (k : ℕ) (i : S1024x1024.Idx) : Prop := P2 k i ∨ ((i 0).val < 128 ∧ (i 1).val < 128 * k + 128)

/-- What the first store of an edge trip adds: its block of rows 0 to 127. -/
theorem P2'_mid (k : ℕ) (i : S1024x1024.Idx) (h : P2' k i) : P2 k i ∨ (0 ≤ (i 0).val ∧ (i 0).val < 0 + 128 ∧ 128 * k ≤ (i 1).val ∧ (i 1).val < 128 * k + 128) := by
  unfold P2' P2 at *
  omega
/-- What the second store of an edge trip adds: its block of rows 896 to 1023. -/
theorem P2'_end (k : ℕ) (i : S1024x1024.Idx) (h : P2 (k + 1) i) : P2' k i ∨ (896 ≤ (i 0).val ∧ (i 0).val < 896 + 128 ∧ 128 * k ≤ (i 1).val ∧ (i 1).val < 128 * k + 128) := by
  have := idx2_lt0 i
  unfold P2' P2 at *
  omega

set_option maxHeartbeats 1000000 in
/-- One trip of the edge loop. -/
theorem trip2 (c d : Dev nD) (t : Fin k0_t2_loop.trips) (u : Unit) :
    iprop(rd2 A c ∗ ctxSt A c (P2 t.val))
      ⊢ WP c (k0_t2_body (F := F) xM (Memref.isWhole_whole _) wqM (Memref.isWhole_whole _) kM (Memref.isWhole_whole _) vM (Memref.isWhole_whole _) woM (Memref.isWhole_whole _) oM (Memref.isWhole_whole _) bM (Memref.isWhole_whole _) gM (Memref.isWhole_whole _) xbM (Memref.isWhole_whole _) qM (Memref.isWhole_whole _) cM (Memref.isWhole_whole _) pM (Memref.isWhole_whole _) rM (Memref.isWhole_whole _) cc0_scratch7 cc0_scratch8 d (idw c) k0_pay71 (k0_pay72 (idw c)) (k0_pay73 (idw c)) k0_pay74 t u)
        fun _ => iprop(rd2 A c ∗ ctxSt A c (P2 (t.val + 1))) := by
  unfold k0_t2_body
  simp only [k0_part3_eq_skeleton, k0_part4_eq_skeleton]; unfold k0_part3_skel k0_part4_skel
  simp only [Prog.lift, Prog.bind_op, Prog.bind_ret, Prog.pure_eq_ret]
  unfold rd2 ctxSt blk bandPt gPt
  rw [g_univ]
  iintro ⟨⟨Hb, Hg, Hq⟩, ⟨%f, %hf, Hc⟩⟩
  iapply (wp_load 𝒱₀ (c : Thread nD τ) none Set.univ (m := qM) (Finset.subset_univ _)) $$ Hq; iintro Hq
  iapply (wp_load 𝒱₀ (c : Thread nD τ) none Set.univ (m := bM) (S := Finset.univ) (Finset.subset_univ _)) $$ Hb; iintro Hb
  iapply (wp_load 𝒱₀ (c : Thread nD τ) none Set.univ (m := bM) (S := Finset.univ) (Finset.subset_univ _)) $$ Hb; iintro Hb
  iapply (wp_load 𝒱₀ (c : Thread nD τ) none Set.univ (m := gM) (Finset.subset_univ _)) $$ Hg; iintro Hg
  iapply (wp_load 𝒱₀ (c : Thread nD τ) none Set.univ (m := gM) (Finset.subset_univ _)) $$ Hg; iintro Hg
  iapply (wp_load 𝒱₀ (c : Thread nD τ) none Set.univ (m := cM) (Finset.subset_univ _)) $$ Hc; iintro Hc
  iapply (wp_store 𝒱₀ (c : Thread nD τ) none Set.univ (m := cM)
    (r := Rect.unit (s := S1024x1024) (k0_off11 t) S128x128.size (k0_off11_inb t)) (Mk := Finset.univ) (Finset.subset_univ _)) $$ Hc; iintro Hc
  generalize hw : k0_pay8 (F := F) _ = w
  obtain rfl : w = cE1 A c t := hw.symm
  ihave Hc := (ctx_step A c (P2 t.val) (P2' t.val) _ (k0_off11_eq t) (k0_off11_inb t) hf (cE1 A c t) (fun x i h0 h1 => cL_E1 A c t x i h0 h1)
    (P2'_mid t.val)) $$ Hc
  unfold ctxSt blk
  icases Hc with ⟨%f', %hf', Hc⟩
  iapply (wp_load 𝒱₀ (c : Thread nD τ) none Set.univ (m := qM) (Finset.subset_univ _)) $$ Hq; iintro Hq
  iapply (wp_load 𝒱₀ (c : Thread nD τ) none Set.univ (m := bM) (S := Finset.univ) (Finset.subset_univ _)) $$ Hb; iintro Hb
  iapply (wp_load 𝒱₀ (c : Thread nD τ) none Set.univ (m := bM) (S := Finset.univ) (Finset.subset_univ _)) $$ Hb; iintro Hb
  iapply (wp_load 𝒱₀ (c : Thread nD τ) none Set.univ (m := gM) (Finset.subset_univ _)) $$ Hg; iintro Hg
  iapply (wp_load 𝒱₀ (c : Thread nD τ) none Set.univ (m := gM) (Finset.subset_univ _)) $$ Hg; iintro Hg
  iapply (wp_load 𝒱₀ (c : Thread nD τ) none Set.univ (m := cM) (Finset.subset_univ _)) $$ Hc; iintro Hc
  iapply (wp_store 𝒱₀ (c : Thread nD τ) none Set.univ (m := cM)
    (r := Rect.unit (s := S1024x1024) (k0_off16 t) S128x128.size (k0_off16_inb t)) (Mk := Finset.univ) (Finset.subset_univ _)) $$ Hc; iintro Hc
  generalize hw : k0_pay78 (F := F) _ _ _ _ _ _ = w
  obtain rfl : w = cE2 A c t := hw.symm
  ihave Hc := (ctx_step A c (P2' t.val) (P2 (t.val + 1)) _ (k0_off16_eq t) (k0_off16_inb t) hf' (cE2 A c t) (fun x i h0 h1 => cL_E2 A c t x i h0 h1)
    (P2'_end t.val)) $$ Hc
  try unfold WP
  rw [wp_ret]; imodintro
  isplitl [Hb Hg Hq]
  · isplitl [Hb]; · iexact Hb
    isplitl [Hg] <;> iassumption
  unfold ctxSt blk; iexact Hc

end Cert.KProof

end
-- ==== Proof.Combine.lean ====
/-
The rest of the body: the interior loop and the arrival of the halos, the edge loop, the global queries' rows on
device 0, the output projection, and the ends of the device's own transfers.
-/
module

public import proofs.«01_k».proof.Proof.Blocks

@[expose] public section

noncomputable section

namespace Cert.KProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Ins F) (K : Dev nD × Fin 13 → ℕ)

/-- A wait on a transfer's semaphore, its only payer `d`. -/
theorem wait_dma (c : Dev nD) (k : Fin 13) (d : Dev nD) (hd : dutF (c, k) = {d}) {s s' : Shape} {e e' : EltTy} (sem : DmaSem sig)
    (src : Memref sig .tc .vmem s e) (dst : Memref sig .tc .vmem s' e') (h1 : src.view.WordExact) (h2 : dst.view.WordExact)
    (hs : SemLoc.dma sem = csem k) (ha : dst.view.dmaCredit = amt k)
    {α : Type} {Q : α → sProp 𝕄} {kk : PUnit → Prog (TpuEff nD τ sig (Elt F) Λ₀ .tc) α} :
    iprop(recs A K ∗ ow c ∅ ∗ crd c k ∗ pos c k)
      ⊢ iprop(((ow c ∅ ∗ done A c k ∗ pay A c k d) -∗ WP c (kk ⟨⟩) Q) -∗ WP c (.op (.waitDma2 sem src dst h1 h2) kk) Q) :=
  wait_one A K c k d hd ∅ (fun _ h => absurd h (Finset.notMem_empty _)) (fun X => by
    rw [← hs, ← ha]; exact wpE_waitDma2_eq 𝒱₀ (c : Thread nD τ) none Set.univ X)

/-! ## Which device a condition singles out -/

/-- The kernel's test `my > 0` holds off device 0. -/
theorem is_gt (c : Dev nD) : Scalar.cmpi .ne (Scalar.extui (Scalar.cmpi .sgt (idw c) 0#32) : BitVec 32) 0#32 = 1#1 ↔ c ≠ 0 := by revert c; decide
/-- The kernel's test `my < 3` holds off device 3. -/
theorem is_lt (c : Dev nD) : Scalar.cmpi .ne (Scalar.extui (Scalar.cmpi .slt (idw c) 3#32) : BitVec 32) 0#32 = 1#1 ↔ c ≠ 3 := by revert c; decide
/-- The kernel's test `my == 0` holds on device 0. -/
theorem is_eq (c : Dev nD) : Scalar.cmpi .ne (Scalar.extui (Scalar.cmpi .eq (idw c) 0#32) : BitVec 32) 0#32 = 1#1 ↔ c = 0 := by revert c; decide
/-- The test before the last waits holds off device 0. -/
theorem is_15 (c : Dev nD) : k0_cond15 c = 1#1 ↔ c ≠ 0 := by revert c; decide

/-- The send semaphore of the halo to the left is paid by the device itself. -/
theorem dut1 (c : Dev nD) (h : c ≠ 0) : dutF (c, 1) = {c} := by revert c; decide
/-- The send semaphore of the halo to the right is paid by the device itself. -/
theorem dut2 (c : Dev nD) (h : c ≠ 3) : dutF (c, 2) = {c} := by revert c; decide
/-- The send semaphore of the partial sums is paid by the device itself. -/
theorem dut3 (c : Dev nD) (h : c ≠ 0) : dutF (c, 3) = {c} := by revert c; decide
/-- The left halo comes from the left neighbour. -/
theorem dut7 (c : Dev nD) (h : c ≠ 0) : dutF (c, 7) = {lc c} := by revert c; decide
/-- The right halo comes from the right neighbour. -/
theorem dut8 (c : Dev nD) (h : c ≠ 3) : dutF (c, 8) = {rc c} := by revert c; decide
/-- Device 0 receives no left halo. -/
theorem dut7' (c : Dev nD) (h : ¬ c ≠ 0) : dutF (c, 7) = ∅ := by revert c; decide
/-- Device 3 receives no right halo. -/
theorem dut8' (c : Dev nD) (h : ¬ c ≠ 3) : dutF (c, 8) = ∅ := by revert c; decide

/-- On device 0 the left halo holds its zeros from the start. -/
theorem topK_zero (c : Dev nD) (h : ¬ c ≠ 0) : topK A c = bandPt c topS fullShare (bandC A c) := by
  obtain rfl : c = 0 := not_not.mp h
  rfl
/-- On device 3 the right halo holds its zeros from the start. -/
theorem botK_zero (c : Dev nD) (h : ¬ c ≠ 3) : botK A c = bandPt c botS fullShare (bandC A c) := by
  obtain rfl : c = 3 := not_not.mp h
  rfl

/-! ## The interior loop and the halos -/

/-- Before the interior loop: the halos may be on their way, the own rows are readable. -/
def pre18 (c : Dev nD) : sProp 𝕄 :=
  iprop(recs A K ∗ ow c ∅ ∗ (crd c 7 ∗ pos c 7) ∗ (crd c 8 ∗ pos c 8) ∗ topK A c ∗ botK A c ∗ rd1 A c ∗ ∃ f, blk (F := F) c cc0_scratch4 f)
/-- After it: both halos are in, the interior rows of the context are computed. -/
def post18 (c : Dev nD) : sProp 𝕄 :=
  iprop(ow c ∅ ∗ (done A c 7 ∗ bandPt c topS fullShare (bandC A c)) ∗ (done A c 8 ∗ bandPt c botS fullShare (bandC A c)) ∗ rd1 A c ∗ ctxSt A c (P1 8))

set_option maxHeartbeats 1000000 in
/-- The interior rows are computed; both halos are in. -/
theorem part18 (c : Dev nD) (v5 v7 : BitVec 32) (Kt : _ → sProp 𝕄) :
    iprop(pre18 A K c ∗ (post18 A c -∗ Kt ⟨k0_pay71, k0_pay72 (idw c), k0_pay73 (idw c), k0_pay74⟩))
      ⊢ WP c (k0_part18 (F := F) xM (Memref.isWhole_whole _) wqM (Memref.isWhole_whole _) kM (Memref.isWhole_whole _) vM (Memref.isWhole_whole _) woM (Memref.isWhole_whole _) oM (Memref.isWhole_whole _) bM (Memref.isWhole_whole _) gM (Memref.isWhole_whole _) xbM (Memref.isWhole_whole _) qM (Memref.isWhole_whole _) cM (Memref.isWhole_whole _) pM (Memref.isWhole_whole _) rM (Memref.isWhole_whole _) cc0_scratch7 cc0_scratch8 (idw c) v5 v7 k0_pay67 (k0_pay68 (idw c))
          (Scalar.muli (idw c) 1024#32) 512#32) Kt := by
  simp only [k0_part18_eq_skeleton]; unfold k0_part18_skel
  simp only [semWaitWord, Prog.lift, Prog.bind_op, Prog.bind_ret, Prog.pure_eq_ret]
  unfold pre18 post18
  iintro ⟨⟨#H, HO, ⟨Hc7, Hp7⟩, ⟨Hc8, Hp8⟩, Ht, Hb, Hr, ⟨%f, Hc⟩⟩, HK⟩
  iapply (Scf.wp_for_bind frame (wpE (defs₀ (F := F)) 𝒱₀ (c : Thread nD τ) none) Set.univ k0_t1_loop.lb k0_t1_loop.ub k0_t1_loop.st k0_t1_ok ⟨⟩ _
    (fun k _ => iprop(rd1 A c ∗ ctxSt A c (P1 k))) (fun t u => trip1 A c v5 v7 t u)) $$ [Hr Hc]
  · isplitl [Hr]; · iexact Hr
    unfold ctxSt
    iexists f
    isplitr
    · ipureintro; intro i hi; unfold P1 at hi; omega
    iexact Hc
  iintro %u ⟨Hr, Hc⟩
  iapply (wp_if c (iprop(recs A K ∗ ow c ∅ ∗ (crd c 7 ∗ pos c 7) ∗ topK A c)) (iprop(ow c ∅ ∗ done A c 7 ∗ bandPt c topS fullShare (bandC A c)))
    (fun h => by
      rw [is_gt] at h
      rw [topK_zero A c h]
      iintro ⟨-, HO, ⟨-, Hp⟩, Ht⟩
      isplitl [HO]; · iexact HO
      isplitl [Hp]; · (iapply (done_unused A c 7 (dut7' c h)); iexact Hp)
      iexact Ht)
    (fun h => by
      rw [is_gt] at h
      iintro ⟨⟨#H, HO, ⟨Hc, Hp⟩, -⟩, HK⟩
      iapply (wait_dma A K c 7 (lc c) (dut7 c h) ((cc0_scratch8.slice (Rect.unit (s := S6) ![0] S1.size inb_S6_S1_0)).squeeze S_ squeezes_S1_S_).sem (bM.slice (Rect.unit (s := S1280x2048) ![1024, 0] S128x2048.size inb_S1280x2048_S128x2048_1024_0) (fun _ => rfl)) (bM.slice (Rect.unit (s := S1280x2048) ![0, 0] S128x2048.size inb_S1280x2048_S128x2048_0_0) (fun _ => rfl)) _ _ rfl rfl) $$ [HO Hc Hp]
      · isplitr; · iexact H
        isplitl [HO]; · iexact HO
        isplitl [Hc] <;> iassumption
      iintro ⟨HO, Hd, Hp⟩
      iapply HK
      isplitl [HO]; · iexact HO
      isplitl [Hd]; · iexact Hd
      iapply (show pay A c 7 (lc c) ⊢ bandPt c topS fullShare (bandC A c) from .rfl); iexact Hp)) $$ [HO Hc7 Hp7 Ht]
  · isplitr; · iexact H
    isplitl [HO]; · iexact HO
    isplitl [Hc7 Hp7]; · (isplitl [Hc7] <;> iassumption)
    iexact Ht
  iintro ⟨HO, Ht⟩
  iapply (wp_if c (iprop(recs A K ∗ ow c ∅ ∗ (crd c 8 ∗ pos c 8) ∗ botK A c)) (iprop(ow c ∅ ∗ done A c 8 ∗ bandPt c botS fullShare (bandC A c)))
    (fun h => by
      rw [is_lt] at h
      rw [botK_zero A c h]
      iintro ⟨-, HO, ⟨-, Hp⟩, Ht⟩
      isplitl [HO]; · iexact HO
      isplitl [Hp]; · (iapply (done_unused A c 8 (dut8' c h)); iexact Hp)
      iexact Ht)
    (fun h => by
      rw [is_lt] at h
      iintro ⟨⟨#H, HO, ⟨Hc, Hp⟩, -⟩, HK⟩
      iapply (wait_dma A K c 8 (rc c) (dut8 c h) ((cc0_scratch8.slice (Rect.unit (s := S6) ![1] S1.size inb_S6_S1_1)).squeeze S_ squeezes_S1_S_).sem (bM.slice (Rect.unit (s := S1280x2048) ![128, 0] S128x2048.size inb_S1280x2048_S128x2048_128_0) (fun _ => rfl)) (bM.slice (Rect.unit (s := S1280x2048) ![1152, 0] S128x2048.size inb_S1280x2048_S128x2048_1152_0) (fun _ => rfl)) _ _ rfl rfl) $$ [HO Hc Hp]
      · isplitr; · iexact H
        isplitl [HO]; · iexact HO
        isplitl [Hc] <;> iassumption
      iintro ⟨HO, Hd, Hp⟩
      iapply HK
      isplitl [HO]; · iexact HO
      isplitl [Hd]; · iexact Hd
      iapply (show pay A c 8 (rc c) ⊢ bandPt c botS fullShare (bandC A c) from .rfl); iexact Hp)) $$ [HO Hc8 Hp8 Hb]
  · isplitr; · iexact H
    isplitl [HO]; · iexact HO
    isplitl [Hc8 Hp8]; · (isplitl [Hc8] <;> iassumption)
    iexact Hb
  iintro ⟨HO, Hb⟩
  unfold WP
  rw [wp_ret]; imodintro
  iapply HK
  isplitl [HO]; · iexact HO
  isplitl [Ht]; · iexact Ht
  isplitl [Hb]; · iexact Hb
  isplitl [Hr]; · iexact Hr
  rw [show (8 : ℕ) = Scf.trips k0_t1_loop.lb k0_t1_loop.ub k0_t1_loop.st from trips1.symm]
  iexact Hc

/-! ## The global queries on device 0 -/

/-- The context on device 0, the global queries' rows in for the first `n` columns. -/
def ctxG (n : ℕ) : sProp 𝕄 :=
  iprop(∃ f : Vec F S1024x1024 .bf16, ⌜∀ i, (32 ≤ (i 0).val ∨ (i 1).val < n) → f i = cC A 0 i⌝ ∗ blk 0 cc0_scratch4 f)

/-- One head of it stored. -/
theorem glob_step (h : Fin 8) (n n' : ℕ) (hn : n = 128 * h.val) (hn' : n' = n + 128) {off : Fin 2 → Nat} (ho : off = ![0, n])
    (inb : ∀ a, off a + S32x128.size a ≤ S1024x1024.size a) {f : Vec F S1024x1024 .bf16} (hf : ∀ i, (32 ≤ (i 0).val ∨ (i 1).val < n) → f i = cC A 0 i) :
    ((View.whole cc0_scratch4).loc ((0 : Dev nD) : Thread nD τ) ↦{fullShare} ((cM.access (Rect.unit (s := S1024x1024) off S32x128.size inb) : View sig .tc _ _ _).write (Elt F) f (cG A h) Finset.univ) : sProp 𝕄)
      ⊢ ctxG A n' := by
  subst ho
  unfold ctxG blk
  iintro H
  iexists _
  isplitr
  · ipureintro
    refine ctx_store (P := fun i => 32 ≤ (i 0).val ∨ (i 1).val < n) (P' := fun i => 32 ≤ (i 0).val ∨ (i 1).val < n') (g := cC A 0) inb hf (cG A h) ?_ ?_
    · intro x i h0 h1
      have h0 : (i 0).val = 0 + (x 0).val := h0
      have h1 : (i 1).val = n + (x 1).val := h1
      have x0 : (x 0).val < 32 := idx2_lt0 x
      have x1 : (x 1).val < 128 := idx2_lt1 x
      unfold cC
      rw [dif_pos ⟨rfl, by omega⟩]
      have ht : (⟨(i 1).val / 128, by have := idx2_lt1 i; omega⟩ : Fin 8) = h := Fin.ext (by show (i 1).val / 128 = h.val; omega)
      rw [ht]
      exact congrArg (cG A h) (ix2_back x (by show (i 0).val = (x 0).val; omega) (by show (i 1).val % 128 = (x 1).val; omega)).symm
    · intro i hi
      show (32 ≤ (i 0).val ∨ (i 1).val < n) ∨ (0 ≤ (i 0).val ∧ (i 0).val < 0 + 32 ∧ n ≤ (i 1).val ∧ (i 1).val < n + 128)
      omega
  iexact H

/-- The receive buffer's slots on device 0. -/
def rK : Dev nD → sProp 𝕄 := fun
  | 0 => iprop(slot (F := F) 0 ∗ slot 1 ∗ slot 2)
  | _ => iprop(emp)
/-- The three semaphores of the partial sums, before and after. -/
def rc3 (c : Dev nD) : sProp 𝕄 := iprop((crd (F := F) c 10 ∗ pos c 10) ∗ (crd c 11 ∗ pos c 11) ∗ crd c 12 ∗ pos c 12)
/-- The three receives of partial sums are over. -/
def rd3 (c : Dev nD) : sProp 𝕄 := iprop(done A c 10 ∗ done A c 11 ∗ done A c 12)

/-- Only device 0 has slots of partial sums. -/
theorem rK_ne : ∀ c : Dev nD, c ≠ 0 → rK (F := F) c = iprop(emp) :=
  dev_cases (fun h => absurd rfl h) (fun _ => rfl) (fun _ => rfl) (fun _ => rfl)
/-- Only device 0 receives partial sums. -/
theorem dut10 (c : Dev nD) (h : c ≠ 0) : dutF (c, 10) = ∅ ∧ dutF (c, 11) = ∅ ∧ dutF (c, 12) = ∅ := by revert c; decide

/-- Device 0's context below row 32 is already final once the edge loop is over. -/
theorem ctx_glob {f : Vec F S1024x1024 .bf16} (hf : ∀ i, P2 8 i → f i = cL A 0 i) (i : S1024x1024.Idx) (hi : 32 ≤ (i 0).val ∨ (i 1).val < 0) : f i = cC A 0 i := by
  unfold cC
  rw [dif_neg (by omega)]
  exact hf i (Or.inr (by have := idx2_lt1 i; omega))
/-- On any other device the whole context is. -/
theorem ctx_own (c : Dev nD) (hc : c ≠ 0) {f : Vec F S1024x1024 .bf16} (hf : ∀ i, P2 8 i → f i = cL A c i) : f = cC A c := by
  funext i
  unfold cC
  rw [dif_neg (fun h => hc h.1)]
  exact hf i (Or.inr (by have := idx2_lt1 i; omega))

set_option maxHeartbeats 4000000 in
/-- Device 0 puts the four devices' partial sums together, head after head; the others go on. -/
theorem combine (c : Dev nD) {α : Type} {k : Prog (TpuEff nD τ sig (Elt F) Λ₀ .tc) α} {Q : α → sProp 𝕄} :
    iprop(recs A K ∗ ow c ∅ ∗ rc3 c ∗ pK A c ∗ ctxSt A c (P2 8))
      ⊢ iprop((iprop(ow c ∅ ∗ rd3 A c ∗ pK A c ∗ rK c ∗ blk c cc0_scratch4 (cC A c)) -∗ WP c k Q) -∗ WP c (dite (Scalar.cmpi .ne (Scalar.extui (Scalar.cmpi .eq (idw c) 0#32) : BitVec 32) 0#32 = 1#1)
        (fun _ => do
          let ⟨v290, v293⟩ : Σ' (v290 : Vec F S32x1 .f32), FVec F S32x128 .f32 ← k0_part5 xM (Memref.isWhole_whole _) wqM (Memref.isWhole_whole _) kM (Memref.isWhole_whole _) vM (Memref.isWhole_whole _) woM (Memref.isWhole_whole _) oM (Memref.isWhole_whole _) bM (Memref.isWhole_whole _) gM (Memref.isWhole_whole _) xbM (Memref.isWhole_whole _) qM (Memref.isWhole_whole _) cM (Memref.isWhole_whole _) pM (Memref.isWhole_whole _) rM (Memref.isWhole_whole _) cc0_scratch7 cc0_scratch8
          let ⟨v322, v325⟩ : Σ' (v322 : FVec F S32x1 .f32), FVec F S32x128 .f32 ← k0_part6 xM (Memref.isWhole_whole _) wqM (Memref.isWhole_whole _) kM (Memref.isWhole_whole _) vM (Memref.isWhole_whole _) woM (Memref.isWhole_whole _) oM (Memref.isWhole_whole _) bM (Memref.isWhole_whole _) gM (Memref.isWhole_whole _) xbM (Memref.isWhole_whole _) qM (Memref.isWhole_whole _) cM (Memref.isWhole_whole _) pM (Memref.isWhole_whole _) rM (Memref.isWhole_whole _) cc0_scratch7 cc0_scratch8 v290 v293
          let ⟨v351, v354⟩ : Σ' (v351 : FVec F S32x128 .f32), FVec F S32x1 .f32 ← k0_part7 xM (Memref.isWhole_whole _) wqM (Memref.isWhole_whole _) kM (Memref.isWhole_whole _) vM (Memref.isWhole_whole _) woM (Memref.isWhole_whole _) oM (Memref.isWhole_whole _) bM (Memref.isWhole_whole _) gM (Memref.isWhole_whole _) xbM (Memref.isWhole_whole _) qM (Memref.isWhole_whole _) cM (Memref.isWhole_whole _) pM (Memref.isWhole_whole _) rM (Memref.isWhole_whole _) cc0_scratch7 cc0_scratch8 v322 v325
          let ⟨v383, v386⟩ : Σ' (v383 : FVec F S32x128 .f32), FVec F S32x1 .f32 ← k0_part8 xM (Memref.isWhole_whole _) wqM (Memref.isWhole_whole _) kM (Memref.isWhole_whole _) vM (Memref.isWhole_whole _) woM (Memref.isWhole_whole _) oM (Memref.isWhole_whole _) bM (Memref.isWhole_whole _) gM (Memref.isWhole_whole _) xbM (Memref.isWhole_whole _) qM (Memref.isWhole_whole _) cM (Memref.isWhole_whole _) pM (Memref.isWhole_whole _) rM (Memref.isWhole_whole _) cc0_scratch7 cc0_scratch8 v351 v354
          k0_part9 xM (Memref.isWhole_whole _) wqM (Memref.isWhole_whole _) kM (Memref.isWhole_whole _) vM (Memref.isWhole_whole _) woM (Memref.isWhole_whole _) oM (Memref.isWhole_whole _) bM (Memref.isWhole_whole _) gM (Memref.isWhole_whole _) xbM (Memref.isWhole_whole _) qM (Memref.isWhole_whole _) cM (Memref.isWhole_whole _) pM (Memref.isWhole_whole _) rM (Memref.isWhole_whole _) cc0_scratch7 cc0_scratch8 v383 v386
          let ⟨v445, v446⟩ : Σ' (v445 : Vec F S32x128 .f32), Vec F S32x1 .f32 ← k0_part10 xM (Memref.isWhole_whole _) wqM (Memref.isWhole_whole _) kM (Memref.isWhole_whole _) vM (Memref.isWhole_whole _) woM (Memref.isWhole_whole _) oM (Memref.isWhole_whole _) bM (Memref.isWhole_whole _) gM (Memref.isWhole_whole _) xbM (Memref.isWhole_whole _) qM (Memref.isWhole_whole _) cM (Memref.isWhole_whole _) pM (Memref.isWhole_whole _) rM (Memref.isWhole_whole _) cc0_scratch7 cc0_scratch8
          let ⟨v475, v478⟩ : Σ' (v475 : FVec F S32x128 .f32), FVec F S32x1 .f32 ← k0_part11 xM (Memref.isWhole_whole _) wqM (Memref.isWhole_whole _) kM (Memref.isWhole_whole _) vM (Memref.isWhole_whole _) woM (Memref.isWhole_whole _) oM (Memref.isWhole_whole _) bM (Memref.isWhole_whole _) gM (Memref.isWhole_whole _) xbM (Memref.isWhole_whole _) qM (Memref.isWhole_whole _) cM (Memref.isWhole_whole _) pM (Memref.isWhole_whole _) rM (Memref.isWhole_whole _) cc0_scratch7 cc0_scratch8 v445 v446
          let v479 : Vec F S1x32x128 .f32 ← Prog.lift (.load rM (Rect.unit (s := S3x32x1152) ![1, 0, 896] S1x32x128.size inb_S3x32x1152_S1x32x128_1_0_896).toLoadRect (View.loadsAt_vmem h_S1x32x128))
          let v482 : Vec F S1x32x1 .f32 ← Prog.lift (.load rM (Rect.unit (s := S3x32x1152) ![1, 0, 1031] S1x32x1.size inb_S3x32x1152_S1x32x1_1_0_1031).toLoadRect (View.loadsAt_vmem h_S1x32x1))
          let v485 : Vec F S1x32x128 .f32 ← Prog.lift (.load rM (Rect.unit (s := S3x32x1152) ![2, 0, 896] S1x32x128.size inb_S3x32x1152_S1x32x128_2_0_896).toLoadRect (View.loadsAt_vmem h_S1x32x128))
          let v488 : Vec F S1x32x1 .f32 ← Prog.lift (.load rM (Rect.unit (s := S3x32x1152) ![2, 0, 1031] S1x32x1.size inb_S3x32x1152_S1x32x1_2_0_1031).toLoadRect (View.loadsAt_vmem h_S1x32x1))
          let v494 : Vec F S32x128 .bf16 ← Prog.lift (.load cM (Rect.unit (s := S1024x1024) ![0, 896] S32x128.size inb_S1024x1024_S32x128_0_896).toLoadRect (View.loadsAt_vmem h_S32x128))
          Prog.lift (.store cM (Rect.unit (s := S1024x1024) ![0, 896] S32x128.size inb_S1024x1024_S32x128_0_896) (k0_pay79 v475 v478 v479 v482 v485 v488) Finset.univ (View.stores_vmem h_S32x128 ((Memref.isWhole_whole cc0_scratch4).storeExact_slice rfl _ packedbf16_S1024x1024_S32x128_0_896) (fun _ => rfl)) (.inl rfl))
          k
      ) (fun _ => k)) Q) := by
  exact wp_if c _ _
    (fun h => by
      have hc : c ≠ 0 := fun h' => h ((is_eq c).mpr h')
      rw [rK_ne c hc]
      obtain ⟨h10, h11, h12⟩ := dut10 c hc
      unfold rc3 rd3 ctxSt
      iintro ⟨-, HO, ⟨⟨-, Hp10⟩, ⟨-, Hp11⟩, -, Hp12⟩, Hp, ⟨%f, %hf, Hc⟩⟩
      rw [ctx_own A c hc hf]
      isplitl [HO]; · iexact HO
      isplitl [Hp10 Hp11 Hp12]
      · isplitl [Hp10]; · (iapply (done_unused A c 10 h10); iexact Hp10)
        isplitl [Hp11]; · (iapply (done_unused A c 11 h11); iexact Hp11)
        iapply (done_unused A c 12 h12); iexact Hp12
      isplitl [Hp]; · iexact Hp
      isplitr; · (iempintro)
      iexact Hc)
    (fun h => by
      obtain rfl : c = 0 := (is_eq c).mp h
      simp only [k0_part5_eq_skeleton, k0_part6_eq_skeleton, k0_part7_eq_skeleton, k0_part8_eq_skeleton, k0_part9_eq_skeleton, k0_part10_eq_skeleton,
        k0_part11_eq_skeleton]
      unfold k0_part5_skel k0_part6_skel k0_part7_skel k0_part8_skel k0_part9_skel k0_part10_skel k0_part11_skel
      simp only [semWaitWord, Prog.lift, Prog.bind_op, Prog.bind_ret, Prog.pure_eq_ret]
      rw [show pK A 0 = psSt A 0 1032 from rfl, show rK (F := F) 0 = iprop(slot (F := F) 0 ∗ slot 1 ∗ slot 2) from rfl]
      unfold rc3 rd3 psSt ctxSt blk
      iintro ⟨⟨#H, HO, ⟨⟨Hc10, Hp10⟩, ⟨Hc11, Hp11⟩, Hc12, Hp12⟩, ⟨%p, %hp, Hp⟩, ⟨%f, %hf, Hc⟩⟩, HK⟩
      iapply (wait_dma A K 0 10 1 (by decide) ((cc0_scratch8.slice (Rect.unit (s := S6) ![3] S1.size inb_S6_S1_3)).squeeze S_ squeezes_S1_S_).sem pM ((rM.slice (Rect.unit (s := S3x32x1152) ![0, 0, 0] S1x32x1152.size inb_S3x32x1152_S1x32x1152_0_0_0) (fun _ => rfl)).squeeze S32x1152 squeezes_S1x32x1152_S32x1152) _ _ rfl rfl) $$ [HO Hc10 Hp10]
      · isplitr; · iexact H
        isplitl [HO]; · iexact HO
        isplitl [Hc10] <;> iassumption
      iintro ⟨HO, Hd10, HR0⟩
      ihave HR0 := (show pay A 0 10 1 ⊢ slotGot A 0 from .rfl) $$ HR0
      unfold slotGot rPt
      icases HR0 with ⟨%r0, %hr0, HR0⟩
      iapply (wait_dma A K 0 11 2 (by decide) ((cc0_scratch8.slice (Rect.unit (s := S6) ![4] S1.size inb_S6_S1_4)).squeeze S_ squeezes_S1_S_).sem pM ((rM.slice (Rect.unit (s := S3x32x1152) ![1, 0, 0] S1x32x1152.size inb_S3x32x1152_S1x32x1152_1_0_0) (fun _ => rfl)).squeeze S32x1152 squeezes_S1x32x1152_S32x1152) _ _ rfl rfl) $$ [HO Hc11 Hp11]
      · isplitr; · iexact H
        isplitl [HO]; · iexact HO
        isplitl [Hc11] <;> iassumption
      iintro ⟨HO, Hd11, HR1⟩
      ihave HR1 := (show pay A 0 11 2 ⊢ slotGot A 1 from .rfl) $$ HR1
      unfold slotGot rPt
      icases HR1 with ⟨%r1, %hr1, HR1⟩
      iapply (wait_dma A K 0 12 3 (by decide) ((cc0_scratch8.slice (Rect.unit (s := S6) ![5] S1.size inb_S6_S1_5)).squeeze S_ squeezes_S1_S_).sem pM ((rM.slice (Rect.unit (s := S3x32x1152) ![2, 0, 0] S1x32x1152.size inb_S3x32x1152_S1x32x1152_2_0_0) (fun _ => rfl)).squeeze S32x1152 squeezes_S1x32x1152_S32x1152) _ _ rfl rfl) $$ [HO Hc12 Hp12]
      · isplitr; · iexact H
        isplitl [HO]; · iexact HO
        isplitl [Hc12] <;> iassumption
      iintro ⟨HO, Hd12, HR2⟩
      ihave HR2 := (show pay A 0 12 3 ⊢ slotGot A 2 from .rfl) $$ HR2
      unfold slotGot rPt
      icases HR2 with ⟨%r2, %hr2, HR2⟩
      have hg := ctx_glob A hf
      iapply (wp_load 𝒱₀ ((0 : Dev nD) : Thread nD τ) none Set.univ (m := pM) (Finset.subset_univ _)) $$ Hp; iintro Hp
      rw [show pM.view.readAt (Elt F) (Rect.unit (s := S32x1152) ![0, 0] S32x128.size inb_S32x1152_S32x128_0_0).toLoadRect p = n0 A 0 from ps_read A 0 _ hp (by decide)]
      iapply (wp_load 𝒱₀ ((0 : Dev nD) : Thread nD τ) none Set.univ (m := pM) (Finset.subset_univ _)) $$ Hp; iintro Hp
      rw [show pM.view.readAt (Elt F) (Rect.unit (s := S32x1152) ![0, 1024] S32x1.size inb_S32x1152_S32x1_0_1024).toLoadRect p = s0 A 0 from ps_read A 0 _ hp (by decide)]
      iapply (wp_load 𝒱₀ ((0 : Dev nD) : Thread nD τ) none Set.univ (m := rM) (S := slotS 0) (rv_sub 0 (off := ![0, 0, 0]) (size := S1x32x128.size) inb_S3x32x1152_S1x32x128_0_0_0 rfl rfl)) $$ HR0; iintro HR0
      rw [show rM.view.readAt (Elt F) (Rect.unit (s := S3x32x1152) ![0, 0, 0] S1x32x128.size inb_S3x32x1152_S1x32x128_0_0_0).toLoadRect r0 = nR A 0 0 from rv_read A 0 _ hr0 rfl rfl (by decide)]
      iapply (wp_load 𝒱₀ ((0 : Dev nD) : Thread nD τ) none Set.univ (m := rM) (S := slotS 0) (rv_sub 0 (off := ![0, 0, 1024]) (size := S1x32x1.size) inb_S3x32x1152_S1x32x1_0_0_1024 rfl rfl)) $$ HR0; iintro HR0
      rw [show rM.view.readAt (Elt F) (Rect.unit (s := S3x32x1152) ![0, 0, 1024] S1x32x1.size inb_S3x32x1152_S1x32x1_0_0_1024).toLoadRect r0 = sR A 0 0 from rv_read A 0 _ hr0 rfl rfl (by decide)]
      iapply (wp_load 𝒱₀ ((0 : Dev nD) : Thread nD τ) none Set.univ (m := rM) (S := slotS 1) (rv_sub 1 (off := ![1, 0, 0]) (size := S1x32x128.size) inb_S3x32x1152_S1x32x128_1_0_0 rfl rfl)) $$ HR1; iintro HR1
      rw [show rM.view.readAt (Elt F) (Rect.unit (s := S3x32x1152) ![1, 0, 0] S1x32x128.size inb_S3x32x1152_S1x32x128_1_0_0).toLoadRect r1 = nR A 1 0 from rv_read A 1 _ hr1 rfl rfl (by decide)]
      iapply (wp_load 𝒱₀ ((0 : Dev nD) : Thread nD τ) none Set.univ (m := rM) (S := slotS 1) (rv_sub 1 (off := ![1, 0, 1024]) (size := S1x32x1.size) inb_S3x32x1152_S1x32x1_1_0_1024 rfl rfl)) $$ HR1; iintro HR1
      rw [show rM.view.readAt (Elt F) (Rect.unit (s := S3x32x1152) ![1, 0, 1024] S1x32x1.size inb_S3x32x1152_S1x32x1_1_0_1024).toLoadRect r1 = sR A 1 0 from rv_read A 1 _ hr1 rfl rfl (by decide)]
      iapply (wp_load 𝒱₀ ((0 : Dev nD) : Thread nD τ) none Set.univ (m := rM) (S := slotS 2) (rv_sub 2 (off := ![2, 0, 0]) (size := S1x32x128.size) inb_S3x32x1152_S1x32x128_2_0_0 rfl rfl)) $$ HR2; iintro HR2
      rw [show rM.view.readAt (Elt F) (Rect.unit (s := S3x32x1152) ![2, 0, 0] S1x32x128.size inb_S3x32x1152_S1x32x128_2_0_0).toLoadRect r2 = nR A 2 0 from rv_read A 2 _ hr2 rfl rfl (by decide)]
      iapply (wp_load 𝒱₀ ((0 : Dev nD) : Thread nD τ) none Set.univ (m := rM) (S := slotS 2) (rv_sub 2 (off := ![2, 0, 1024]) (size := S1x32x1.size) inb_S3x32x1152_S1x32x1_2_0_1024 rfl rfl)) $$ HR2; iintro HR2
      rw [show rM.view.readAt (Elt F) (Rect.unit (s := S3x32x1152) ![2, 0, 1024] S1x32x1.size inb_S3x32x1152_S1x32x1_2_0_1024).toLoadRect r2 = sR A 2 0 from rv_read A 2 _ hr2 rfl rfl (by decide)]
      iapply (wp_load 𝒱₀ ((0 : Dev nD) : Thread nD τ) none Set.univ (m := cM) (Finset.subset_univ _)) $$ Hc; iintro Hc
      iapply (wp_store 𝒱₀ ((0 : Dev nD) : Thread nD τ) none Set.univ (m := cM)
        (r := Rect.unit (s := S1024x1024) ![0, 0] S32x128.size inb_S1024x1024_S32x128_0_0) (Mk := Finset.univ) (Finset.subset_univ _)) $$ Hc; iintro Hc
      generalize hw0 : k0_pay14 (F := F) _ _ _ _ _ _ _ = w
      obtain rfl : w = cG A 0 := hw0.symm
      ihave Hc := (glob_step A 0 0 128 rfl rfl rfl inb_S1024x1024_S32x128_0_0 hg) $$ Hc
      unfold ctxG blk
      icases Hc with ⟨%f1, %hg1, Hc⟩
      iapply (wp_load 𝒱₀ ((0 : Dev nD) : Thread nD τ) none Set.univ (m := pM) (Finset.subset_univ _)) $$ Hp; iintro Hp
      rw [show pM.view.readAt (Elt F) (Rect.unit (s := S32x1152) ![0, 128] S32x128.size inb_S32x1152_S32x128_0_128).toLoadRect p = n0 A 1 from ps_read A 0 _ hp (by decide)]
      iapply (wp_load 𝒱₀ ((0 : Dev nD) : Thread nD τ) none Set.univ (m := pM) (Finset.subset_univ _)) $$ Hp; iintro Hp
      rw [show pM.view.readAt (Elt F) (Rect.unit (s := S32x1152) ![0, 1025] S32x1.size inb_S32x1152_S32x1_0_1025).toLoadRect p = s0 A 1 from ps_read A 0 _ hp (by decide)]
      iapply (wp_load 𝒱₀ ((0 : Dev nD) : Thread nD τ) none Set.univ (m := rM) (S := slotS 0) (rv_sub 0 (off := ![0, 0, 128]) (size := S1x32x128.size) inb_S3x32x1152_S1x32x128_0_0_128 rfl rfl)) $$ HR0; iintro HR0
      rw [show rM.view.readAt (Elt F) (Rect.unit (s := S3x32x1152) ![0, 0, 128] S1x32x128.size inb_S3x32x1152_S1x32x128_0_0_128).toLoadRect r0 = nR A 0 1 from rv_read A 0 _ hr0 rfl rfl (by decide)]
      iapply (wp_load 𝒱₀ ((0 : Dev nD) : Thread nD τ) none Set.univ (m := rM) (S := slotS 0) (rv_sub 0 (off := ![0, 0, 1025]) (size := S1x32x1.size) inb_S3x32x1152_S1x32x1_0_0_1025 rfl rfl)) $$ HR0; iintro HR0
      rw [show rM.view.readAt (Elt F) (Rect.unit (s := S3x32x1152) ![0, 0, 1025] S1x32x1.size inb_S3x32x1152_S1x32x1_0_0_1025).toLoadRect r0 = sR A 0 1 from rv_read A 0 _ hr0 rfl rfl (by decide)]
      iapply (wp_load 𝒱₀ ((0 : Dev nD) : Thread nD τ) none Set.univ (m := rM) (S := slotS 1) (rv_sub 1 (off := ![1, 0, 128]) (size := S1x32x128.size) inb_S3x32x1152_S1x32x128_1_0_128 rfl rfl)) $$ HR1; iintro HR1
      rw [show rM.view.readAt (Elt F) (Rect.unit (s := S3x32x1152) ![1, 0, 128] S1x32x128.size inb_S3x32x1152_S1x32x128_1_0_128).toLoadRect r1 = nR A 1 1 from rv_read A 1 _ hr1 rfl rfl (by decide)]
      iapply (wp_load 𝒱₀ ((0 : Dev nD) : Thread nD τ) none Set.univ (m := rM) (S := slotS 1) (rv_sub 1 (off := ![1, 0, 1025]) (size := S1x32x1.size) inb_S3x32x1152_S1x32x1_1_0_1025 rfl rfl)) $$ HR1; iintro HR1
      rw [show rM.view.readAt (Elt F) (Rect.unit (s := S3x32x1152) ![1, 0, 1025] S1x32x1.size inb_S3x32x1152_S1x32x1_1_0_1025).toLoadRect r1 = sR A 1 1 from rv_read A 1 _ hr1 rfl rfl (by decide)]
      iapply (wp_load 𝒱₀ ((0 : Dev nD) : Thread nD τ) none Set.univ (m := rM) (S := slotS 2) (rv_sub 2 (off := ![2, 0, 128]) (size := S1x32x128.size) inb_S3x32x1152_S1x32x128_2_0_128 rfl rfl)) $$ HR2; iintro HR2
      rw [show rM.view.readAt (Elt F) (Rect.unit (s := S3x32x1152) ![2, 0, 128] S1x32x128.size inb_S3x32x1152_S1x32x128_2_0_128).toLoadRect r2 = nR A 2 1 from rv_read A 2 _ hr2 rfl rfl (by decide)]
      iapply (wp_load 𝒱₀ ((0 : Dev nD) : Thread nD τ) none Set.univ (m := rM) (S := slotS 2) (rv_sub 2 (off := ![2, 0, 1025]) (size := S1x32x1.size) inb_S3x32x1152_S1x32x1_2_0_1025 rfl rfl)) $$ HR2; iintro HR2
      rw [show rM.view.readAt (Elt F) (Rect.unit (s := S3x32x1152) ![2, 0, 1025] S1x32x1.size inb_S3x32x1152_S1x32x1_2_0_1025).toLoadRect r2 = sR A 2 1 from rv_read A 2 _ hr2 rfl rfl (by decide)]
      iapply (wp_load 𝒱₀ ((0 : Dev nD) : Thread nD τ) none Set.univ (m := cM) (Finset.subset_univ _)) $$ Hc; iintro Hc
      iapply (wp_store 𝒱₀ ((0 : Dev nD) : Thread nD τ) none Set.univ (m := cM)
        (r := Rect.unit (s := S1024x1024) ![0, 128] S32x128.size inb_S1024x1024_S32x128_0_128) (Mk := Finset.univ) (Finset.subset_univ _)) $$ Hc; iintro Hc
      generalize hw1 : k0_pay17 (F := F) _ _ _ _ _ = w
      obtain rfl : w = cG A 1 := hw1.symm
      ihave Hc := (glob_step A 1 128 256 rfl rfl rfl inb_S1024x1024_S32x128_0_128 hg1) $$ Hc
      unfold ctxG blk
      icases Hc with ⟨%f2, %hg2, Hc⟩
      iapply (wp_load 𝒱₀ ((0 : Dev nD) : Thread nD τ) none Set.univ (m := pM) (Finset.subset_univ _)) $$ Hp; iintro Hp
      rw [show pM.view.readAt (Elt F) (Rect.unit (s := S32x1152) ![0, 256] S32x128.size inb_S32x1152_S32x128_0_256).toLoadRect p = n0 A 2 from ps_read A 0 _ hp (by decide)]
      iapply (wp_load 𝒱₀ ((0 : Dev nD) : Thread nD τ) none Set.univ (m := pM) (Finset.subset_univ _)) $$ Hp; iintro Hp
      rw [show pM.view.readAt (Elt F) (Rect.unit (s := S32x1152) ![0, 1026] S32x1.size inb_S32x1152_S32x1_0_1026).toLoadRect p = s0 A 2 from ps_read A 0 _ hp (by decide)]
      iapply (wp_load 𝒱₀ ((0 : Dev nD) : Thread nD τ) none Set.univ (m := rM) (S := slotS 0) (rv_sub 0 (off := ![0, 0, 256]) (size := S1x32x128.size) inb_S3x32x1152_S1x32x128_0_0_256 rfl rfl)) $$ HR0; iintro HR0
      rw [show rM.view.readAt (Elt F) (Rect.unit (s := S3x32x1152) ![0, 0, 256] S1x32x128.size inb_S3x32x1152_S1x32x128_0_0_256).toLoadRect r0 = nR A 0 2 from rv_read A 0 _ hr0 rfl rfl (by decide)]
      iapply (wp_load 𝒱₀ ((0 : Dev nD) : Thread nD τ) none Set.univ (m := rM) (S := slotS 0) (rv_sub 0 (off := ![0, 0, 1026]) (size := S1x32x1.size) inb_S3x32x1152_S1x32x1_0_0_1026 rfl rfl)) $$ HR0; iintro HR0
      rw [show rM.view.readAt (Elt F) (Rect.unit (s := S3x32x1152) ![0, 0, 1026] S1x32x1.size inb_S3x32x1152_S1x32x1_0_0_1026).toLoadRect r0 = sR A 0 2 from rv_read A 0 _ hr0 rfl rfl (by decide)]
      iapply (wp_load 𝒱₀ ((0 : Dev nD) : Thread nD τ) none Set.univ (m := rM) (S := slotS 1) (rv_sub 1 (off := ![1, 0, 256]) (size := S1x32x128.size) inb_S3x32x1152_S1x32x128_1_0_256 rfl rfl)) $$ HR1; iintro HR1
      rw [show rM.view.readAt (Elt F) (Rect.unit (s := S3x32x1152) ![1, 0, 256] S1x32x128.size inb_S3x32x1152_S1x32x128_1_0_256).toLoadRect r1 = nR A 1 2 from rv_read A 1 _ hr1 rfl rfl (by decide)]
      iapply (wp_load 𝒱₀ ((0 : Dev nD) : Thread nD τ) none Set.univ (m := rM) (S := slotS 1) (rv_sub 1 (off := ![1, 0, 1026]) (size := S1x32x1.size) inb_S3x32x1152_S1x32x1_1_0_1026 rfl rfl)) $$ HR1; iintro HR1
      rw [show rM.view.readAt (Elt F) (Rect.unit (s := S3x32x1152) ![1, 0, 1026] S1x32x1.size inb_S3x32x1152_S1x32x1_1_0_1026).toLoadRect r1 = sR A 1 2 from rv_read A 1 _ hr1 rfl rfl (by decide)]
      iapply (wp_load 𝒱₀ ((0 : Dev nD) : Thread nD τ) none Set.univ (m := rM) (S := slotS 2) (rv_sub 2 (off := ![2, 0, 256]) (size := S1x32x128.size) inb_S3x32x1152_S1x32x128_2_0_256 rfl rfl)) $$ HR2; iintro HR2
      rw [show rM.view.readAt (Elt F) (Rect.unit (s := S3x32x1152) ![2, 0, 256] S1x32x128.size inb_S3x32x1152_S1x32x128_2_0_256).toLoadRect r2 = nR A 2 2 from rv_read A 2 _ hr2 rfl rfl (by decide)]
      iapply (wp_load 𝒱₀ ((0 : Dev nD) : Thread nD τ) none Set.univ (m := rM) (S := slotS 2) (rv_sub 2 (off := ![2, 0, 1026]) (size := S1x32x1.size) inb_S3x32x1152_S1x32x1_2_0_1026 rfl rfl)) $$ HR2; iintro HR2
      rw [show rM.view.readAt (Elt F) (Rect.unit (s := S3x32x1152) ![2, 0, 1026] S1x32x1.size inb_S3x32x1152_S1x32x1_2_0_1026).toLoadRect r2 = sR A 2 2 from rv_read A 2 _ hr2 rfl rfl (by decide)]
      iapply (wp_load 𝒱₀ ((0 : Dev nD) : Thread nD τ) none Set.univ (m := cM) (Finset.subset_univ _)) $$ Hc; iintro Hc
      iapply (wp_store 𝒱₀ ((0 : Dev nD) : Thread nD τ) none Set.univ (m := cM)
        (r := Rect.unit (s := S1024x1024) ![0, 256] S32x128.size inb_S1024x1024_S32x128_0_256) (Mk := Finset.univ) (Finset.subset_univ _)) $$ Hc; iintro Hc
      generalize hw2 : k0_pay20 (F := F) _ _ _ _ = w
      obtain rfl : w = cG A 2 := hw2.symm
      ihave Hc := (glob_step A 2 256 384 rfl rfl rfl inb_S1024x1024_S32x128_0_256 hg2) $$ Hc
      unfold ctxG blk
      icases Hc with ⟨%f3, %hg3, Hc⟩
      iapply (wp_load 𝒱₀ ((0 : Dev nD) : Thread nD τ) none Set.univ (m := pM) (Finset.subset_univ _)) $$ Hp; iintro Hp
      rw [show pM.view.readAt (Elt F) (Rect.unit (s := S32x1152) ![0, 384] S32x128.size inb_S32x1152_S32x128_0_384).toLoadRect p = n0 A 3 from ps_read A 0 _ hp (by decide)]
      iapply (wp_load 𝒱₀ ((0 : Dev nD) : Thread nD τ) none Set.univ (m := pM) (Finset.subset_univ _)) $$ Hp; iintro Hp
      rw [show pM.view.readAt (Elt F) (Rect.unit (s := S32x1152) ![0, 1027] S32x1.size inb_S32x1152_S32x1_0_1027).toLoadRect p = s0 A 3 from ps_read A 0 _ hp (by decide)]
      iapply (wp_load 𝒱₀ ((0 : Dev nD) : Thread nD τ) none Set.univ (m := rM) (S := slotS 0) (rv_sub 0 (off := ![0, 0, 384]) (size := S1x32x128.size) inb_S3x32x1152_S1x32x128_0_0_384 rfl rfl)) $$ HR0; iintro HR0
      rw [show rM.view.readAt (Elt F) (Rect.unit (s := S3x32x1152) ![0, 0, 384] S1x32x128.size inb_S3x32x1152_S1x32x128_0_0_384).toLoadRect r0 = nR A 0 3 from rv_read A 0 _ hr0 rfl rfl (by decide)]
      iapply (wp_load 𝒱₀ ((0 : Dev nD) : Thread nD τ) none Set.univ (m := rM) (S := slotS 0) (rv_sub 0 (off := ![0, 0, 1027]) (size := S1x32x1.size) inb_S3x32x1152_S1x32x1_0_0_1027 rfl rfl)) $$ HR0; iintro HR0
      rw [show rM.view.readAt (Elt F) (Rect.unit (s := S3x32x1152) ![0, 0, 1027] S1x32x1.size inb_S3x32x1152_S1x32x1_0_0_1027).toLoadRect r0 = sR A 0 3 from rv_read A 0 _ hr0 rfl rfl (by decide)]
      iapply (wp_load 𝒱₀ ((0 : Dev nD) : Thread nD τ) none Set.univ (m := rM) (S := slotS 1) (rv_sub 1 (off := ![1, 0, 384]) (size := S1x32x128.size) inb_S3x32x1152_S1x32x128_1_0_384 rfl rfl)) $$ HR1; iintro HR1
      rw [show rM.view.readAt (Elt F) (Rect.unit (s := S3x32x1152) ![1, 0, 384] S1x32x128.size inb_S3x32x1152_S1x32x128_1_0_384).toLoadRect r1 = nR A 1 3 from rv_read A 1 _ hr1 rfl rfl (by decide)]
      iapply (wp_load 𝒱₀ ((0 : Dev nD) : Thread nD τ) none Set.univ (m := rM) (S := slotS 1) (rv_sub 1 (off := ![1, 0, 1027]) (size := S1x32x1.size) inb_S3x32x1152_S1x32x1_1_0_1027 rfl rfl)) $$ HR1; iintro HR1
      rw [show rM.view.readAt (Elt F) (Rect.unit (s := S3x32x1152) ![1, 0, 1027] S1x32x1.size inb_S3x32x1152_S1x32x1_1_0_1027).toLoadRect r1 = sR A 1 3 from rv_read A 1 _ hr1 rfl rfl (by decide)]
      iapply (wp_load 𝒱₀ ((0 : Dev nD) : Thread nD τ) none Set.univ (m := rM) (S := slotS 2) (rv_sub 2 (off := ![2, 0, 384]) (size := S1x32x128.size) inb_S3x32x1152_S1x32x128_2_0_384 rfl rfl)) $$ HR2; iintro HR2
      rw [show rM.view.readAt (Elt F) (Rect.unit (s := S3x32x1152) ![2, 0, 384] S1x32x128.size inb_S3x32x1152_S1x32x128_2_0_384).toLoadRect r2 = nR A 2 3 from rv_read A 2 _ hr2 rfl rfl (by decide)]
      iapply (wp_load 𝒱₀ ((0 : Dev nD) : Thread nD τ) none Set.univ (m := rM) (S := slotS 2) (rv_sub 2 (off := ![2, 0, 1027]) (size := S1x32x1.size) inb_S3x32x1152_S1x32x1_2_0_1027 rfl rfl)) $$ HR2; iintro HR2
      rw [show rM.view.readAt (Elt F) (Rect.unit (s := S3x32x1152) ![2, 0, 1027] S1x32x1.size inb_S3x32x1152_S1x32x1_2_0_1027).toLoadRect r2 = sR A 2 3 from rv_read A 2 _ hr2 rfl rfl (by decide)]
      iapply (wp_load 𝒱₀ ((0 : Dev nD) : Thread nD τ) none Set.univ (m := cM) (Finset.subset_univ _)) $$ Hc; iintro Hc
      iapply (wp_store 𝒱₀ ((0 : Dev nD) : Thread nD τ) none Set.univ (m := cM)
        (r := Rect.unit (s := S1024x1024) ![0, 384] S32x128.size inb_S1024x1024_S32x128_0_384) (Mk := Finset.univ) (Finset.subset_univ _)) $$ Hc; iintro Hc
      generalize hw3 : k0_pay23 (F := F) _ _ = w
      obtain rfl : w = cG A 3 := hw3.symm
      ihave Hc := (glob_step A 3 384 512 rfl rfl rfl inb_S1024x1024_S32x128_0_384 hg3) $$ Hc
      unfold ctxG blk
      icases Hc with ⟨%f4, %hg4, Hc⟩
      iapply (wp_load 𝒱₀ ((0 : Dev nD) : Thread nD τ) none Set.univ (m := pM) (Finset.subset_univ _)) $$ Hp; iintro Hp
      rw [show pM.view.readAt (Elt F) (Rect.unit (s := S32x1152) ![0, 512] S32x128.size inb_S32x1152_S32x128_0_512).toLoadRect p = n0 A 4 from ps_read A 0 _ hp (by decide)]
      iapply (wp_load 𝒱₀ ((0 : Dev nD) : Thread nD τ) none Set.univ (m := pM) (Finset.subset_univ _)) $$ Hp; iintro Hp
      rw [show pM.view.readAt (Elt F) (Rect.unit (s := S32x1152) ![0, 1028] S32x1.size inb_S32x1152_S32x1_0_1028).toLoadRect p = s0 A 4 from ps_read A 0 _ hp (by decide)]
      iapply (wp_load 𝒱₀ ((0 : Dev nD) : Thread nD τ) none Set.univ (m := rM) (S := slotS 0) (rv_sub 0 (off := ![0, 0, 512]) (size := S1x32x128.size) inb_S3x32x1152_S1x32x128_0_0_512 rfl rfl)) $$ HR0; iintro HR0
      rw [show rM.view.readAt (Elt F) (Rect.unit (s := S3x32x1152) ![0, 0, 512] S1x32x128.size inb_S3x32x1152_S1x32x128_0_0_512).toLoadRect r0 = nR A 0 4 from rv_read A 0 _ hr0 rfl rfl (by decide)]
      iapply (wp_load 𝒱₀ ((0 : Dev nD) : Thread nD τ) none Set.univ (m := rM) (S := slotS 0) (rv_sub 0 (off := ![0, 0, 1028]) (size := S1x32x1.size) inb_S3x32x1152_S1x32x1_0_0_1028 rfl rfl)) $$ HR0; iintro HR0
      rw [show rM.view.readAt (Elt F) (Rect.unit (s := S3x32x1152) ![0, 0, 1028] S1x32x1.size inb_S3x32x1152_S1x32x1_0_0_1028).toLoadRect r0 = sR A 0 4 from rv_read A 0 _ hr0 rfl rfl (by decide)]
      iapply (wp_load 𝒱₀ ((0 : Dev nD) : Thread nD τ) none Set.univ (m := rM) (S := slotS 1) (rv_sub 1 (off := ![1, 0, 512]) (size := S1x32x128.size) inb_S3x32x1152_S1x32x128_1_0_512 rfl rfl)) $$ HR1; iintro HR1
      rw [show rM.view.readAt (Elt F) (Rect.unit (s := S3x32x1152) ![1, 0, 512] S1x32x128.size inb_S3x32x1152_S1x32x128_1_0_512).toLoadRect r1 = nR A 1 4 from rv_read A 1 _ hr1 rfl rfl (by decide)]
      iapply (wp_load 𝒱₀ ((0 : Dev nD) : Thread nD τ) none Set.univ (m := rM) (S := slotS 1) (rv_sub 1 (off := ![1, 0, 1028]) (size := S1x32x1.size) inb_S3x32x1152_S1x32x1_1_0_1028 rfl rfl)) $$ HR1; iintro HR1
      rw [show rM.view.readAt (Elt F) (Rect.unit (s := S3x32x1152) ![1, 0, 1028] S1x32x1.size inb_S3x32x1152_S1x32x1_1_0_1028).toLoadRect r1 = sR A 1 4 from rv_read A 1 _ hr1 rfl rfl (by decide)]
      iapply (wp_load 𝒱₀ ((0 : Dev nD) : Thread nD τ) none Set.univ (m := rM) (S := slotS 2) (rv_sub 2 (off := ![2, 0, 512]) (size := S1x32x128.size) inb_S3x32x1152_S1x32x128_2_0_512 rfl rfl)) $$ HR2; iintro HR2
      rw [show rM.view.readAt (Elt F) (Rect.unit (s := S3x32x1152) ![2, 0, 512] S1x32x128.size inb_S3x32x1152_S1x32x128_2_0_512).toLoadRect r2 = nR A 2 4 from rv_read A 2 _ hr2 rfl rfl (by decide)]
      iapply (wp_load 𝒱₀ ((0 : Dev nD) : Thread nD τ) none Set.univ (m := rM) (S := slotS 2) (rv_sub 2 (off := ![2, 0, 1028]) (size := S1x32x1.size) inb_S3x32x1152_S1x32x1_2_0_1028 rfl rfl)) $$ HR2; iintro HR2
      rw [show rM.view.readAt (Elt F) (Rect.unit (s := S3x32x1152) ![2, 0, 1028] S1x32x1.size inb_S3x32x1152_S1x32x1_2_0_1028).toLoadRect r2 = sR A 2 4 from rv_read A 2 _ hr2 rfl rfl (by decide)]
      iapply (wp_load 𝒱₀ ((0 : Dev nD) : Thread nD τ) none Set.univ (m := cM) (Finset.subset_univ _)) $$ Hc; iintro Hc
      iapply (wp_store 𝒱₀ ((0 : Dev nD) : Thread nD τ) none Set.univ (m := cM)
        (r := Rect.unit (s := S1024x1024) ![0, 512] S32x128.size inb_S1024x1024_S32x128_0_512) (Mk := Finset.univ) (Finset.subset_univ _)) $$ Hc; iintro Hc
      generalize hw4 : k0_pay24 (F := F) _ _ _ _ _ _ _ _ = w
      obtain rfl : w = cG A 4 := hw4.symm
      ihave Hc := (glob_step A 4 512 640 rfl rfl rfl inb_S1024x1024_S32x128_0_512 hg4) $$ Hc
      unfold ctxG blk
      icases Hc with ⟨%f5, %hg5, Hc⟩
      iapply (wp_load 𝒱₀ ((0 : Dev nD) : Thread nD τ) none Set.univ (m := pM) (Finset.subset_univ _)) $$ Hp; iintro Hp
      rw [show pM.view.readAt (Elt F) (Rect.unit (s := S32x1152) ![0, 640] S32x128.size inb_S32x1152_S32x128_0_640).toLoadRect p = n0 A 5 from ps_read A 0 _ hp (by decide)]
      iapply (wp_load 𝒱₀ ((0 : Dev nD) : Thread nD τ) none Set.univ (m := pM) (Finset.subset_univ _)) $$ Hp; iintro Hp
      rw [show pM.view.readAt (Elt F) (Rect.unit (s := S32x1152) ![0, 1029] S32x1.size inb_S32x1152_S32x1_0_1029).toLoadRect p = s0 A 5 from ps_read A 0 _ hp (by decide)]
      iapply (wp_load 𝒱₀ ((0 : Dev nD) : Thread nD τ) none Set.univ (m := rM) (S := slotS 0) (rv_sub 0 (off := ![0, 0, 640]) (size := S1x32x128.size) inb_S3x32x1152_S1x32x128_0_0_640 rfl rfl)) $$ HR0; iintro HR0
      rw [show rM.view.readAt (Elt F) (Rect.unit (s := S3x32x1152) ![0, 0, 640] S1x32x128.size inb_S3x32x1152_S1x32x128_0_0_640).toLoadRect r0 = nR A 0 5 from rv_read A 0 _ hr0 rfl rfl (by decide)]
      iapply (wp_load 𝒱₀ ((0 : Dev nD) : Thread nD τ) none Set.univ (m := rM) (S := slotS 0) (rv_sub 0 (off := ![0, 0, 1029]) (size := S1x32x1.size) inb_S3x32x1152_S1x32x1_0_0_1029 rfl rfl)) $$ HR0; iintro HR0
      rw [show rM.view.readAt (Elt F) (Rect.unit (s := S3x32x1152) ![0, 0, 1029] S1x32x1.size inb_S3x32x1152_S1x32x1_0_0_1029).toLoadRect r0 = sR A 0 5 from rv_read A 0 _ hr0 rfl rfl (by decide)]
      iapply (wp_load 𝒱₀ ((0 : Dev nD) : Thread nD τ) none Set.univ (m := rM) (S := slotS 1) (rv_sub 1 (off := ![1, 0, 640]) (size := S1x32x128.size) inb_S3x32x1152_S1x32x128_1_0_640 rfl rfl)) $$ HR1; iintro HR1
      rw [show rM.view.readAt (Elt F) (Rect.unit (s := S3x32x1152) ![1, 0, 640] S1x32x128.size inb_S3x32x1152_S1x32x128_1_0_640).toLoadRect r1 = nR A 1 5 from rv_read A 1 _ hr1 rfl rfl (by decide)]
      iapply (wp_load 𝒱₀ ((0 : Dev nD) : Thread nD τ) none Set.univ (m := rM) (S := slotS 1) (rv_sub 1 (off := ![1, 0, 1029]) (size := S1x32x1.size) inb_S3x32x1152_S1x32x1_1_0_1029 rfl rfl)) $$ HR1; iintro HR1
      rw [show rM.view.readAt (Elt F) (Rect.unit (s := S3x32x1152) ![1, 0, 1029] S1x32x1.size inb_S3x32x1152_S1x32x1_1_0_1029).toLoadRect r1 = sR A 1 5 from rv_read A 1 _ hr1 rfl rfl (by decide)]
      iapply (wp_load 𝒱₀ ((0 : Dev nD) : Thread nD τ) none Set.univ (m := rM) (S := slotS 2) (rv_sub 2 (off := ![2, 0, 640]) (size := S1x32x128.size) inb_S3x32x1152_S1x32x128_2_0_640 rfl rfl)) $$ HR2; iintro HR2
      rw [show rM.view.readAt (Elt F) (Rect.unit (s := S3x32x1152) ![2, 0, 640] S1x32x128.size inb_S3x32x1152_S1x32x128_2_0_640).toLoadRect r2 = nR A 2 5 from rv_read A 2 _ hr2 rfl rfl (by decide)]
      iapply (wp_load 𝒱₀ ((0 : Dev nD) : Thread nD τ) none Set.univ (m := rM) (S := slotS 2) (rv_sub 2 (off := ![2, 0, 1029]) (size := S1x32x1.size) inb_S3x32x1152_S1x32x1_2_0_1029 rfl rfl)) $$ HR2; iintro HR2
      rw [show rM.view.readAt (Elt F) (Rect.unit (s := S3x32x1152) ![2, 0, 1029] S1x32x1.size inb_S3x32x1152_S1x32x1_2_0_1029).toLoadRect r2 = sR A 2 5 from rv_read A 2 _ hr2 rfl rfl (by decide)]
      iapply (wp_load 𝒱₀ ((0 : Dev nD) : Thread nD τ) none Set.univ (m := cM) (Finset.subset_univ _)) $$ Hc; iintro Hc
      iapply (wp_store 𝒱₀ ((0 : Dev nD) : Thread nD τ) none Set.univ (m := cM)
        (r := Rect.unit (s := S1024x1024) ![0, 640] S32x128.size inb_S1024x1024_S32x128_0_640) (Mk := Finset.univ) (Finset.subset_univ _)) $$ Hc; iintro Hc
      generalize hw5 : k0_pay25 (F := F) _ _ _ _ _ _ _ _ = w
      obtain rfl : w = cG A 5 := hw5.symm
      ihave Hc := (glob_step A 5 640 768 rfl rfl rfl inb_S1024x1024_S32x128_0_640 hg5) $$ Hc
      unfold ctxG blk
      icases Hc with ⟨%f6, %hg6, Hc⟩
      iapply (wp_load 𝒱₀ ((0 : Dev nD) : Thread nD τ) none Set.univ (m := pM) (Finset.subset_univ _)) $$ Hp; iintro Hp
      rw [show pM.view.readAt (Elt F) (Rect.unit (s := S32x1152) ![0, 768] S32x128.size inb_S32x1152_S32x128_0_768).toLoadRect p = n0 A 6 from ps_read A 0 _ hp (by decide)]
      iapply (wp_load 𝒱₀ ((0 : Dev nD) : Thread nD τ) none Set.univ (m := pM) (Finset.subset_univ _)) $$ Hp; iintro Hp
      rw [show pM.view.readAt (Elt F) (Rect.unit (s := S32x1152) ![0, 1030] S32x1.size inb_S32x1152_S32x1_0_1030).toLoadRect p = s0 A 6 from ps_read A 0 _ hp (by decide)]
      iapply (wp_load 𝒱₀ ((0 : Dev nD) : Thread nD τ) none Set.univ (m := rM) (S := slotS 0) (rv_sub 0 (off := ![0, 0, 768]) (size := S1x32x128.size) inb_S3x32x1152_S1x32x128_0_0_768 rfl rfl)) $$ HR0; iintro HR0
      rw [show rM.view.readAt (Elt F) (Rect.unit (s := S3x32x1152) ![0, 0, 768] S1x32x128.size inb_S3x32x1152_S1x32x128_0_0_768).toLoadRect r0 = nR A 0 6 from rv_read A 0 _ hr0 rfl rfl (by decide)]
      iapply (wp_load 𝒱₀ ((0 : Dev nD) : Thread nD τ) none Set.univ (m := rM) (S := slotS 0) (rv_sub 0 (off := ![0, 0, 1030]) (size := S1x32x1.size) inb_S3x32x1152_S1x32x1_0_0_1030 rfl rfl)) $$ HR0; iintro HR0
      rw [show rM.view.readAt (Elt F) (Rect.unit (s := S3x32x1152) ![0, 0, 1030] S1x32x1.size inb_S3x32x1152_S1x32x1_0_0_1030).toLoadRect r0 = sR A 0 6 from rv_read A 0 _ hr0 rfl rfl (by decide)]
      iapply (wp_load 𝒱₀ ((0 : Dev nD) : Thread nD τ) none Set.univ (m := rM) (S := slotS 1) (rv_sub 1 (off := ![1, 0, 768]) (size := S1x32x128.size) inb_S3x32x1152_S1x32x128_1_0_768 rfl rfl)) $$ HR1; iintro HR1
      rw [show rM.view.readAt (Elt F) (Rect.unit (s := S3x32x1152) ![1, 0, 768] S1x32x128.size inb_S3x32x1152_S1x32x128_1_0_768).toLoadRect r1 = nR A 1 6 from rv_read A 1 _ hr1 rfl rfl (by decide)]
      iapply (wp_load 𝒱₀ ((0 : Dev nD) : Thread nD τ) none Set.univ (m := rM) (S := slotS 1) (rv_sub 1 (off := ![1, 0, 1030]) (size := S1x32x1.size) inb_S3x32x1152_S1x32x1_1_0_1030 rfl rfl)) $$ HR1; iintro HR1
      rw [show rM.view.readAt (Elt F) (Rect.unit (s := S3x32x1152) ![1, 0, 1030] S1x32x1.size inb_S3x32x1152_S1x32x1_1_0_1030).toLoadRect r1 = sR A 1 6 from rv_read A 1 _ hr1 rfl rfl (by decide)]
      iapply (wp_load 𝒱₀ ((0 : Dev nD) : Thread nD τ) none Set.univ (m := rM) (S := slotS 2) (rv_sub 2 (off := ![2, 0, 768]) (size := S1x32x128.size) inb_S3x32x1152_S1x32x128_2_0_768 rfl rfl)) $$ HR2; iintro HR2
      rw [show rM.view.readAt (Elt F) (Rect.unit (s := S3x32x1152) ![2, 0, 768] S1x32x128.size inb_S3x32x1152_S1x32x128_2_0_768).toLoadRect r2 = nR A 2 6 from rv_read A 2 _ hr2 rfl rfl (by decide)]
      iapply (wp_load 𝒱₀ ((0 : Dev nD) : Thread nD τ) none Set.univ (m := rM) (S := slotS 2) (rv_sub 2 (off := ![2, 0, 1030]) (size := S1x32x1.size) inb_S3x32x1152_S1x32x1_2_0_1030 rfl rfl)) $$ HR2; iintro HR2
      rw [show rM.view.readAt (Elt F) (Rect.unit (s := S3x32x1152) ![2, 0, 1030] S1x32x1.size inb_S3x32x1152_S1x32x1_2_0_1030).toLoadRect r2 = sR A 2 6 from rv_read A 2 _ hr2 rfl rfl (by decide)]
      iapply (wp_load 𝒱₀ ((0 : Dev nD) : Thread nD τ) none Set.univ (m := cM) (Finset.subset_univ _)) $$ Hc; iintro Hc
      iapply (wp_store 𝒱₀ ((0 : Dev nD) : Thread nD τ) none Set.univ (m := cM)
        (r := Rect.unit (s := S1024x1024) ![0, 768] S32x128.size inb_S1024x1024_S32x128_0_768) (Mk := Finset.univ) (Finset.subset_univ _)) $$ Hc; iintro Hc
      generalize hw6 : k0_pay26 (F := F) _ _ _ _ _ _ _ _ = w
      obtain rfl : w = cG A 6 := hw6.symm
      ihave Hc := (glob_step A 6 768 896 rfl rfl rfl inb_S1024x1024_S32x128_0_768 hg6) $$ Hc
      unfold ctxG blk
      icases Hc with ⟨%f7, %hg7, Hc⟩
      iapply (wp_load 𝒱₀ ((0 : Dev nD) : Thread nD τ) none Set.univ (m := pM) (Finset.subset_univ _)) $$ Hp; iintro Hp
      rw [show pM.view.readAt (Elt F) (Rect.unit (s := S32x1152) ![0, 896] S32x128.size inb_S32x1152_S32x128_0_896).toLoadRect p = n0 A 7 from ps_read A 0 _ hp (by decide)]
      iapply (wp_load 𝒱₀ ((0 : Dev nD) : Thread nD τ) none Set.univ (m := pM) (Finset.subset_univ _)) $$ Hp; iintro Hp
      rw [show pM.view.readAt (Elt F) (Rect.unit (s := S32x1152) ![0, 1031] S32x1.size inb_S32x1152_S32x1_0_1031).toLoadRect p = s0 A 7 from ps_read A 0 _ hp (by decide)]
      iapply (wp_load 𝒱₀ ((0 : Dev nD) : Thread nD τ) none Set.univ (m := rM) (S := slotS 0) (rv_sub 0 (off := ![0, 0, 896]) (size := S1x32x128.size) inb_S3x32x1152_S1x32x128_0_0_896 rfl rfl)) $$ HR0; iintro HR0
      rw [show rM.view.readAt (Elt F) (Rect.unit (s := S3x32x1152) ![0, 0, 896] S1x32x128.size inb_S3x32x1152_S1x32x128_0_0_896).toLoadRect r0 = nR A 0 7 from rv_read A 0 _ hr0 rfl rfl (by decide)]
      iapply (wp_load 𝒱₀ ((0 : Dev nD) : Thread nD τ) none Set.univ (m := rM) (S := slotS 0) (rv_sub 0 (off := ![0, 0, 1031]) (size := S1x32x1.size) inb_S3x32x1152_S1x32x1_0_0_1031 rfl rfl)) $$ HR0; iintro HR0
      rw [show rM.view.readAt (Elt F) (Rect.unit (s := S3x32x1152) ![0, 0, 1031] S1x32x1.size inb_S3x32x1152_S1x32x1_0_0_1031).toLoadRect r0 = sR A 0 7 from rv_read A 0 _ hr0 rfl rfl (by decide)]
      iapply (wp_load 𝒱₀ ((0 : Dev nD) : Thread nD τ) none Set.univ (m := rM) (S := slotS 1) (rv_sub 1 (off := ![1, 0, 896]) (size := S1x32x128.size) inb_S3x32x1152_S1x32x128_1_0_896 rfl rfl)) $$ HR1; iintro HR1
      rw [show rM.view.readAt (Elt F) (Rect.unit (s := S3x32x1152) ![1, 0, 896] S1x32x128.size inb_S3x32x1152_S1x32x128_1_0_896).toLoadRect r1 = nR A 1 7 from rv_read A 1 _ hr1 rfl rfl (by decide)]
      iapply (wp_load 𝒱₀ ((0 : Dev nD) : Thread nD τ) none Set.univ (m := rM) (S := slotS 1) (rv_sub 1 (off := ![1, 0, 1031]) (size := S1x32x1.size) inb_S3x32x1152_S1x32x1_1_0_1031 rfl rfl)) $$ HR1; iintro HR1
      rw [show rM.view.readAt (Elt F) (Rect.unit (s := S3x32x1152) ![1, 0, 1031] S1x32x1.size inb_S3x32x1152_S1x32x1_1_0_1031).toLoadRect r1 = sR A 1 7 from rv_read A 1 _ hr1 rfl rfl (by decide)]
      iapply (wp_load 𝒱₀ ((0 : Dev nD) : Thread nD τ) none Set.univ (m := rM) (S := slotS 2) (rv_sub 2 (off := ![2, 0, 896]) (size := S1x32x128.size) inb_S3x32x1152_S1x32x128_2_0_896 rfl rfl)) $$ HR2; iintro HR2
      rw [show rM.view.readAt (Elt F) (Rect.unit (s := S3x32x1152) ![2, 0, 896] S1x32x128.size inb_S3x32x1152_S1x32x128_2_0_896).toLoadRect r2 = nR A 2 7 from rv_read A 2 _ hr2 rfl rfl (by decide)]
      iapply (wp_load 𝒱₀ ((0 : Dev nD) : Thread nD τ) none Set.univ (m := rM) (S := slotS 2) (rv_sub 2 (off := ![2, 0, 1031]) (size := S1x32x1.size) inb_S3x32x1152_S1x32x1_2_0_1031 rfl rfl)) $$ HR2; iintro HR2
      rw [show rM.view.readAt (Elt F) (Rect.unit (s := S3x32x1152) ![2, 0, 1031] S1x32x1.size inb_S3x32x1152_S1x32x1_2_0_1031).toLoadRect r2 = sR A 2 7 from rv_read A 2 _ hr2 rfl rfl (by decide)]
      iapply (wp_load 𝒱₀ ((0 : Dev nD) : Thread nD τ) none Set.univ (m := cM) (Finset.subset_univ _)) $$ Hc; iintro Hc
      iapply (wp_store 𝒱₀ ((0 : Dev nD) : Thread nD τ) none Set.univ (m := cM)
        (r := Rect.unit (s := S1024x1024) ![0, 896] S32x128.size inb_S1024x1024_S32x128_0_896) (Mk := Finset.univ) (Finset.subset_univ _)) $$ Hc; iintro Hc
      generalize hw7 : k0_pay79 (F := F) _ _ _ _ _ _ = w
      obtain rfl : w = cG A 7 := hw7.symm
      ihave Hc := (glob_step A 7 896 1024 rfl rfl rfl inb_S1024x1024_S32x128_0_896 hg7) $$ Hc
      unfold ctxG blk
      icases Hc with ⟨%f8, %hg8, Hc⟩
      iapply HK
      isplitl [HO]; · iexact HO
      isplitl [Hd10 Hd11 Hd12]
      · isplitl [Hd10]; · iexact Hd10
        isplitl [Hd11] <;> iassumption
      isplitl [Hp]
      · iexists p
        isplitr; · (ipureintro; exact hp)
        iexact Hp
      isplitl [HR0 HR1 HR2]
      · unfold slot rPt
        isplitl [HR0]; · (iexists r0; iexact HR0)
        isplitl [HR1]; · (iexists r1; iexact HR1)
        iexists r2; iexact HR2
      rw [show f8 = cC A 0 from funext fun i => hg8 i (Or.inr (idx2_lt1 i))]
      iexact Hc)

end Cert.KProof

end
-- ==== Proof.Whole.lean ====
/-
The last part of the body and its tail: the output projection and the ends of the device's own transfers; then the
body as a whole.
-/
module

public import proofs.«01_k».proof.Proof.Combine

@[expose] public section

noncomputable section

namespace Cert.KProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Ins F) (K : Dev nD × Fin 13 → ℕ)

/-- The whole output weights read are the weights. -/
theorem read_wo (f : Vec F S1024x1024 .bf16) : woM.view.readAt (Elt F) (Rect.unit (s := S1024x1024) ![0, 0] S1024x1024.size inb_S1024x1024_S1024x1024_0_0).toLoadRect f = f :=
  Memref.readAt_unit_zero (Elt F) cc0_stg4_0 (funext fun a => by fin_cases a <;> rfl) _ _
/-- The whole context read is the context. -/
theorem read_cst (f : Vec F S1024x1024 .bf16) : cM.view.readAt (Elt F) (Rect.unit (s := S1024x1024) ![0, 0] S1024x1024.size inb_S1024x1024_S1024x1024_0_0).toLoadRect f = f :=
  Memref.readAt_unit_zero (Elt F) cc0_scratch4 (funext fun a => by fin_cases a <;> rfl) _ _
/-- A store of the whole result leaves what was stored. -/
theorem write_out_whole (f w : Vec F S1x1024x1024 .f32) : (oM.access (Rect.unit (s := S1x1024x1024) ![0, 0, 0] S1x1024x1024.size inb_S1x1024x1024_S1x1024x1024_0_0_0) : View sig .tc _ _ _).write (Elt F) f w Finset.univ = w :=
  Memref.write_access_unit_zero_univ (Elt F) cc0_stg5_0 (funext fun a => by fin_cases a <;> rfl) _ _ _

/-- Device 0 sends no halo to the left and no partial sums. -/
theorem dut13' (c : Dev nD) (h : ¬ c ≠ 0) : dutF (c, 1) = ∅ ∧ dutF (c, 3) = ∅ := by revert c; decide
/-- Device 3 sends no halo to the right. -/
theorem dut2' (c : Dev nD) (h : ¬ c ≠ 3) : dutF (c, 2) = ∅ := by revert c; decide
/-- Only device 0 sends the global rows. -/
theorem dut456 (c : Dev nD) (h : c ≠ 0) : dutF (c, 4) = ∅ ∧ dutF (c, 5) = ∅ ∧ dutF (c, 6) = ∅ := by revert c; decide
/-- Device 0 keeps the rows that would go to the left. -/
theorem loK_zero (c : Dev nD) (h : ¬ c ≠ 0) : loK A c = bandPt c loS fullShare.right (bandC A c) := by
  obtain rfl : c = 0 := not_not.mp h
  rfl
/-- Device 3 keeps the rows that would go to the right. -/
theorem hiK_zero (c : Dev nD) (h : ¬ c ≠ 3) : hiK A c = bandPt c hiS fullShare.right (bandC A c) := by
  obtain rfl : c = 3 := not_not.mp h
  rfl
/-- Device 0 keeps its own partial sums. -/
theorem pK_zero (c : Dev nD) (h : ¬ c ≠ 0) : pK A c = psSt A c 1032 := by
  obtain rfl : c = 0 := not_not.mp h
  rfl

/-! ## The edge loop, the combination, the output projection -/

/-- Before the edge loop: the halos are in, the interior rows are computed, the partial sums may be on their way. -/
def pre19 (c : Dev nD) : sProp 𝕄 :=
  iprop(recs A K ∗ ow c ∅ ∗ rc3 c ∗ (loK A c ∗ pos c 1) ∗ (pK A c ∗ pos c 3) ∗ rd2 A c ∗ ctxSt A c (P1 8)
    ∗ blk c cc0_stg4_0 (A.wo c) ∗ ∃ f, blk (F := F) c cc0_stg5_0 f)
/-- After the output projection: the result is stored, the transfers to the left and of partial sums have ended. -/
def post19 (c : Dev nD) : sProp 𝕄 :=
  iprop(ow c ∅ ∗ rd3 A c ∗ (done A c 1 ∗ bandPt c loS fullShare.right (bandC A c)) ∗ (done A c 3 ∗ ∃ f, pPt (F := F) c f) ∗ rd2 A c
    ∗ rK c ∗ blk c cc0_scratch4 (cC A c) ∗ blk c cc0_stg4_0 (A.wo c) ∗ blk c cc0_stg5_0 (outC A c))

/-- The buffer of partial sums, its contents forgotten. -/
theorem ps_any (c : Dev nD) : psSt A c 1032 ⊢ iprop(∃ f, pPt (F := F) c f) := by
  unfold psSt pPt blk
  iintro ⟨%f, -, H⟩
  iexists f
  rw [show (pM.view.set : Finset S32x1152.Idx) = Finset.univ from View.set_whole _]
  iexact H

set_option maxHeartbeats 2000000 in
/-- The last long part: the edge rows, device 0's combination of the partial sums, the output projection, and the waits
    for the transfers to the left and to device 0. -/
theorem part19 (c : Dev nD) (Kt : _ → sProp 𝕄) :
    iprop(pre19 A K c ∗ (post19 A c -∗ Kt ⟨⟩))
      ⊢ WP c (k0_part19 (F := F) xM (Memref.isWhole_whole _) wqM (Memref.isWhole_whole _) kM (Memref.isWhole_whole _) vM (Memref.isWhole_whole _) woM (Memref.isWhole_whole _) oM (Memref.isWhole_whole _) bM (Memref.isWhole_whole _) gM (Memref.isWhole_whole _) xbM (Memref.isWhole_whole _) qM (Memref.isWhole_whole _) cM (Memref.isWhole_whole _) pM (Memref.isWhole_whole _) rM (Memref.isWhole_whole _) cc0_scratch7 cc0_scratch8 c (idw c) k0_pay71 (k0_pay72 (idw c)) (k0_pay73 (idw c)) k0_pay74) Kt := by
  simp only [k0_part19_eq_skeleton]; unfold k0_part19_skel
  unfold pre19 post19
  iintro ⟨⟨#H, HO, Hrc, ⟨Hlo, Hp1⟩, ⟨Hps, Hp3⟩, Hr, Hc, Hwo, ⟨%fo, Ho⟩⟩, HK⟩
  iapply (Scf.wp_for_bind frame (wpE (defs₀ (F := F)) 𝒱₀ (c : Thread nD τ) none) Set.univ k0_t2_loop.lb k0_t2_loop.ub k0_t2_loop.st k0_t2_ok ⟨⟩ _
    (fun k _ => iprop(rd2 A c ∗ ctxSt A c (P2 k))) (fun t u => trip2 A c c t u)) $$ [Hr Hc]
  · isplitl [Hr]; · iexact Hr
    unfold ctxSt
    icases Hc with ⟨%f, %hf, Hc⟩
    iexists f
    isplitr
    · ipureintro; intro i hi; exact hf i (by unfold P1; unfold P2 at hi; have := idx2_lt1 i; omega)
    iexact Hc
  iintro %u ⟨Hr, Hc⟩
  iapply (combine A K c) $$ [HO Hrc Hps Hc]
  · isplitr; · iexact H
    isplitl [HO]; · iexact HO
    isplitl [Hrc]; · iexact Hrc
    isplitl [Hps]; · iexact Hps
    rw [show (8 : ℕ) = Scf.trips k0_t2_loop.lb k0_t2_loop.ub k0_t2_loop.st from trips2.symm]
    iexact Hc
  iintro ⟨HO, Hrd, Hps, HrK, Hc⟩
  simp only [semWaitWord, Prog.lift, Prog.bind_op, Prog.bind_ret, Prog.pure_eq_ret]
  unfold blk
  iapply (wp_load 𝒱₀ (c : Thread nD τ) none Set.univ (m := woM) (Finset.subset_univ _)) $$ Hwo; iintro Hwo
  iapply (wp_load 𝒱₀ (c : Thread nD τ) none Set.univ (m := cM) (Finset.subset_univ _)) $$ Hc; iintro Hc
  iapply (wp_load 𝒱₀ (c : Thread nD τ) none Set.univ (m := oM) (Finset.subset_univ _)) $$ Ho; iintro Ho
  iapply (wp_store 𝒱₀ (c : Thread nD τ) none Set.univ (m := oM)
    (r := Rect.unit (s := S1x1024x1024) ![0, 0, 0] S1x1024x1024.size inb_S1x1024x1024_S1x1024x1024_0_0_0) (Mk := Finset.univ) (Finset.subset_univ _)) $$ Ho; iintro Ho
  rw [write_out_whole, read_wo, read_cst, show k0_pay80 (A.wo c) (cC A c) = outC A c from rfl]
  iapply (wp_if c (iprop(recs A K ∗ ow c ∅ ∗ (loK A c ∗ pos c 1) ∗ (pK A c ∗ pos c 3)))
    (iprop(ow c ∅ ∗ (done A c 1 ∗ bandPt c loS fullShare.right (bandC A c)) ∗ (done A c 3 ∗ ∃ f, pPt (F := F) c f)))
    (fun h => by
      rw [is_15] at h
      rw [loK_zero A c h, pK_zero A c h]
      iintro ⟨-, HO, ⟨Hl, Hp1⟩, ⟨Hs, Hp3⟩⟩
      isplitl [HO]; · iexact HO
      isplitl [Hl Hp1]
      · isplitl [Hp1]; · (iapply (done_unused A c 1 (dut13' c h).1); iexact Hp1)
        iexact Hl
      isplitl [Hp3]; · (iapply (done_unused A c 3 (dut13' c h).2); iexact Hp3)
      iapply (ps_any A c); iexact Hs)
    (fun h => by
      have h15 := h
      rw [is_15] at h
      rw [loK_eq A c h, pK_ne A c h]
      iintro ⟨⟨#H, HO, ⟨Hc1, Hp1⟩, ⟨Hc3, Hp3⟩⟩, HK⟩
      iapply (wait_dma A K c 1 c (dut1 c h) ((cc0_scratch7.slice (Rect.unit (s := S6) ![0] S1.size inb_S6_S1_0)).squeeze S_ squeezes_S1_S_).sem (bM.slice (Rect.unit (s := S1280x2048) ![1152, 0] S128x2048.size inb_S1280x2048_S128x2048_1152_0) (fun _ => rfl)) (bM.slice (Rect.unit (s := S1280x2048) ![128, 0] S128x2048.size inb_S1280x2048_S128x2048_128_0) (fun _ => rfl)) _ _ rfl rfl) $$ [HO Hc1 Hp1]
      · isplitr; · iexact H
        isplitl [HO]; · iexact HO
        isplitl [Hc1] <;> iassumption
      iintro ⟨HO, Hd1, Hy1⟩
      iapply (wait_dma A K c 3 c (dut3 c h) ((cc0_scratch7.slice (Rect.unit (s := S6) ![2] S1.size inb_S6_S1_2)).squeeze S_ squeezes_S1_S_).sem ((rM.slice (Rect.unit (s := S3x32x1152) (k0_off19 c) S1x32x1152.size (k0_off19_inb c h15)) (fun _ => rfl)).squeeze S32x1152 squeezes_S1x32x1152_S32x1152) pM _ _ rfl rfl) $$ [HO Hc3 Hp3]
      · isplitr; · iexact H
        isplitl [HO]; · iexact HO
        isplitl [Hc3] <;> iassumption
      iintro ⟨HO, Hd3, Hy3⟩
      iapply HK
      isplitl [HO]; · iexact HO
      isplitl [Hd1 Hy1]
      · isplitl [Hd1]; · iexact Hd1
        iapply (show pay A c 1 c ⊢ bandPt c loS fullShare.right (bandC A c) from .rfl); iexact Hy1
      isplitl [Hd3]; · iexact Hd3
      iapply (show pay A c 3 c ⊢ iprop(∃ f, pPt (F := F) c f) from .rfl); iexact Hy3)) $$ [HO Hlo Hp1 Hps Hp3]
  · isplitr; · iexact H
    isplitl [HO]; · iexact HO
    isplitl [Hlo Hp1]; · (isplitl [Hlo] <;> iassumption)
    isplitl [Hps] <;> iassumption
  iintro ⟨HO, Hlo, Hps⟩
  unfold WP
  rw [wp_ret]; imodintro
  iapply HK
  isplitl [HO]; · iexact HO
  isplitl [Hrd]; · iexact Hrd
  isplitl [Hlo]; · iexact Hlo
  isplitl [Hps]; · iexact Hps
  isplitl [Hr]; · iexact Hr
  isplitl [HrK]; · iexact HrK
  isplitl [Hc]; · iexact Hc
  isplitl [Hwo] <;> iassumption

end Cert.KProof

end
-- ==== Proof.Body.lean ====
/-
The whole body of one device: the parts in order, from the launch's buffers and the device's share of the exchange to the
result in the output's staging buffer, every semaphore used up and every buffer whole again.
-/
module

public import proofs.«01_k».proof.Proof.Whole

@[expose] public section

noncomputable section

namespace Cert.KProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Ins F) (K : Dev nD × Fin 13 → ℕ)

/-- One piece of a sequence, whose result is known. -/
theorem wp_seg (c : Dev nD) {α β : Type} (P P' : sProp 𝕄) (a : α) {e : Prog (TpuEff nD τ sig (Elt F) Λ₀ .tc) α}
    {k : α → Prog (TpuEff nD τ sig (Elt F) Λ₀ .tc) β} {Q : β → sProp 𝕄} (he : ∀ Kt : α → sProp 𝕄, iprop(P ∗ (P' -∗ Kt a)) ⊢ WP c e Kt) :
    P ⊢ iprop((P' -∗ WP c (k a) Q) -∗ WP c (e >>= k) Q) := by
  unfold WP
  rw [wp_bind]
  iintro HP HK
  iapply (he fun a => wp frame (wpE (defs₀ (F := F)) 𝒱₀ (c : Thread nD τ) none) Set.univ (k a) Q)
  isplitl [HP] <;> iassumption

/-! ## The tail -/

/-- Before the tail: the transfer to the right and the global rows' transfers may be under way. -/
def preT (c : Dev nD) : sProp 𝕄 :=
  iprop(recs A K ∗ ow c ∅ ∗ (hiK A c ∗ pos c 2) ∗ (gPt c (gshr c) (gC A) ∗ gCr c ∗ pos c 4 ∗ pos c 5 ∗ pos c 6))
/-- After the tail: both have ended, their sources are back. -/
def postT (c : Dev nD) : sProp 𝕄 :=
  iprop(ow c ∅ ∗ (done A c 2 ∗ bandPt c hiS fullShare.right (bandC A c)) ∗ (gPt c fullShare (gC A) ∗ done A c 4 ∗ done A c 5 ∗ done A c 6))

/-- The four shares of device 0's global rows make the whole again. -/
theorem g_back : iprop(gPt 0 fullShare.left (gC A) ∗ gPt 0 (gsh 0) (gC A) ∗ gPt 0 (gsh 1) (gC A) ∗ gPt 0 (gsh 2) (gC A))
    ⊢ gPt (F := F) 0 fullShare (gC A) := by
  unfold gsh
  iintro ⟨HL, H0, H1, H2⟩
  iapply (g_share 0 fullShare (gC A)).2
  isplitl [HL]; · iexact HL
  iapply (g_share 0 fullShare.right (gC A)).2
  isplitl [H0]; · iexact H0
  iapply (g_share 0 fullShare.right.right (gC A)).2
  isplitl [H1] <;> iassumption

/-! ## The scratch at the start and at the end -/

/-- A scratch buffer, whole. -/
def scr (c : Dev nD) (r : Ref sig .tc) : sProp 𝕄 := iprop(∃ f, blk (F := F) c r f)

omit [FloatOps F] in
/-- The band buffer at the start, cut into left halo, own rows and right halo. -/
theorem band_in (c : Dev nD) : scr (F := F) c cc0_scratch0 ⊢ iprop(top (F := F) c ∗ (∃ f, bandPt (F := F) c midS fullShare f) ∗ bot (F := F) c) := by
  unfold scr top bot
  iintro ⟨%f, H⟩
  ihave H := (show blk (F := F) c cc0_scratch0 f ⊢ bandPt (F := F) c Finset.univ fullShare f from .rfl) $$ H
  ihave H := (band_all c fullShare f).1 $$ H
  icases H with ⟨H1, H2, H3⟩
  isplitl [H1]; · (iexists f; iexact H1)
  isplitl [H2]; · (iexists f; iexact H2)
  iexists f; iexact H3
omit [FloatOps F] in
/-- The buffer of global rows at the start. -/
theorem glob_in (c : Dev nD) : scr (F := F) c cc0_scratch1 ⊢ gb (F := F) c := by
  unfold scr gb gPt
  rw [g_univ]
  exact .rfl

omit [FloatOps F] in
/-- The buffer of global rows, given back with whatever it holds. -/
theorem glob_out (c : Dev nD) (f : Vec F S32x3072 .bf16) : gPt c fullShare f ⊢ scr (F := F) c cc0_scratch1 := by
  unfold scr gPt
  rw [g_univ]
  exact BIClass.exists_intro (Φ := fun f => blk (F := F) c cc0_scratch1 f) f
omit [FloatOps F] in
/-- The buffer of partial sums, given back with whatever it holds. -/
theorem part_out (c : Dev nD) (f : Vec F S32x1152 .f32) : pPt c f ⊢ scr (F := F) c cc0_scratch5 := by
  unfold scr pPt
  rw [show (pM.view.set : Finset S32x1152.Idx) = Finset.univ from View.set_whole _]
  exact BIClass.exists_intro (Φ := fun f => blk (F := F) c cc0_scratch5 f) f

/-- The receive buffer is its three slots. -/
theorem slot_univ : (Finset.univ : Finset S3x32x1152.Idx) = slotS 0 ∪ (slotS 1 ∪ slotS 2) := by
  ext i
  rw [Finset.mem_union, Finset.mem_union, mem_slotS, mem_slotS, mem_slotS]
  have h : (i 0).val < 3 := (i 0).isLt
  refine ⟨fun _ => ?_, fun _ => Finset.mem_univ _⟩
  show (i 0).val = 0 ∨ (i 0).val = 1 ∨ (i 0).val = 2
  omega
/-- Slot 0 is apart from the other two. -/
theorem slot_d0 : Disjoint (slotS 0) (slotS 1 ∪ slotS 2) := Finset.disjoint_left.mpr fun i h h' => by
  rw [Finset.mem_union, mem_slotS, mem_slotS] at h'
  rw [mem_slotS] at h
  have h : (i 0).val = 0 := h
  have h' : (i 0).val = 1 ∨ (i 0).val = 2 := h'
  omega
/-- Slots 1 and 2 are apart. -/
theorem slot_d1 : Disjoint (slotS 1) (slotS 2) := Finset.disjoint_left.mpr fun i h h' => by
  rw [mem_slotS] at h h'
  have h : (i 0).val = 1 := h
  have h' : (i 0).val = 2 := h'
  omega

omit [FloatOps F] in
/-- The receive buffer on device 0, cut into its three slots and joined again. -/
theorem slots_split (f : Vec F S3x32x1152 .f32) : blk (F := F) 0 cc0_scratch6 f ⊣⊢ iprop(rPt 0 0 f ∗ rPt 0 1 f ∗ rPt 0 2 f) := by
  unfold rPt
  rw [show blk (F := F) 0 cc0_scratch6 f = (rM.view.loc ((0 : Dev nD) : Thread nD τ) ↦[slotS 0 ∪ (slotS 1 ∪ slotS 2)]{fullShare} f) from by rw [← slot_univ]; rfl]
  exact (pointsTo_union slot_d0).trans ⟨sep_mono_right (pointsTo_union slot_d1).1, sep_mono_right (pointsTo_union slot_d1).2⟩

omit [FloatOps F] in
/-- The receive buffer on device 0 at the start, as three slots. -/
theorem slots_in : scr (F := F) 0 cc0_scratch6 ⊢ iprop(slot (F := F) 0 ∗ slot 1 ∗ slot 2) := by
  unfold scr slot
  iintro ⟨%f, H⟩
  ihave H := (slots_split f).1 $$ H
  icases H with ⟨H1, H2, H3⟩
  isplitl [H1]; · (iexists f; iexact H1)
  isplitl [H2]; · (iexists f; iexact H2)
  iexists f; iexact H3

omit [FloatOps F] in
/-- The three slots, given back as one buffer. -/
theorem slots_out : iprop(slot (F := F) 0 ∗ slot 1 ∗ slot 2) ⊢ scr (F := F) 0 cc0_scratch6 := by
  unfold scr slot
  iintro ⟨⟨%f0, H0⟩, ⟨%f1, H1⟩, ⟨%f2, H2⟩⟩
  let g : Vec F S3x32x1152 .f32 := fun i => if (i 0).val = 0 then f0 i else if (i 0).val = 1 then f1 i else f2 i
  have e0 : rPt 0 0 f0 = rPt 0 0 g := pointsTo_congr fun i hi => by
    have h : (i 0).val = 0 := (mem_slotS 0 i).mp hi
    exact (if_pos h).symm
  have e1 : rPt 0 1 f1 = rPt 0 1 g := pointsTo_congr fun i hi => by
    have h : (i 0).val = 1 := (mem_slotS 1 i).mp hi
    show f1 i = if (i 0).val = 0 then f0 i else if (i 0).val = 1 then f1 i else f2 i
    rw [if_neg (by omega), if_pos h]
  have e2 : rPt 0 2 f2 = rPt 0 2 g := pointsTo_congr fun i hi => by
    have h : (i 0).val = 2 := (mem_slotS 2 i).mp hi
    show f2 i = if (i 0).val = 0 then f0 i else if (i 0).val = 1 then f1 i else f2 i
    rw [if_neg (by omega), if_neg (by omega)]
  iexists g
  iapply (slots_split g).2
  iapply (show iprop(rPt 0 0 f0 ∗ rPt 0 1 f1 ∗ rPt 0 2 f2) ⊢ iprop(rPt 0 0 g ∗ rPt 0 1 g ∗ rPt 0 2 g) from by rw [e0, e1, e2])
  isplitl [H0]; · iexact H0
  isplitl [H1] <;> iassumption

omit [FloatOps F] in
/-- The three shared buffers, given away or kept. -/
theorem shared_in : ∀ c : Dev nD, iprop(scr (F := F) c cc0_scratch0 ∗ scr c cc0_scratch1 ∗ scr c cc0_scratch6)
    ⊢ iprop(give (F := F) c ∗ keepT c ∗ keepB c ∗ keepG c ∗ keepR c ∗ ∃ f, bandPt (F := F) c midS fullShare f) := by
  refine fun c => (show _ ⊢ iprop((top (F := F) c ∗ (∃ f, bandPt (F := F) c midS fullShare f) ∗ bot (F := F) c) ∗ gb (F := F) c ∗ scr c cc0_scratch6) from
    BI.sep_mono (band_in c) (BI.sep_mono (glob_in c) (Entails.refl _))).trans ?_
  revert c
  refine dev_cases ?_ ?_ ?_ ?_
  · iintro ⟨⟨Ht, Hm, Hb⟩, Hg, Hr⟩
    ihave Hr := (slots_in (F := F)) $$ Hr
    icases Hr with ⟨H0, H1, H2⟩
    unfold give keepT keepB keepG keepR
    isplitl [Hb H0 H1 H2]
    · isplitl [Hb]; · iexact Hb
      isplitl [H0]; · iexact H0
      isplitl [H1] <;> iassumption
    isplitl [Ht]; · iexact Ht
    isplitr; · iempintro
    isplitl [Hg]; · iexact Hg
    isplitr; · iempintro
    iexact Hm
  · iintro ⟨⟨Ht, Hm, Hb⟩, Hg, Hr⟩
    ihave Hr := (show scr (F := F) 1 cc0_scratch6 ⊢ keepR (F := F) 1 from .rfl) $$ Hr
    unfold give keepT keepB keepG
    isplitl [Ht Hg Hb]
    · isplitl [Ht]; · iexact Ht
      isplitl [Hg] <;> iassumption
    isplitr; · iempintro
    isplitr; · iempintro
    isplitr; · iempintro
    isplitl [Hr]; · iexact Hr
    iexact Hm
  · iintro ⟨⟨Ht, Hm, Hb⟩, Hg, Hr⟩
    ihave Hr := (show scr (F := F) 2 cc0_scratch6 ⊢ keepR (F := F) 2 from .rfl) $$ Hr
    unfold give keepT keepB keepG
    isplitl [Hg Hb Ht]
    · isplitl [Hg]; · iexact Hg
      isplitl [Hb] <;> iassumption
    isplitr; · iempintro
    isplitr; · iempintro
    isplitr; · iempintro
    isplitl [Hr]; · iexact Hr
    iexact Hm
  · iintro ⟨⟨Ht, Hm, Hb⟩, Hg, Hr⟩
    ihave Hr := (show scr (F := F) 3 cc0_scratch6 ⊢ keepR (F := F) 3 from .rfl) $$ Hr
    unfold give keepT keepB keepG
    isplitl [Ht Hg]
    · isplitl [Hg] <;> iassumption
    isplitr; · iempintro
    isplitl [Hb]; · iexact Hb
    isplitr; · iempintro
    isplitl [Hr]; · iexact Hr
    iexact Hm

omit [FloatOps F] in
/-- The receive buffer of any device, given back. -/
theorem recv_out : ∀ c : Dev nD, iprop(keepR (F := F) c ∗ rK c) ⊢ scr (F := F) c cc0_scratch6 := by
  refine dev_cases ?_ ?_ ?_ ?_
  · iintro ⟨-, H⟩
    iapply (slots_out (F := F))
    iapply (show rK (F := F) 0 ⊢ iprop(slot (F := F) 0 ∗ slot 1 ∗ slot 2) from .rfl); iexact H
  · iintro ⟨H, -⟩
    iapply (show keepR (F := F) 1 ⊢ scr (F := F) 1 cc0_scratch6 from .rfl); iexact H
  · iintro ⟨H, -⟩
    iapply (show keepR (F := F) 2 ⊢ scr (F := F) 2 cc0_scratch6 from .rfl); iexact H
  · iintro ⟨H, -⟩
    iapply (show keepR (F := F) 3 ⊢ scr (F := F) 3 cc0_scratch6 from .rfl); iexact H

/-! ## The body -/

/-- The credits a device starts with, and its rights to pay. -/
def creds (c : Dev nD) : sProp 𝕄 := iprop(crd (F := F) c 0 ∗ crd c 7 ∗ crd c 8 ∗ crd c 9 ∗ crd c 10 ∗ crd c 11 ∗ crd c 12)
/-- The rights to pay: signals, global rows, the two halos, partial sums. -/
def rights (c : Dev nD) : sProp 𝕄 := iprop(sigToks (F := F) c ∗ gToks c ∗ lToks c ∗ rToks c ∗ pToks c)
/-- The device's position at each of its thirteen semaphores, nothing taken yet. -/
def allPos (c : Dev nD) : sProp 𝕄 :=
  iprop(pos (F := F) c 0 ∗ pos c 1 ∗ pos c 2 ∗ pos c 3 ∗ pos c 4 ∗ pos c 5 ∗ pos c 6 ∗ pos c 7 ∗ pos c 8 ∗ pos c 9 ∗ pos c 10 ∗ pos c 11 ∗ pos c 12)
/-- The same at the end, nothing more due at any of them. -/
def allDone (c : Dev nD) : sProp 𝕄 :=
  iprop(done A c 0 ∗ done A c 1 ∗ done A c 2 ∗ done A c 3 ∗ done A c 4 ∗ done A c 5 ∗ done A c 6 ∗ done A c 7 ∗ done A c 8 ∗ done A c 9 ∗ done A c 10 ∗ done A c 11 ∗ done A c 12)
/-- The seven scratch buffers, with whatever they hold. -/
def scrs (c : Dev nD) : sProp 𝕄 :=
  iprop(scr (F := F) c cc0_scratch0 ∗ scr c cc0_scratch1 ∗ scr c cc0_scratch2 ∗ scr c cc0_scratch3 ∗ scr c cc0_scratch4 ∗ scr c cc0_scratch5 ∗ scr c cc0_scratch6)
/-- The five arguments' blocks. -/
def args (c : Dev nD) : sProp 𝕄 :=
  iprop(blk c cc0_stg0_0 (A.x c) ∗ blk c cc0_stg1_0 (A.wq c) ∗ blk c cc0_stg2_0 (A.k c) ∗ blk c cc0_stg3_0 (A.v c) ∗ blk c cc0_stg4_0 (A.wo c))
/-- What the body starts from: all its payments owed, its rights and credits, its buffers and arguments. -/
def bodyPre (c : Dev nD) : sProp 𝕄 :=
  iprop(recs A K ∗ ow c (dues ∅ c) ∗ allPos c ∗ rights c ∗ creds c ∗ scrs c ∗ args A c ∗ ∃ f, blk (F := F) c cc0_stg5_0 f)
/-- What the body ends with: nothing owed, every semaphore used up, the arguments as they were, the result computed. -/
def bodyPost (c : Dev nD) : sProp 𝕄 :=
  iprop(ow c ∅ ∗ allDone A c ∗ scrs c ∗ args A c ∗ blk c cc0_stg5_0 (outC A c))

set_option maxHeartbeats 2000000 in
/-- The tail: the transfer to the right and device 0's three transfers have ended. -/
theorem tail (c : Dev nD) {Q : PUnit → sProp 𝕄} :
    iprop(preT A K c ∗ (postT A c -∗ Q ⟨⟩)) ⊢ WP c (do
        let v265 : BitVec 1 := Scalar.cmpi .slt (idw c) 3#32
        let v266 : BitVec 32 := Scalar.extui v265
        let v267 : BitVec 1 := Scalar.cmpi .ne v266 0#32
        if k0_h16 : v267 = 1#1 then do
          let v271 : DmaSems sig S1 := cc0_scratch7.slice (Rect.unit (s := S6) ![1] S1.size inb_S6_S1_1)
          let v272 : DmaSems sig S_ := v271.squeeze S_ squeezes_S1_S_
          let v273 : Memref sig .tc .vmem S128x2048 .bf16 := bM.slice (Rect.unit (s := S1280x2048) ![1024, 0] S128x2048.size inb_S1280x2048_S128x2048_1024_0) (fun _ => rfl)
          let v274 : Memref sig .tc .vmem S128x2048 .bf16 := bM.slice (Rect.unit (s := S1280x2048) ![0, 0] S128x2048.size inb_S1280x2048_S128x2048_0_0) (fun _ => rfl)
          Prog.lift (.waitDma2 v272.sem v274 v273 ((Memref.isWhole_whole cc0_scratch0).wordExact_slice rfl _ wordsbf16_S1280x2048_S128x2048_0_0) ((Memref.isWhole_whole cc0_scratch0).wordExact_slice rfl _ wordsbf16_S1280x2048_S128x2048_1024_0))
          pure ⟨⟩
        else do
          pure ⟨⟩
        let v268 : BitVec 1 := Scalar.cmpi .eq (idw c) 0#32
        let v269 : BitVec 32 := Scalar.extui v268
        let v270 : BitVec 1 := Scalar.cmpi .ne v269 0#32
        if k0_h17 : v270 = 1#1 then do
          let v271 : DmaSems sig S1 := cc0_scratch7.slice (Rect.unit (s := S6) ![3] S1.size inb_S6_S1_3)
          let v272 : DmaSems sig S_ := v271.squeeze S_ squeezes_S1_S_
          Prog.lift (.waitDma2 v272.sem gM gM (Memref.isWhole_whole cc0_scratch1).wordExact (Memref.isWhole_whole cc0_scratch1).wordExact)
          let v273 : DmaSems sig S1 := cc0_scratch7.slice (Rect.unit (s := S6) ![4] S1.size inb_S6_S1_4)
          let v274 : DmaSems sig S_ := v273.squeeze S_ squeezes_S1_S_
          Prog.lift (.waitDma2 v274.sem gM gM (Memref.isWhole_whole cc0_scratch1).wordExact (Memref.isWhole_whole cc0_scratch1).wordExact)
          let v275 : DmaSems sig S1 := cc0_scratch7.slice (Rect.unit (s := S6) ![5] S1.size inb_S6_S1_5)
          let v276 : DmaSems sig S_ := v275.squeeze S_ squeezes_S1_S_
          Prog.lift (.waitDma2 v276.sem gM gM (Memref.isWhole_whole cc0_scratch1).wordExact (Memref.isWhole_whole cc0_scratch1).wordExact)
          pure ⟨⟩
        else do
          pure ⟨⟩
        pure ⟨⟩
      ) Q := by
  simp only [semWaitWord, Prog.lift, Prog.bind_op, Prog.bind_ret, Prog.pure_eq_ret]
  unfold preT postT
  iintro ⟨⟨#H, HO, ⟨Hhi, Hp2⟩, Hg⟩, HK⟩
  iapply (wp_if c (iprop(recs A K ∗ ow c ∅ ∗ hiK A c ∗ pos c 2)) (iprop(ow c ∅ ∗ done A c 2 ∗ bandPt c hiS fullShare.right (bandC A c)))
    (fun h => by
      rw [is_lt] at h
      rw [hiK_zero A c h]
      iintro ⟨-, HO, Hh, Hp⟩
      isplitl [HO]; · iexact HO
      isplitl [Hp]; · (iapply (done_unused A c 2 (dut2' c h)); iexact Hp)
      iexact Hh)
    (fun h => by
      rw [is_lt] at h
      rw [hiK_eq A c h]
      iintro ⟨⟨#H, HO, Hc, Hp⟩, HK⟩
      iapply (wait_dma A K c 2 c (dut2 c h) ((cc0_scratch7.slice (Rect.unit (s := S6) ![1] S1.size inb_S6_S1_1)).squeeze S_ squeezes_S1_S_).sem (bM.slice (Rect.unit (s := S1280x2048) ![0, 0] S128x2048.size inb_S1280x2048_S128x2048_0_0) (fun _ => rfl)) (bM.slice (Rect.unit (s := S1280x2048) ![1024, 0] S128x2048.size inb_S1280x2048_S128x2048_1024_0) (fun _ => rfl)) _ _ rfl rfl) $$ [HO Hc Hp]
      · isplitr; · iexact H
        isplitl [HO]; · iexact HO
        isplitl [Hc] <;> iassumption
      iintro ⟨HO, Hd, Hy⟩
      iapply HK
      isplitl [HO]; · iexact HO
      isplitl [Hd]; · iexact Hd
      iapply (show pay A c 2 c ⊢ bandPt c hiS fullShare.right (bandC A c) from .rfl); iexact Hy)) $$ [HO Hhi Hp2]
  · isplitr; · iexact H
    isplitl [HO]; · iexact HO
    isplitl [Hhi] <;> iassumption
  iintro ⟨HO, Hhi⟩
  iapply (wp_if c (iprop(recs A K ∗ ow c ∅ ∗ gPt c (gshr c) (gC A) ∗ gCr c ∗ pos c 4 ∗ pos c 5 ∗ pos c 6))
    (iprop(ow c ∅ ∗ gPt c fullShare (gC A) ∗ done A c 4 ∗ done A c 5 ∗ done A c 6))
    (fun h => by
      have hc : c ≠ 0 := fun h' => h ((is_eq c).mpr h')
      obtain ⟨h4, h5, h6⟩ := dut456 c hc
      rw [gshr_ne c hc]
      iintro ⟨-, HO, Hg, -, Hp4, Hp5, Hp6⟩
      isplitl [HO]; · iexact HO
      isplitl [Hg]; · iexact Hg
      isplitl [Hp4]; · (iapply (done_unused A c 4 h4); iexact Hp4)
      isplitl [Hp5]; · (iapply (done_unused A c 5 h5); iexact Hp5)
      iapply (done_unused A c 6 h6); iexact Hp6)
    (fun h => by
      obtain rfl : c = 0 := (is_eq c).mp h
      rw [show gshr 0 = fullShare.left from rfl, show gCr (F := F) 0 = iprop(crd 0 4 ∗ crd 0 5 ∗ crd 0 6) from rfl]
      iintro ⟨⟨#H, HO, Hg, ⟨Hc4, Hc5, Hc6⟩, Hp4, Hp5, Hp6⟩, HK⟩
      iapply (wait_dma A K 0 4 0 (by decide) ((cc0_scratch7.slice (Rect.unit (s := S6) ![3] S1.size inb_S6_S1_3)).squeeze S_ squeezes_S1_S_).sem gM gM _ _ rfl rfl) $$ [HO Hc4 Hp4]
      · isplitr; · iexact H
        isplitl [HO]; · iexact HO
        isplitl [Hc4] <;> iassumption
      iintro ⟨HO, Hd4, Hy4⟩
      iapply (wait_dma A K 0 5 0 (by decide) ((cc0_scratch7.slice (Rect.unit (s := S6) ![4] S1.size inb_S6_S1_4)).squeeze S_ squeezes_S1_S_).sem gM gM _ _ rfl rfl) $$ [HO Hc5 Hp5]
      · isplitr; · iexact H
        isplitl [HO]; · iexact HO
        isplitl [Hc5] <;> iassumption
      iintro ⟨HO, Hd5, Hy5⟩
      iapply (wait_dma A K 0 6 0 (by decide) ((cc0_scratch7.slice (Rect.unit (s := S6) ![5] S1.size inb_S6_S1_5)).squeeze S_ squeezes_S1_S_).sem gM gM _ _ rfl rfl) $$ [HO Hc6 Hp6]
      · isplitr; · iexact H
        isplitl [HO]; · iexact HO
        isplitl [Hc6] <;> iassumption
      iintro ⟨HO, Hd6, Hy6⟩
      iapply HK
      isplitl [HO]; · iexact HO
      isplitl [Hg Hy4 Hy5 Hy6]
      · iapply (g_back A)
        isplitl [Hg]; · iexact Hg
        isplitl [Hy4]; · (iapply (show pay A 0 4 0 ⊢ gPt 0 (gsh 0) (gC A) from .rfl); iexact Hy4)
        isplitl [Hy5]; · (iapply (show pay A 0 5 0 ⊢ gPt 0 (gsh 1) (gC A) from .rfl); iexact Hy5)
        iapply (show pay A 0 6 0 ⊢ gPt 0 (gsh 2) (gC A) from .rfl); iexact Hy6
      isplitl [Hd4]; · iexact Hd4
      isplitl [Hd5] <;> iassumption)) $$ [HO Hg]
  · isplitr; · iexact H
    isplitl [HO] <;> iassumption
  iintro ⟨HO, Hg⟩
  unfold WP
  rw [wp_ret]; imodintro
  iapply HK
  isplitl [HO]; · iexact HO
  isplitl [Hhi] <;> iassumption

set_option maxHeartbeats 4000000 in
/-- The whole body. -/
theorem body (c : Dev nD) (Q : PUnit → sProp 𝕄) :
    iprop(bodyPre A K c ∗ (bodyPost A c -∗ Q ⟨⟩)) ⊢ WP c (cc0_body (F := F) xM (Memref.isWhole_whole _) wqM (Memref.isWhole_whole _) kM (Memref.isWhole_whole _) vM (Memref.isWhole_whole _) woM (Memref.isWhole_whole _) oM (Memref.isWhole_whole _) bM (Memref.isWhole_whole _) gM (Memref.isWhole_whole _) xbM (Memref.isWhole_whole _) qM (Memref.isWhole_whole _) cM (Memref.isWhole_whole _) pM (Memref.isWhole_whole _) rM (Memref.isWhole_whole _) cc0_scratch7 cc0_scratch8) Q := by
  simp only [cc0_body_eq_skeleton]; unfold cc0_body_skel
  unfold bodyPre allPos rights creds scrs args
  iintro ⟨⟨#H, HO, ⟨Hp0, Hp1, Hp2, Hp3, Hp4, Hp5, Hp6, Hp7, Hp8, Hp9, Hp10, Hp11, Hp12⟩, ⟨Hts, Htg, Htl, Htr, Htp⟩,
    ⟨Hc0, Hc7, Hc8, Hc9, Hc10, Hc11, Hc12⟩, ⟨Hs0, Hs1, Hs2, Hs3, Hs4, Hs5, Hs6⟩, ⟨Hx, Hwq, Hk, Hv, Hwo⟩, Ho⟩, HK⟩
  ihave Hs := (shared_in c) $$ [Hs0 Hs1 Hs6]
  · isplitl [Hs0]; · iexact Hs0
    isplitl [Hs1] <;> iassumption
  icases Hs with ⟨Hgive, HkT, HkB, HkG, HkR, Hmid⟩
  iapply (wp_seg c _ _ _ (part12 A K c)) $$ [HO Hts Hgive Hk Hv Hmid]
  · unfold sigPre
    isplitl [HO Hts Hgive]
    · isplitr; · iexact H
      isplitl [HO]; · iexact HO
      isplitl [Hts] <;> iassumption
    isplitl [Hk]; · iexact Hk
    isplitl [Hv] <;> iassumption
  iintro ⟨HO, Hk, Hv, Hmid⟩
  iapply (wp_seg c _ _ _ (part13 A K c _ _)) $$ [HO Hc0 Hp0 Hmid HkT HkB HkG Htg Htl Htr Hx Hwq Hs2]
  · unfold pre13
    isplitr; · iexact H
    isplitl [HO]; · iexact HO
    isplitl [Hc0]; · iexact Hc0
    isplitl [Hp0]; · iexact Hp0
    isplitl [Hmid]; · iexact Hmid
    isplitl [HkT]; · iexact HkT
    isplitl [HkB]; · iexact HkB
    isplitl [HkG]; · iexact HkG
    isplitl [Htg]; · iexact Htg
    isplitl [Htl]; · iexact Htl
    isplitl [Htr]; · iexact Htr
    isplitl [Hx]; · iexact Hx
    isplitl [Hwq]; · iexact Hwq
    unfold scr; iexact Hs2
  unfold post13
  iintro ⟨HO, Hd0, HlP, Hmid, Hmm, HtK, HbK, HgK, HloK, HhiK, Hx, Hwq, Hs2⟩
  iapply (wp_seg c _ _ _ (part14 A K c)) $$ [HO Hc9 Hp9 HgK Hmid Hs3 Hs5]
  · unfold pre14 scr
    isplitr; · iexact H
    isplitl [HO]; · iexact HO
    isplitl [Hc9]; · iexact Hc9
    isplitl [Hp9]; · iexact Hp9
    isplitl [HgK]; · iexact HgK
    isplitl [Hmid]; · iexact Hmid
    isplitl [Hs3] <;> iassumption
  unfold post14
  iintro ⟨HO, Hd9, Hg, HgC, Hmid, Hq, Hps⟩
  iapply (wp_seg c _ _ _ (part15 A c)) $$ [Hmid Hps]
  · isplitl [Hmid] <;> iassumption
  iintro ⟨Hmid, Hps⟩
  iapply (wp_seg c _ _ _ (part16 A c)) $$ [Hmid Hps]
  · isplitl [Hmid] <;> iassumption
  iintro ⟨Hmid, Hps⟩
  iapply (wp_seg c _ _ _ (part17 A K c)) $$ [HO Htp HlP Hmid Hps]
  · isplitr; · iexact H
    isplitl [HO]; · iexact HO
    isplitl [Htp]; · iexact Htp
    isplitl [HlP]; · iexact HlP
    isplitl [Hmid] <;> iassumption
  iintro ⟨HO, Hmid, HpK⟩
  iapply (wp_seg c _ _ _ (part18 A K c _ _)) $$ [HO Hc7 Hp7 Hc8 Hp8 HtK HbK Hmid Hg Hq Hs4]
  · unfold pre18 rd1 scr
    isplitr; · iexact H
    isplitl [HO]; · iexact HO
    isplitl [Hc7 Hp7]; · (isplitl [Hc7] <;> iassumption)
    isplitl [Hc8 Hp8]; · (isplitl [Hc8] <;> iassumption)
    isplitl [HtK]; · iexact HtK
    isplitl [HbK]; · iexact HbK
    isplitl [Hmid Hg Hq]
    · isplitl [Hmid]; · iexact Hmid
      isplitl [Hg] <;> iassumption
    iexact Hs4
  unfold post18 rd1
  iintro ⟨HO, ⟨Hd7, Ht⟩, ⟨Hd8, Hb⟩, ⟨Hmid, Hg, Hq⟩, Hs4⟩
  ihave Ht := (band_share c topS (bandC A c)).1 $$ Ht
  icases Ht with ⟨HtL, HtR⟩
  ihave Hb := (band_share c botS (bandC A c)).1 $$ Hb
  icases Hb with ⟨HbL, HbR⟩
  iapply (wp_seg c _ _ _ (part19 A K c)) $$ [HO Hc10 Hp10 Hc11 Hp11 Hc12 Hp12 HloK Hp1 HpK Hp3 HtL Hmid HbL Hg Hq Hs4 Hwo Ho]
  · unfold pre19 rd2 rc3
    isplitr; · iexact H
    isplitl [HO]; · iexact HO
    isplitl [Hc10 Hp10 Hc11 Hp11 Hc12 Hp12]
    · isplitl [Hc10 Hp10]; · (isplitl [Hc10] <;> iassumption)
      isplitl [Hc11 Hp11]; · (isplitl [Hc11] <;> iassumption)
      isplitl [Hc12] <;> iassumption
    isplitl [HloK Hp1]; · (isplitl [HloK] <;> iassumption)
    isplitl [HpK Hp3]; · (isplitl [HpK] <;> iassumption)
    isplitl [HtL Hmid HbL Hg Hq]
    · isplitl [HtL Hmid HbL]
      · iapply (band_all c fullShare.left (bandC A c)).2
        isplitl [HtL]; · iexact HtL
        isplitl [Hmid] <;> iassumption
      isplitl [Hg] <;> iassumption
    isplitl [Hs4]; · iexact Hs4
    isplitl [Hwo] <;> iassumption
  unfold post19 rd2 rd3
  iintro ⟨HO, ⟨Hd10, Hd11, Hd12⟩, ⟨Hd1, Hlo⟩, ⟨Hd3, ⟨%fp, Hps⟩⟩, ⟨Hband, Hg, Hq⟩, HrK, Hs4, Hwo, Ho⟩
  iapply (tail A K c)
  isplitl [HO HhiK Hp2 Hg HgC Hp4 Hp5 Hp6]
  · unfold preT
    isplitr; · iexact H
    isplitl [HO]; · iexact HO
    isplitl [HhiK Hp2]; · (isplitl [HhiK] <;> iassumption)
    isplitl [Hg]; · iexact Hg
    isplitl [HgC]; · iexact HgC
    isplitl [Hp4]; · iexact Hp4
    isplitl [Hp5] <;> iassumption
  unfold postT
  iintro ⟨HO, ⟨Hd2, Hhi⟩, Hg, Hd4, Hd5, Hd6⟩
  iapply HK
  unfold bodyPost allDone scrs args
  isplitl [HO]; · iexact HO
  isplitl [Hd0 Hd1 Hd2 Hd3 Hd4 Hd5 Hd6 Hd7 Hd8 Hd9 Hd10 Hd11 Hd12]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    isplitl [Hd7]; · iexact Hd7
    isplitl [Hd8]; · iexact Hd8
    isplitl [Hd9]; · iexact Hd9
    isplitl [Hd10]; · iexact Hd10
    isplitl [Hd11]; · iexact Hd11
    iexact Hd12
  isplitl [Hband HtR HbR Hlo Hmm Hhi Hg Hs2 Hq Hs4 Hps HkR HrK]
  · isplitl [Hband HtR HbR Hlo Hmm Hhi]
    · unfold scr
      iexists (bandC A c)
      iapply (show bandPt (F := F) c Finset.univ fullShare (bandC A c) ⊢ blk (F := F) c cc0_scratch0 (bandC A c) from .rfl)
      iapply (band_share c Finset.univ (bandC A c)).2
      isplitl [Hband]; · iexact Hband
      iapply (band_all c fullShare.right (bandC A c)).2
      isplitl [HtR]; · iexact HtR
      isplitl [Hlo Hmm Hhi]
      · iapply (band_mid c fullShare.right (bandC A c)).2
        isplitl [Hlo]; · iexact Hlo
        isplitl [Hmm] <;> iassumption
      iexact HbR
    isplitl [Hg]
    · iapply (glob_out c (gC A)); iexact Hg
    isplitl [Hs2]; · (unfold scr; iexists (xb A c); iexact Hs2)
    isplitl [Hq]; · (unfold scr; iexists (qsC A c); iexact Hq)
    isplitl [Hs4]; · (unfold scr; iexists (cC A c); iexact Hs4)
    isplitl [Hps]
    · iapply (part_out c fp); iexact Hps
    iapply (recv_out c)
    isplitl [HkR] <;> iassumption
  isplitl [Hx Hwq Hk Hv Hwo]
  · isplitl [Hx]; · iexact Hx
    isplitl [Hwq]; · iexact Hwq
    isplitl [Hk]; · iexact Hk
    isplitl [Hv] <;> iassumption
  iexact Ho

end Cert.KProof

end
-- ==== Proof.Launch.lean ====
/-
The launch: the body of every device inside the kernel's one region, the exchange's cells and rights dealt to the four
devices, and the run of the whole program, for any float values.
-/
module

public import proofs.«01_k».proof.Proof.Body
public import Idealize.ShloMosaic.Lib.Pipeline.CollectiveSegs

@[expose] public section

noncomputable section

namespace Cert.KProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-- The arguments' blocks as the region stages them. -/
def ins : Ins F where
  x c := (win0_0.blk (0 : Fin 1)).view.read (Elt F) ((s₀ m ρ).mem ((c : Thread nD τ).loc main_arg0))
  wq c := (win0_1.blk (0 : Fin 1)).view.read (Elt F) ((s₀ m ρ).mem ((c : Thread nD τ).loc main_arg1))
  k c := (win0_2.blk (0 : Fin 1)).view.read (Elt F) ((s₀ m ρ).mem ((c : Thread nD τ).loc main_arg2))
  v c := (win0_3.blk (0 : Fin 1)).view.read (Elt F) ((s₀ m ρ).mem ((c : Thread nD τ).loc main_arg3))
  wo c := (win0_4.blk (0 : Fin 1)).view.read (Elt F) ((s₀ m ρ).mem ((c : Thread nD τ).loc main_arg4))

/-- All the rights a device pays with, as minted. -/
def minted (c : Dev nD) : sProp 𝕄 :=
  bigSep (Finset.univ.filter fun ck : Dev nD × Fin 13 => pays ck.1 ck.2 c = true) fun ck => tok (F := F) ck c

/-- A device's share of the exchange. -/
def share (K : Dev nD × Fin 13 → ℕ) (c : Dev nD) : sProp 𝕄 :=
  iprop((bigSep Finset.univ fun ck : Dev nD × Fin 13 => cellInv ER (Rd (ins m ρ)) (K ck) (kcell ck))
    ∗ (bigSep Finset.univ fun ck : Dev nD × Fin 13 => reached ER (kcell ck) 0) ∗ (bigSep Finset.univ fun k : Fin 13 => pos (F := F) c k) ∗ minted c)

/-- What a device's body starts from, besides its buffers; -/
def start (c : Dev nD) : sProp 𝕄 := iprop((∃ K, share m ρ K c) ∗ creds (F := F) c ∗ levAts L lv)
/-- with its scratch buffers; -/
def Φ₀ (c : Dev nD) : sProp 𝕄 := iprop(start m ρ c ∗ scrs (F := F) c)
/-- and what it ends with: the scratch buffers, and its thirteen semaphores at zero. -/
def Φ₁ (c : Dev nD) : sProp 𝕄 := iprop(scrs (F := F) c ∗ bigSep Finset.univ fun k : Fin 13 => semVal (kcell (c, k)) 0)

/-- The region's data: each window's array at the start, what the body leaves in each block, what the device holds and
    owes before and after its one step. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (ins m ρ).x c
    | ⟨1, _⟩ => (ins m ρ).wq c
    | ⟨2, _⟩ => (ins m ρ).k c
    | ⟨3, _⟩ => (ins m ρ).v c
    | ⟨4, _⟩ => (ins m ρ).wo c
    | ⟨5, _⟩ => outC (ins m ρ) c
  Φ t := match t with
    | ⟨0, _⟩ => Φ₀ m ρ c
    | ⟨_ + 1, _⟩ => Φ₁ (F := F) c
  q _ := fullShare
  owed t := match t with
    | ⟨0, _⟩ => Osum (dues ∅ c)
    | ⟨_ + 1, _⟩ => 0

omit [FloatOps F] in
/-- To own a whole staging buffer at contents `d` is to hold it with these contents. -/
theorem stage_owns (c : Dev nD) (b : Ref sig .tc) (q : PosShare TreeShare) (d : b.ty.Contents (Elt F)) :
    (owns (c : Thread nD τ) (Memref.whole b) q d : sProp 𝕄) = iprop(∃ f : Buf (Elt F) ((c : Thread nD τ).loc b), ⌜f = d⌝ ∗ (((c : Thread nD τ).loc b) ↦{q} f)) := by
  unfold owns; simp only [Memref.view_whole, View.read_whole, View.set_whole]

/-- A staging buffer at given contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
/-- A staging buffer at given contents is a whole buffer with them, -/
theorem stg_blk (c : Dev nD) (b : Ref sig .tc) (X : b.ty.Contents (Elt F)) : stg (F := F) c b X ⊢ blk c b X := by
  iintro ⟨%f, %h, H⟩
  subst h
  unfold blk
  iexact H
omit [FloatOps F] in
/-- and conversely. -/
theorem blk_stg (c : Dev nD) (b : Ref sig .tc) (X : b.ty.Contents (Elt F)) : blk (F := F) c b X ⊢ stg c b X := by
  iintro H
  iexists X
  isplitr; · (ipureintro; rfl)
  unfold blk
  iexact H

omit [FloatOps F] in
/-- A product over the thirteen semaphores, written out. -/
theorem bigSep_thirteen (Φ : Fin 13 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ

/-- A body that ends in an update. -/
theorem body_upd (A : Ins F) (K : Dev nD × Fin 13 → ℕ) (c : Dev nD) (R : sProp 𝕄) :
    iprop(bodyPre A K c ∗ (bodyPost A c -∗ |={Set.univ}=> R)) ⊢ wp frame (wpE (defs₀ (F := F)) 𝒱₀ c none) Set.univ
      (cc0_body (F := F) xM (Memref.isWhole_whole _) wqM (Memref.isWhole_whole _) kM (Memref.isWhole_whole _) vM (Memref.isWhole_whole _) woM (Memref.isWhole_whole _) oM (Memref.isWhole_whole _) bM (Memref.isWhole_whole _) gM (Memref.isWhole_whole _) xbM (Memref.isWhole_whole _) qM (Memref.isWhole_whole _) cM (Memref.isWhole_whole _) pM (Memref.isWhole_whole _) rM (Memref.isWhole_whole _) cc0_scratch7 cc0_scratch8) (fun _ => R) :=
  (body A K c fun _ => iprop(|={Set.univ}=> R)).trans (wp_fupd _ _ _ _ _)

/-- Every semaphore of a device, used up, closes at zero. -/
theorem close_all (K : Dev nD × Fin 13 → ℕ) (c : Dev nD) :
    iprop(recs (ins m ρ) K ∗ allDone (ins m ρ) c) ⊢ |={Set.univ}=> bigSep Finset.univ fun k : Fin 13 => (semVal (kcell (c, k)) 0 : sProp 𝕄) := by
  rw [show allDone (ins m ρ) c = bigSep Finset.univ fun k : Fin 13 => done (ins m ρ) c k from (bigSep_thirteen _).symm]
  exact (sep_mono_left (BI.bigSep_of_persistent Finset.univ (recs (ins m ρ) K))).trans
    (by rw [← bigSep_sep']; exact (bigSep_mono fun k _ => done_close (ins m ρ) K c k).trans (bigSep_fupd _ _))

/-- What the region hands the body, written out window by window. -/
def bodyIn (c : Dev nD) : sProp 𝕄 :=
  iprop(Φ₀ m ρ c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))
/-- What the body hands back, written out window by window. -/
def bodyOut (c : Dev nD) : sProp 𝕄 :=
  iprop(Φ₁ (F := F) c ∗ (dats m ρ 0 c).owesAt () t0_0.succ
    ∗ stg c cc0_stg0_0 ((ins m ρ).x c) ∗ stg c cc0_stg1_0 ((ins m ρ).wq c) ∗ stg c cc0_stg2_0 ((ins m ρ).k c)
    ∗ stg c cc0_stg3_0 ((ins m ρ).v c) ∗ stg c cc0_stg4_0 ((ins m ρ).wo c) ∗ stg c cc0_stg5_0 (outC (ins m ρ) c))

/-- The body finds x in the first staging buffer. -/
theorem before_0 (c : Dev nD) (d) : (dats m ρ 0 c).before (0 : Fin 6) t0_0 d = (ins m ρ).x c := by
  unfold Dat.before; rw [if_pos (by decide +kernel)]; rfl
/-- It finds the query weights in the second. -/
theorem before_1 (c : Dev nD) (d) : (dats m ρ 0 c).before (1 : Fin 6) t0_0 d = (ins m ρ).wq c := by
  unfold Dat.before; rw [if_pos (by decide +kernel)]; rfl
/-- It finds the keys in the third. -/
theorem before_2 (c : Dev nD) (d) : (dats m ρ 0 c).before (2 : Fin 6) t0_0 d = (ins m ρ).k c := by
  unfold Dat.before; rw [if_pos (by decide +kernel)]; rfl
/-- It finds the values in the fourth. -/
theorem before_3 (c : Dev nD) (d) : (dats m ρ 0 c).before (3 : Fin 6) t0_0 d = (ins m ρ).v c := by
  unfold Dat.before; rw [if_pos (by decide +kernel)]; rfl
/-- It finds the output weights in the fifth. -/
theorem before_4 (c : Dev nD) (d) : (dats m ρ 0 c).before (4 : Fin 6) t0_0 d = (ins m ρ).wo c := by
  unfold Dat.before; rw [if_pos (by decide +kernel)]; rfl

set_option maxRecDepth 4000 in
/-- A device's body between the region's entry and its exit. -/
theorem body_obligation (c : Dev nD) : BodyObligation (dats (F := F) m ρ 0 c) (defs₀ (F := F)) 𝒱₀ () Set.univ := fun t => by
  rw [fin_N0 t]
  rw [bigSep_W0, bigSep_W0]
  simp only [stage_owns]
  show bodyIn m ρ c ⊢ wp frame (wpE (defs₀ (F := F)) 𝒱₀ c none) Set.univ
    (cc0_body (F := F) xM (Memref.isWhole_whole _) wqM (Memref.isWhole_whole _) kM (Memref.isWhole_whole _) vM (Memref.isWhole_whole _) woM (Memref.isWhole_whole _) oM (Memref.isWhole_whole _) bM (Memref.isWhole_whole _) gM (Memref.isWhole_whole _) xbM (Memref.isWhole_whole _) qM (Memref.isWhole_whole _) cM (Memref.isWhole_whole _) pM (Memref.isWhole_whole _) rM (Memref.isWhole_whole _) cc0_scratch7 cc0_scratch8) (fun _ => bodyOut m ρ c)
  unfold bodyIn Φ₀ start share Dat.owesAt Pipeline.owesWithin
  iintro ⟨⟨⟨⟨%K, #HI, #HR, Hpos, Htok⟩, Hcr, #Hlev⟩, Hscr⟩, ⟨%W, %hW, HO⟩, ⟨%d0, H0⟩, ⟨%d1, H1⟩, ⟨%d2, H2⟩, ⟨%d3, H3⟩, ⟨%d4, H4⟩, ⟨%d5, H5⟩⟩
  simp only [before_0, before_1, before_2, before_3, before_4]
  ihave #Hrec := (show iprop((bigSep Finset.univ fun ck : Dev nD × Fin 13 => cellInv ER (Rd (ins m ρ)) (K ck) (kcell ck))
      ∗ (bigSep Finset.univ fun ck : Dev nD × Fin 13 => reached ER (kcell ck) 0) ∗ levAts L lv) ⊢ recs (ins m ρ) K from .rfl) $$ []
  · isplitr; · iexact HI
    isplitr; · iexact HR
    iexact Hlev
  iapply (body_upd (ins m ρ) K c (bodyOut m ρ c))
  isplitl [HO Hpos Htok Hcr Hscr H0 H1 H2 H3 H4 H5]
  · unfold bodyPre
    isplitr; · iexact Hrec
    isplitl [HO]; · (unfold ow; iexists W; iexact HO)
    isplitl [Hpos]
    · iapply (show (bigSep Finset.univ fun k : Fin 13 => pos (F := F) c k) ⊢ allPos (F := F) c from Entails.of_eq (bigSep_thirteen _)); iexact Hpos
    isplitl [Htok]; · (iapply (show minted (F := F) c ⊢ rights c from toks_split c); iexact Htok)
    isplitl [Hcr]; · iexact Hcr
    isplitl [Hscr]; · iexact Hscr
    isplitl [H0 H1 H2 H3 H4]
    · unfold args
      isplitl [H0]; · (iapply (stg_blk c cc0_stg0_0 _); iexact H0)
      isplitl [H1]; · (iapply (stg_blk c cc0_stg1_0 _); iexact H1)
      isplitl [H2]; · (iapply (stg_blk c cc0_stg2_0 _); iexact H2)
      isplitl [H3]; · (iapply (stg_blk c cc0_stg3_0 _); iexact H3)
      iapply (stg_blk c cc0_stg4_0 _); iexact H4
    iexists _
    iapply (stg_blk c cc0_stg5_0 _); iexact H5
  unfold bodyPost args
  iintro ⟨HO, Hd, Hscr, ⟨H0, H1, H2, H3, H4⟩, H5⟩
  imod (close_all m ρ K c) $$ [Hd] with Hz
  · isplitr; · iexact Hrec
    iexact Hd
  imodintro
  unfold bodyOut Φ₁ Dat.owesAt Pipeline.owesWithin
  isplitl [Hscr Hz]; · (isplitl [Hscr] <;> iassumption)
  isplitl [HO]
  · unfold ow
    icases HO with ⟨%W', HO⟩
    iexists W'
    isplitr; · ipureintro; exact fun _ _ => Or.inl trivial
    iexact HO
  isplitl [H0]; · (iapply (blk_stg c cc0_stg0_0 _); iexact H0)
  isplitl [H1]; · (iapply (blk_stg c cc0_stg1_0 _); iexact H1)
  isplitl [H2]; · (iapply (blk_stg c cc0_stg2_0 _); iexact H2)
  isplitl [H3]; · (iapply (blk_stg c cc0_stg3_0 _); iexact H3)
  isplitl [H4]; · (iapply (blk_stg c cc0_stg4_0 _); iexact H4)
  iapply (blk_stg c cc0_stg5_0 _); iexact H5

/-! ## Dealing the exchange -/

/-- The kernel's own semaphores: all but the barrier. -/
abbrev osem : Fin 12 → SemLoc sig := fun k => csem k.succ
/-- The kernel's own semaphores are distinct, and apart from the pipeline's. -/
theorem own_facts : Pipeline.OwnSemFacts cfg0.spec osem := by decide

/-- Every window holds its array whole. -/
theorem share_full (c : Dev nD) (w : Fin cfg0.W) : (dats m ρ 0 c).share w = fullShare := by unfold Dat.share; split <;> rfl

/-- The cells of the exchange, thirteen on each device. -/
def cellSet : Finset (GSem nD τ sig) := Finset.univ.map ⟨kcell, kcell_inj⟩

/-- The right of device `p.1` to pay cell `p.2`, as the resource names it. -/
abbrev tokOf (p : (_ : Dev nD) × (Dev nD × Fin 13)) : GSem nD τ sig × ℕ × Dev nD := (kcell p.2, 0, p.1)
/-- Two rights that are named alike are the same. -/
theorem tokOf_inj : Function.Injective tokOf := by
  rintro ⟨d, ck⟩ ⟨d', ck'⟩ h
  obtain rfl : ck = ck' := kcell_inj (congrArg Prod.fst h)
  obtain rfl : d = d' := congrArg (fun x : GSem nD τ sig × ℕ × Dev nD => x.2.2) h
  rfl
/-- The rights of all devices. -/
def tokSet : Finset (GSem nD τ sig × ℕ × Dev nD) :=
  (Finset.univ.sigma fun d : Dev nD => Finset.univ.filter fun ck : Dev nD × Fin 13 => pays ck.1 ck.2 d = true).map ⟨tokOf, tokOf_inj⟩

/-- The resource at launch: the pipeline's part and the exchange's. -/
def u₀ : UU := (initOf (Pipeline.cells cfgs cellOf_inj) (Pipeline.launchToks cfgs cellOf_inj), initOf cellSet tokSet)

/-- What the launch's own resource deals device `c`; -/
def G (c : Dev nD) : sProp 𝕄 :=
  iprop((bigSep Finset.univ fun k : Fin 13 => roundState ER (Rd (ins m ρ)) (kcell (c, k)) 0)
    ∗ (bigSep Finset.univ fun k : Fin 13 => iprop(pos (F := F) c k ∗ reached ER (kcell (c, k)) 0)) ∗ minted (F := F) c)
/-- and what it has once the cells are open. -/
def G' (c : Dev nD) : sProp 𝕄 := iprop(∃ K, share m ρ K c)

/-- The exchange's part of the resource deals each device its cells' states, its positions and its rights. -/
theorem fund : BI.own (ER (initOf cellSet tokSet)) ⊢ (|==> bigSep Finset.univ (G m ρ) : sProp 𝕄) := by
  have hX (Φ : GSem nD τ sig → sProp 𝕄) : bigSep cellSet Φ = bigSep Finset.univ fun c : Dev nD => bigSep Finset.univ fun k : Fin 13 => Φ (kcell (c, k)) := by
    unfold cellSet; rw [bigSep_map, bigSep_univ_prod]; rfl
  have hT : bigSep tokSet (fun x => (dutyTok ER x.1 x.2.1 x.2.2 : sProp 𝕄)) = bigSep Finset.univ fun c : Dev nD => minted c := by
    unfold tokSet; rw [bigSep_map, Pipeline.bigSep_sigma]; rfl
  iintro HX
  imod (Rounds.fund ER (Rd (ins m ρ)) cellSet tokSet) $$ HX with ⟨Hst, Hr, Hat, Htok⟩
  imodintro
  ihave Hst := (Entails.of_eq (hX fun g => roundState ER (Rd (ins m ρ)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G pos; simp only [bigSep_sep']
  isplitl [Hst]; · iexact Hst
  isplitl [Hat Hr]
  · isplitl [Hat] <;> iassumption
  iexact Htok

omit [FloatOps F] in
/-- A device's barrier semaphore and its twelve own ones are the thirteen of the exchange. -/
theorem sems_eq (c : Dev nD) :
    iprop(unscopedSems0 c ∗ Pipeline.ownSems0 (Ix := Unit) (Name := ℕ) (U := UU) (Lvl := ℕ) (Val := Elt F) (τ := τ) osem c)
      = (bigSep Finset.univ fun k : Fin 13 => semVal (kcell (c, k)) 0 : sProp 𝕄) := by
  rw [Pipeline.ownSems0_eq_of_list c osem [0, 1, 2, 3, 4, 5, 6, 7, 8, 9, 10, 11] (by decide) (by decide), bigSep_thirteen]
  unfold unscopedSems0
  rw [bigSep_eq_bigSepL_of_eq [SemLoc.reg barS] (by decide) (by decide)]
  rfl

/-- A device's semaphores at zero and its cells' states become its cells' invariants. -/
theorem core_open (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 13 => iprop(∃ κ : ℕ, cellInv ER (Rd (ins m ρ)) κ (kcell (c, k))))
          ∗ (bigSep Finset.univ fun k : Fin 13 => iprop(pos (F := F) c k ∗ reached ER (kcell (c, k)) 0)) ∗ minted (F := F) c) := by
  unfold G
  iintro ⟨Hos, Hus, Hst, Hat, Htok⟩
  ihave Hv := (Entails.of_eq (sems_eq (F := F) c)) $$ [Hos Hus]
  · isplitl [Hus] <;> iassumption
  imod (show iprop((bigSep Finset.univ fun k : Fin 13 => semVal (kcell (c, k)) 0) ∗ bigSep Finset.univ fun k : Fin 13 => roundState ER (Rd (ins m ρ)) (kcell (c, k)) 0)
      ⊢ (|={Set.univ}=> bigSep Finset.univ fun k => iprop(∃ κ : ℕ, cellInv ER (Rd (ins m ρ)) κ (kcell (c, k))) : sProp 𝕄) from by
        rw [← bigSep_sep']
        exact (bigSep_mono fun k _ => (Rounds.body_intro ER (Rd (ins m ρ)) (kcell (c, k))).trans inv_alloc).trans (bigSep_fupd _ _)) $$ [Hv Hst] with Hinv
  · isplitl [Hv] <;> iassumption
  imodintro
  isplitl [Hinv]; · iexact Hinv
  isplitl [Hat] <;> iassumption

/-- What is shared by all devices, once open. -/
def common (K : Dev nD × Fin 13 → ℕ) : sProp 𝕄 :=
  iprop((bigSep Finset.univ fun ck : Dev nD × Fin 13 => cellInv ER (Rd (ins m ρ)) (K ck) (kcell ck))
    ∗ bigSep Finset.univ fun ck : Dev nD × Fin 13 => reached ER (kcell ck) 0)
instance common_persistent (K : Dev nD × Fin 13 → ℕ) : BI.Persistent (common m ρ K) := by unfold common; infer_instance

/-- What one device holds, from what is common to all and what is its own. -/
theorem share_intro (K : Dev nD × Fin 13 → ℕ) (c : Dev nD) :
    iprop(common m ρ K ∗ (bigSep Finset.univ fun k : Fin 13 => pos (F := F) c k) ∗ minted (F := F) c) ⊢ G' m ρ c := by
  unfold common G' share
  iintro ⟨⟨#HI, #HR⟩, Hp, Ht⟩
  iexists K
  isplitr; · iexact HI
  isplitr; · iexact HR
  isplitl [Hp] <;> iassumption

/-- Every device's invariants are shown to all. -/
theorem deal :
    (bigSep Finset.univ fun c : Dev nD => iprop((bigSep Finset.univ fun k : Fin 13 => iprop(∃ κ : ℕ, cellInv ER (Rd (ins m ρ)) κ (kcell (c, k))))
          ∗ (bigSep Finset.univ fun k : Fin 13 => iprop(pos (F := F) c k ∗ reached ER (kcell (c, k)) 0)) ∗ minted (F := F) c) : sProp 𝕄)
      ⊢ bigSep Finset.univ (G' m ρ) := by
  rw [bigSep_sep', bigSep_sep', ← bigSep_univ_prod (fun ck : Dev nD × Fin 13 => iprop(∃ κ : ℕ, cellInv ER (Rd (ins m ρ)) κ (kcell ck))),
    bigSep_congr (s := Finset.univ) (fun (c : Dev nD) _ => bigSep_sep' Finset.univ (fun k : Fin 13 => pos (F := F) c k) (fun k => reached ER (kcell (c, k)) 0)),
    bigSep_sep', ← bigSep_univ_prod (fun ck : Dev nD × Fin 13 => (reached ER (kcell ck) 0 : sProp 𝕄))]
  iintro ⟨HI, ⟨Hat, #HR⟩, Htok⟩
  ihave HK := (BI.bigSep_exists_pi Finset.univ (fun (ck : Dev nD × Fin 13) (κ : ℕ) => (cellInv ER (Rd (ins m ρ)) κ (kcell ck) : sProp 𝕄))) $$ HI
  icases HK with ⟨%K, #HI⟩
  iapply (show iprop(common m ρ K ∗ bigSep Finset.univ fun c : Dev nD => iprop((bigSep Finset.univ fun k : Fin 13 => pos (F := F) c k) ∗ minted (F := F) c)) ⊢ bigSep Finset.univ (G' m ρ) from
    (sep_mono_left (BI.bigSep_of_persistent Finset.univ (common m ρ K))).trans (by rw [← bigSep_sep']; exact bigSep_mono fun c _ => share_intro m ρ K c))
  isplitr
  · unfold common; isplitl; · iexact HI
    iexact HR
  · rw [bigSep_sep']
    isplitl [Hat] <;> iassumption

/-- The cells of all devices are opened, and each device gets its share. -/
theorem open_all : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_open m ρ c).trans (bigSep_fupd _ _)).trans (BI.fupd_mono (deal m ρ))

/-! ## The credit at launch -/

/-- What is owed a cell. -/
theorem Osum_at (S : Finset (Dev nD × Fin 13)) (ck : Dev nD × Fin 13) : Osum S (kcell ck) () = if ck ∈ S then amt ck.2 else 0 := by
  unfold Osum
  rw [Finset.sum_apply, Finsupp.finset_sum_apply, Finset.sum_congr rfl (g := fun x => if ck = x then amt x.2 else 0) fun x _ => by
    rw [tallyAt_apply]
    by_cases h : ck = x
    · rw [if_pos ⟨congrArg kcell h, rfl⟩, if_pos h]
    · rw [if_neg fun h' => h (kcell_inj h'.1), if_neg h]]
  rw [Finset.sum_ite_eq]

/-- The launch's credit at a cell that others pay is all that the cell receives. -/
theorem launch_at (c : Dev nD) (k : Fin 13) (hk : ¬ (1 ≤ k.val ∧ k.val ≤ 6)) :
    tallyOn (kcell (c, k)) (launchCredit (Pipeline.owing fun d => Osum (dues ∅ d)) 0 (kcell (c, k))) = (tallyAt (kcell (c, k)) () (expN (c, k)) : CellTallies nD τ sig Unit) := by
  unfold tallyAt; refine congrArg _ (Finsupp.ext fun u => ?_); cases u
  rw [Pipeline.launchCredit_owing, Finsupp.single_eq_same, Finset.sum_congr rfl fun d _ => Osum_at (dues ∅ d) (c, k),
    Finset.sum_congr rfl (g := fun d => if pays c k d = true then amt k else 0) fun d _ => by
      refine if_congr ?_ rfl rfl
      unfold dues
      rw [Finset.mem_filter]
      exact ⟨fun h => h.2.1, fun h => ⟨Finset.mem_univ _, h, hk, Finset.notMem_empty _⟩⟩,
    ← Finset.sum_filter, Finset.sum_const, smul_eq_mul]
  rfl

omit [FloatOps F] in
/-- The launch's credit gives each device its seven credits. -/
theorem credit (c : Dev nD) : (Pipeline.launchCred (fun d => Osum (dues ∅ d)) c : sProp 𝕄) ⊢ creds (F := F) c := by
  unfold Pipeline.launchCred
  refine (bigSep_subset (t := ([0, 7, 8, 9, 10, 11, 12] : List (Fin 13)).toFinset.map ⟨csem, csem_inj⟩) (Finset.subset_univ _)).trans ?_
  rw [bigSep_map, bigSep_eq_bigSepL_of_eq [0, 7, 8, 9, 10, 11, 12] (by decide) (by decide)]
  have h (k : Fin 13) (hk : ¬ (1 ≤ k.val ∧ k.val ≤ 6)) :
      (cred (tallyOn (kcell (c, k)) (launchCredit (Pipeline.owing fun d => Osum (dues ∅ d)) 0 (kcell (c, k)))) : sProp 𝕄) = crd (F := F) c k := by
    unfold crd; rw [launch_at c k hk]
  unfold creds
  rw [← h 0 (by decide), ← h 7 (by decide), ← h 8 (by decide), ← h 9 (by decide), ← h 10 (by decide), ← h 11 (by decide), ← h 12 (by decide)]
  exact BI.Entails.refl _

/-! ## The region's side conditions -/

/-- What the launch gives a device is what its body starts from. -/
theorem start_intro (c : Dev nD) :
    iprop(Pipeline.unscopedRestP Pipeline.Prefetch.none cfg0.spec c (fun b => m ((c : Thread nD τ).loc b)) ∗ levAts L lv
        ∗ Pipeline.launchCred (fun d => Osum (dues ∅ d)) c ∗ prngReg c (ρ c) ∗ G' m ρ c)
      ⊢ |={Set.univ}=> iprop(start m ρ c ∗ emp) := by
  iintro ⟨-, Hlev, Hcr, -, HG⟩
  ihave Hc := (credit (F := F) c) $$ Hcr
  imodintro
  unfold start G'
  isplitl
  · isplitl [HG]; · iexact HG
    isplitl [Hc] <;> iassumption
  · iempintro

/-- With the scratch buffers it is the region's first state. -/
theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  unfold scrs scr blk; iexact Hr

/-- The region's last state gives back the semaphores at zero and the scratch buffers. -/
theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁
  iintro ⟨Hr, Hz⟩
  ihave Hz := (Entails.of_eq (sems_eq (F := F) c).symm) $$ Hz
  icases Hz with ⟨Hu, Ho⟩
  isplitl [Hu]; · iexact Hu
  isplitl [Ho]; · iexact Ho
  unfold scrs scr blk; iexact Hr

/-- Everything that is owed at the start lies above the pipeline's semaphores. -/
theorem dues_above : ∀ c : Dev nD, ∀ ck ∈ dues ∅ c, 0 < lvF ck.2 := by decide

/-- So the pipeline's own waits are allowed. -/
theorem stage_waits (c : Dev nD) : (levAts L lv : sProp 𝕄) ⊢ Pipeline.cellsWaits cfgs (dats m ρ) () 0 c :=
  Pipeline.cellsWaits_intro cfgs (dats m ρ) () 0 c fun w s t => by
    have hsm : ∀ S : Finset (Dev nD × Fin 13), (∀ ck ∈ S, 0 < lvF ck.2) → (levAts L lv : sProp 𝕄) ⊢ MayWait (c : Thread nD τ) (.dma ((cfg0.win w).sem s)) () (Osum S) :=
      fun S hS => mayWait c _ 0 S (lv_out c _ (by fin_cases w <;> fin_cases s <;> decide)).le hS
    rcases t with ⟨_ | _, ht⟩
    · exact hsm (dues ∅ c) (dues_above c)
    · exact hsm ∅ (fun ck h => absurd h (Finset.notMem_empty _))

/-! ## The run -/

/-- The arrays' contents at the end. -/
def finalA (c : Dev nD) (w : Fin cfg0.W) : Buf (Elt F) ((cfg0.win w).arr.view.loc (c : Thread nD τ)) := (dats m ρ 0 c).arrAt w cfg0.N

/-- Every array of every device is at its final contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every semaphore at zero, the four devices' kernels exchange their halos, global rows and partial
    sums and end: every array at its final contents, every semaphore at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ own_facts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := fun d => Osum (dues ∅ d)) (howed₀ := fun _ => rfl) (howedN := fun _ => rfl)
    (L := L) (lv := lv) (hL := L_of_ne) (hwaits := stage_waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := open_all m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments' arrays keep what they held; -/
theorem final_in (c : Dev nD) (w : Fin cfg0.W) (h : (cfg0.win w).isOut = false) : finalA m ρ c w = (s₀ m ρ).mem ((cfg0.win w).arr.view.loc (c : Thread nD τ)) :=
  (dats (F := F) m ρ 0 c).arrAt_in w h _

end Cert.KProof

end
-- ==== Proof.Frames.lean ====
/-
What the run leaves, at any float values: the arguments as they were, the result array at the kernel's result, every
semaphore at zero. Both printed kernels have one text, so the run proved for the idealized one is the other's too.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.KProof

open Cert.KernelIdeal Cert.KernelIdeal.Gen
open Idealize.ShloMosaic Idealize.ShloMosaic.TcCoe
open Idealize.SL Idealize.SL.RA Idealize.SL.BI Idealize.SL.Sem
open Idealize.ShloMosaic.Pipeline (Dat Cfg Window)

variable {F : FTy → Type} [FloatOps F]
variable (m : (ℓ : Loc nD τ sig) → Buf (Elt F) ℓ) (ρ : Dev nD → PrngReg)

/-- A window's one block is its whole array: read through it, the array is what it is. -/
theorem whole0 (f : Buf (Elt F) (((0 : Dev nD).tc : Thread nD τ).loc main_arg0)) : (win0_0.blk (0 : Fin 1)).view.read (Elt F) f = f :=
  Memref.read_access_unit_zero (Elt F) main_arg0 (funext fun a => by fin_cases a <;> decide) (fun a => by fin_cases a <;> decide) f
/-- The same of the query weights. -/
theorem whole1 (f : Buf (Elt F) (((0 : Dev nD).tc : Thread nD τ).loc main_arg1)) : (win0_1.blk (0 : Fin 1)).view.read (Elt F) f = f :=
  Memref.read_access_unit_zero (Elt F) main_arg1 (funext fun a => by fin_cases a <;> decide) (fun a => by fin_cases a <;> decide) f
/-- The same of the keys. -/
theorem whole2 (f : Buf (Elt F) (((0 : Dev nD).tc : Thread nD τ).loc main_arg2)) : (win0_2.blk (0 : Fin 1)).view.read (Elt F) f = f :=
  Memref.read_access_unit_zero (Elt F) main_arg2 (funext fun a => by fin_cases a <;> decide) (fun a => by fin_cases a <;> decide) f
/-- The same of the values. -/
theorem whole3 (f : Buf (Elt F) (((0 : Dev nD).tc : Thread nD τ).loc main_arg3)) : (win0_3.blk (0 : Fin 1)).view.read (Elt F) f = f :=
  Memref.read_access_unit_zero (Elt F) main_arg3 (funext fun a => by fin_cases a <;> decide) (fun a => by fin_cases a <;> decide) f
/-- The same of the output weights. -/
theorem whole4 (f : Buf (Elt F) (((0 : Dev nD).tc : Thread nD τ).loc main_arg4)) : (win0_4.blk (0 : Fin 1)).view.read (Elt F) f = f :=
  Memref.read_access_unit_zero (Elt F) main_arg4 (funext fun a => by fin_cases a <;> decide) (fun a => by fin_cases a <;> decide) f
/-- The same of the result. -/
theorem whole5 (f : Buf (Elt F) (((0 : Dev nD).tc : Thread nD τ).loc main_v1)) : (win0_5.blk (0 : Fin 1)).view.read (Elt F) f = f :=
  Memref.read_access_unit_zero (Elt F) main_v1 (funext fun a => by fin_cases a <;> decide) (fun a => by fin_cases a <;> decide) f

/-- The argument blocks the run reads are the arguments. -/
theorem ins_eq : ins m ρ = ⟨fun c => m ((c.tc : Thread nD τ).loc main_arg0), fun c => m ((c.tc : Thread nD τ).loc main_arg1), fun c => m ((c.tc : Thread nD τ).loc main_arg2),
    fun c => m ((c.tc : Thread nD τ).loc main_arg3), fun c => m ((c.tc : Thread nD τ).loc main_arg4)⟩ := by
  unfold ins
  congr 1 <;> funext c
  exacts [whole0 _, whole1 _, whole2 _, whole3 _, whole4 _]

/-- The result array holds the kernel's result. -/
theorem final_out (c : Dev nD) : finalA m ρ c (5 : Fin 6) = outC (ins m ρ) c := by
  refine (whole5 (F := F) _).symm.trans ?_
  unfold finalA
  rw [show cfg0.N = ((0 : Fin 1) : Fin cfg0.N).val + 1 from rfl, (dats m ρ 0 c).arrAt_succ (5 : Fin 6) (0 : Fin 1)]
  rw [show (cfg0.win (5 : Fin 6)).flush (0 : Fin 1) = true from by decide, if_pos rfl]
  exact View.read_write_univ _ _

/-- The whole program's run, read at the arguments, the result and the semaphores. -/
theorem run_all : θ_run defs (onTc (τ := τ) (main (F := F))) ⟨m, fun _ => 0, ρ⟩ (fun r => (∀ c : Dev nD,
      r.2.mem ((c.tc : Thread nD τ).loc main_v1) = outC (ins m ρ) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨(h.1 c 5).trans (final_out m ρ c), (h.1 c 0).trans (final_in m ρ c 0 rfl), (h.1 c 1).trans (final_in m ρ c 1 rfl),
    (h.1 c 2).trans (final_in m ρ c 2 rfl), (h.1 c 3).trans (final_in m ρ c 3 rfl), (h.1 c 4).trans (final_in m ρ c 4 rfl)⟩, h.2⟩) (run_main m ρ)

/-! ## The frames -/

/-- The run with the values dropped: the arguments as they were, every semaphore at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run_all m ρ)

/-- The two printed kernels have one body table. -/
theorem defs_same₀ : Cert.Kernel.defs₀ (F := F) = defs₀ (F := F) := by
  unfold Cert.Kernel.defs₀ defs₀
  refine congrArg Defs.onTc ?_
  funext l a
  match l, a with
  | 0, (t, s) => rfl
/-- The two printed kernels have one table of definitions. -/
theorem defs_same : Cert.Kernel.defs (F := F) = defs (F := F) :=
  congrArg (Pipeline.defs (pcfgs (F := F))) defs_same₀

/-- The printed kernel's frame: the idealized kernel's run, at the float words, since the two have one text. -/
theorem frame_kernel : Cert.quiescent_Kernel := by
  intro m ρ _
  rw [defs_same]
  exact run_frame (F := Bits) m ρ

/-- The idealized kernel's frame. -/
theorem frame_ideal : Cert.quiescent_KernelIdeal := fun m ρ _ => run_frame (F := Ideal) m ρ

/-- The reference's frame: it has no semaphore and writes none of its arguments. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.KProof

end
-- ==== Proof.Spec.lean ====
/-
The attention this proof is about, written once over whole arrays of extended reals. `Arrays` holds the five arguments
at their full sizes; `Arrays.out` is the result, an attention whose weights are exp of the score where the mask admits
the pair and zero elsewhere, each row's weighted sum divided by the sum of its weights. Both programs are shown to
compute it: the reference in RefVal.lean, the kernel in KerVal.lean. The rest of the file is what either needs of sums of
extended reals: a nonnegative real taken out of a sum, a sum over a window of positions spread over all of them, and
a softmax with its row maximum subtracted rewritten as the plain quotient.
-/
module

public import Idealize.ShloMosaic.Lib.ValueIdx
public import Idealize.ShloMosaic.PureOps.Ideal.Laws
public import Mathlib.Tactic.FieldSimp
public import Mathlib.Tactic.Positivity

@[expose] public section

noncomputable section

open scoped BigOperators
open Idealize.ShloMosaic

namespace Cert.Att

/-! ## Sums of extended reals -/

/-- A nonnegative real factor on the right goes into a sum. -/
theorem sum_mul_real {ι : Type} (t : Finset ι) (f : ι → EReal) (c : ℝ) (hc : 0 ≤ c) :
    (∑ j ∈ t, f j) * (c : EReal) = ∑ j ∈ t, f j * (c : EReal) := by
  classical
  induction t using Finset.induction_on with
  | empty => simp
  | insert a t ha ih =>
    rw [Finset.sum_insert ha, Finset.sum_insert ha,
      EReal.right_distrib_of_nonneg_of_ne_top (EReal.coe_nonneg.mpr hc) (EReal.coe_ne_top c), ih]

/-- A sum of reals is real. -/
theorem sum_real {ι : Type} (t : Finset ι) (f : ι → ℝ) : (∑ j ∈ t, (f j : EReal)) = ((∑ j ∈ t, f j : ℝ) : EReal) := by
  classical
  induction t using Finset.induction_on with
  | empty => simp
  | insert a t ha ih => rw [Finset.sum_insert ha, Finset.sum_insert ha, ih, EReal.coe_add]

/-- Two sums agree when a relation pairs every nonzero term of the one with an equal term of the other: `b + t` and
    `j + s` name the same place, each side's unpaired places hold zero. -/
theorem sum_shift {n m : ℕ} (s b : ℕ) (u : Fin n → EReal) (f : Fin m → EReal)
    (h1 : ∀ (t : Fin n) (j : Fin m), j.val + s = b + t.val → u t = f j)
    (h2 : ∀ t : Fin n, (∀ j : Fin m, j.val + s ≠ b + t.val) → u t = 0)
    (h3 : ∀ j : Fin m, (∀ t : Fin n, j.val + s ≠ b + t.val) → f j = 0) : ∑ t, u t = ∑ j, f j := by
  classical
  refine Finset.sum_bij_ne_zero
    (fun t _ hu => if h : b + t.val - s < m then (⟨b + t.val - s, h⟩ : Fin m) else
      absurd (h2 t fun j hj => h (by have := j.isLt; omega)) hu) (fun _ _ _ => Finset.mem_univ _) ?_ ?_ ?_
  · intro t₁ _ hu₁ t₂ _ hu₂ he
    have k1 : ∃ j : Fin m, j.val + s = b + t₁.val := by
      by_contra hc; exact hu₁ (h2 t₁ fun j hj => hc ⟨j, hj⟩)
    have k2 : ∃ j : Fin m, j.val + s = b + t₂.val := by
      by_contra hc; exact hu₂ (h2 t₂ fun j hj => hc ⟨j, hj⟩)
    obtain ⟨j₁, e₁⟩ := k1
    obtain ⟨j₂, e₂⟩ := k2
    have l₁ := j₁.isLt
    have l₂ := j₂.isLt
    rw [dif_pos (by omega), dif_pos (by omega), Fin.mk.injEq] at he
    exact Fin.ext (by omega)
  · intro j _ hf
    have k : ∃ t : Fin n, j.val + s = b + t.val := by
      by_contra hc; exact hf (h3 j fun t ht => hc ⟨t, ht⟩)
    obtain ⟨t, e⟩ := k
    have l := j.isLt
    refine ⟨t, Finset.mem_univ _, by rw [h1 t j e]; exact hf, ?_⟩
    rw [dif_pos (by omega)]
    exact Fin.ext (by show b + t.val - s = j.val; omega)
  · intro t _ hu
    have k : ∃ j : Fin m, j.val + s = b + t.val := by
      by_contra hc; exact hu (h2 t fun j hj => hc ⟨j, hj⟩)
    obtain ⟨j, e⟩ := k
    have l := j.isLt
    rw [dif_pos (by omega)]
    exact h1 t _ (by show b + t.val - s + s = b + t.val; omega)

/-- The softmax with a real number subtracted from every score, summed against values, is the plain quotient of
    the weighted sum by the sum of weights, when every score is real or masked to −∞ and one is not masked. -/
theorem softmax_quot {n : ℕ} (p : Fin n → Prop) [DecidablePred p] (r : Fin n → ℝ) (m : ℝ) (v : Fin n → EReal)
    (hp : ∃ j, p j) :
    (∑ j, v j * Ideal.div (Ideal.exp ((if p j then (r j : EReal) else ⊥) - (m : EReal)))
        (∑ k, Ideal.exp ((if p k then (r k : EReal) else ⊥) - (m : EReal))))
      = Ideal.div (∑ j, (if p j then Ideal.exp (r j : EReal) else 0) * v j)
          (∑ j, if p j then Ideal.exp (r j : EReal) else 0) := by
  have hw : ∀ j, Ideal.exp ((if p j then (r j : EReal) else ⊥) - (m : EReal))
      = (((if p j then Real.exp (r j) else 0) * Real.exp (-m) : ℝ) : EReal) := by
    intro j
    by_cases h : p j
    · rw [if_pos h, if_pos h, ← EReal.coe_sub, Ideal.exp_coe, sub_eq_add_neg, Real.exp_add]
    · rw [if_neg h, if_neg h, EReal.bot_sub, Ideal.exp_bot, zero_mul, EReal.coe_zero]
  have he : ∀ j, (if p j then Ideal.exp (r j : EReal) else 0) = ((if p j then Real.exp (r j) else 0 : ℝ) : EReal) := by
    intro j
    by_cases h : p j
    · rw [if_pos h, if_pos h, Ideal.exp_coe]
    · rw [if_neg h, if_neg h, EReal.coe_zero]
  have hn : ∀ j, 0 ≤ (if p j then Real.exp (r j) else 0 : ℝ) := fun j => by
    by_cases h : p j
    · rw [if_pos h]; exact (Real.exp_pos _).le
    · rw [if_neg h]
  have hL : 0 < ∑ j, (if p j then Real.exp (r j) else 0 : ℝ) := by
    obtain ⟨j, hj⟩ := hp
    refine Finset.sum_pos' (fun j _ => hn j) ⟨j, Finset.mem_univ _, ?_⟩
    rw [if_pos hj]; exact Real.exp_pos _
  have ha : 0 < Real.exp (-m) := Real.exp_pos _
  simp only [hw, he]
  rw [sum_real, sum_real, ← Finset.sum_mul, Ideal.div_coe hL.ne', sum_mul_real _ _ _ (one_div_nonneg.mpr hL.le)]
  refine Finset.sum_congr rfl fun j _ => ?_
  rw [Ideal.div_coe (mul_pos hL ha).ne', ← EReal.coe_mul, mul_comm _ (v j), mul_assoc, mul_assoc, ← EReal.coe_mul]
  refine congrArg (fun a : ℝ => v j * (a : EReal)) ?_
  field_simp

/-! ## The attention -/

/-- The five arguments at their full sizes: the tokens, the query projection, the keys, the values, the output
    projection. -/
structure Arrays where
  /-- The tokens. -/
  x : Fin 4096 → Fin 1024 → EReal
  /-- The query projection. -/
  w : Fin 1024 → Fin 1024 → EReal
  /-- The keys: position, head, feature. -/
  k : Fin 4096 → Fin 8 → Fin 128 → EReal
  /-- The values: position, head, feature. -/
  v : Fin 4096 → Fin 8 → Fin 128 → EReal
  /-- The output projection. -/
  o : Fin 1024 → Fin 1024 → EReal

/-- The column of head `h`'s feature `d` in a row of all heads. -/
def col (h : Fin 8) (d : Fin 128) : Fin 1024 := ⟨128 * h.val + d.val, by omega⟩
/-- The head a column belongs to. -/
def headOf (c : Fin 1024) : Fin 8 := ⟨c.val / 128, by omega⟩
/-- The feature a column is of its head. -/
def featOf (c : Fin 1024) : Fin 128 := ⟨c.val % 128, by omega⟩

/-- The factor on the scores. -/
def scale : EReal := Ideal.ofBits .f32 0x3DB504F3#32

/-- Query `i` sees key `j`: they are at most 128 apart, or the key is one of the first 32, or the query is. -/
def Sees (i j : Fin 4096) : Prop := (i.val ≤ j.val + 128 ∧ j.val ≤ i.val + 128) ∨ j.val < 32 ∨ i.val < 32

instance (i j : Fin 4096) : Decidable (Sees i j) := by unfold Sees; infer_instance

namespace Arrays

/-- The queries: a row of all heads. -/
def q (A : Arrays) (i : Fin 4096) (n : Fin 1024) : EReal := ∑ k : Fin 1024, A.x i k * A.w k n
/-- The score of query `i` and key `j` at head `h`. -/
def score (A : Arrays) (i : Fin 4096) (h : Fin 8) (j : Fin 4096) : EReal :=
  (∑ d : Fin 128, A.q i (col h d) * A.k j h d) * scale
/-- The weight of a pair before its row is divided: exp of the score, zero where the query does not see the key. -/
def wt (A : Arrays) (i : Fin 4096) (h : Fin 8) (j : Fin 4096) : EReal := if Sees i j then Ideal.exp (A.score i h j) else 0
/-- A row's weighted sum of values over its sum of weights. -/
def ctx (A : Arrays) (i : Fin 4096) (h : Fin 8) (d : Fin 128) : EReal :=
  Ideal.div (∑ j : Fin 4096, A.wt i h j * A.v j h d) (∑ j : Fin 4096, A.wt i h j)
/-- The result. -/
def out (A : Arrays) (i : Fin 4096) (n : Fin 1024) : EReal :=
  ∑ c : Fin 1024, A.ctx i (headOf c) (featOf c) * A.o c n

end Arrays

/-- The factor on the scores is a nonnegative real. -/
theorem scale_real : ∃ c : ℝ, 0 ≤ c ∧ scale = (c : EReal) := by
  refine ⟨1 * (2 ^ 23 + ((0x3DB504F3#32).extractLsb' 0 23).toNat : ℕ)
    * (2 : ℝ) ^ ((((0x3DB504F3#32).extractLsb' 23 8).toNat : ℤ) - (2 ^ 7 - 1) - 23), by positivity, ?_⟩
  simp only [scale, Ideal.ofBits, Ideal.ieee]
  rw [if_neg (by decide), if_neg (by decide), if_neg (by decide)]
  rfl

/-- The scale applied to every query entry before the product with a key is the scale applied to the score. -/
theorem scale_queries (q k : Fin 128 → EReal) : (∑ d, q d * scale * k d) = (∑ d, q d * k d) * scale := by
  obtain ⟨c, hc, h⟩ := scale_real
  rw [h, sum_mul_real _ _ _ hc]
  exact Finset.sum_congr rfl fun d _ => by rw [mul_right_comm]

end Cert.Att
-- ==== Proof.KerOps.lean ====
/-
The kernel's computed values read at one index, on extended reals: a masked exponential of a product, a row sum, the
quotient of the two products' sum by the row sums, the four masks, the projections. Each is stated of the operations
as the kernel's own terms spell them, so KerVal.lean can read a context row as sums.
-/
module

public import proofs.«01_k».proof.Proof.Contents
public import proofs.«01_k».proof.Proof.Spec
public import Idealize.ShloMosaic.Lib.MatmulPlain
public import Idealize.ShloMosaic.Lib.KernelVsHost
public import Idealize.ShloMosaic.Lib.Pointwise.Reduce
public import Idealize.ShloMosaic.Lib.ValueLayout
public import Idealize.ShloMosaic.Lib.WordCmp

@[expose] public section

noncomputable section

open scoped BigOperators

namespace Cert.KProof

open Cert.KernelIdeal Cert.KernelIdeal.Gen
open Idealize.ShloMosaic hiding ix1 ix2 ix3 ix4
open Idealize.ShloMosaic.ValueIdx

/-! ## Products, sums and quotients -/

/-- A product with the second operand transposed, accumulated into zero. -/
theorem mm_tr {M K N : ℕ} {φ₁ φ₂ : FTy} (d : DotDims ⟨2, ![M, K]⟩ ⟨2, ![N, K]⟩ ⟨2, ![M, N]⟩) (hd : d = DotDims.transposedRhs M K N)
    (l : FVec Ideal ⟨2, ![M, K]⟩ φ₁) (r : FVec Ideal ⟨2, ![N, K]⟩ φ₂) (i : Fin M) (j : Fin N) :
    matmul d none l r (constant ⟨2, ![M, N]⟩ .f32 0x00000000#32) (ix2 i j) = ∑ k : Fin K, l (ix2 i k) * r (ix2 j k) := by
  subst hd
  refine (Ideal.matmul_transposedRhs_apply none l r _ i j).trans ?_
  rw [constant_apply, Ideal.ofBits_zero_f32, zero_add]

/-- A product accumulated into zero. -/
theorem mm_pl {M K N : ℕ} {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (i : Fin M) (j : Fin N) :
    matmul d none l r (constant ⟨2, ![M, N]⟩ .f32 0x00000000#32) (ix2 i j) = ∑ k : Fin K, l (ix2 i k) * r (ix2 k j) := by
  subst hd
  refine (Ideal.matmul_plain_apply none l r _ i j).trans ?_
  rw [constant_apply, Ideal.ofBits_zero_f32, zero_add]

/-- The bf16 word of all zero bits is zero. -/
theorem zero_bf16 : Ideal.ofBits .bf16 0x0000#16 = 0 := by simp [Ideal.ofBits, Ideal.ieee]

/-- The masked exponential of the scores of query rows against key rows. -/
theorem wts_apply {M N : ℕ} (m : IVec ⟨2, ![M, N]⟩ 1) (d : DotDims ⟨2, ![M, 128]⟩ ⟨2, ![N, 128]⟩ ⟨2, ![M, N]⟩)
    (hd : d = DotDims.transposedRhs M 128 N) (q : FVec Ideal ⟨2, ![M, 128]⟩ .bf16) (k : FVec Ideal ⟨2, ![N, 128]⟩ .bf16)
    (h : FTy.bits .bf16 < FTy.bits .f32) (r : Fin M) (t : Fin N) :
    select m (exp (truncf .bf16 (matmul d none q k (constant ⟨2, ![M, N]⟩ .f32 0x00000000#32)) h))
        (broadcast ⟨2, ![M, N]⟩ (Scalar.ofBits (F := Ideal) .bf16 0x0000#16)) (ix2 r t)
      = if m (ix2 r t) = 1#1 then Ideal.exp (∑ e : Fin 128, q (ix2 r e) * k (ix2 t e)) else (0 : EReal) := by
  rw [select_apply]
  by_cases hm : m (ix2 r t) = 1#1
  · rw [if_pos hm, hm, select_one]
    exact congrArg Ideal.exp (mm_tr d hd q k r t)
  · rw [if_neg hm, (by revert hm; generalize m (ix2 r t) = b; revert b; decide : m (ix2 r t) = 0#1), select_zero]
    exact zero_bf16

/-- A row sum of a bf16 matrix widened to f32, as a column. -/
theorem rowsum_apply {M N : ℕ} (w : FVec Ideal ⟨2, ![M, N]⟩ .bf16) (h : FTy.bits .bf16 < FTy.bits .f32)
    (hr : (⟨2, ![M, N]⟩ : Shape).Reduces [1] ⟨1, ![M]⟩) (hφ : FKind.Formats .f32) (ha : 0x00000000#32 = FKind.add.neutral .f32 hφ)
    (hs : (⟨1, ![M]⟩ : Shape).ShapeCasts ⟨2, ![M, 1]⟩) (r : Fin M) :
    shapeCast ⟨2, ![M, 1]⟩ (multiReduction .add [1] ⟨1, ![M]⟩ (extf .f32 w h) 0x00000000#32 hr hφ ha) hs (ix2 r 0)
      = ∑ t : Fin N, (w (ix2 r t) : EReal) := by
  rw [shapeCast_apply _ hs _ (ix1 r) (by rw [Shape.rowMajor_val_one, Shape.rowMajor_val_two]; show r.val = r.val * 1 + 0; omega)]
  refine (Ideal.multiReduction_add_single _ _ hr hφ ha _).trans (Finset.sum_congr rfl fun t _ => ?_)
  refine congrArg w (funext fun a => Fin.ext ?_)
  match a with
  | ⟨0, _⟩ => rfl
  | ⟨1, _⟩ => rfl

/-- A row sum of an f32 matrix, as a column. -/
theorem rowsum32_apply {M N : ℕ} (w : FVec Ideal ⟨2, ![M, N]⟩ .f32)
    (hr : (⟨2, ![M, N]⟩ : Shape).Reduces [1] ⟨1, ![M]⟩) (hφ : FKind.Formats .f32) (ha : 0x00000000#32 = FKind.add.neutral .f32 hφ)
    (hs : (⟨1, ![M]⟩ : Shape).ShapeCasts ⟨2, ![M, 1]⟩) (r : Fin M) :
    shapeCast ⟨2, ![M, 1]⟩ (multiReduction .add [1] ⟨1, ![M]⟩ w 0x00000000#32 hr hφ ha) hs (ix2 r 0)
      = ∑ t : Fin N, (w (ix2 r t) : EReal) :=
  rowsum_apply w (by decide) hr hφ ha hs r

/-- A shape cast to the same shape changes nothing. -/
theorem cast_same {s : Shape} {α : Type} (x : s.Idx → α) (h : s.ShapeCasts s) : shapeCast s x h = x :=
  funext fun j => shapeCast_apply x h j j rfl

/-- A matrix over a column spread along its rows, rounded and stored. -/
theorem quot_apply {M : ℕ} (n : FVec Ideal ⟨2, ![M, 128]⟩ .f32) (s : FVec Ideal ⟨2, ![M, 1]⟩ .f32)
    (hb : (⟨2, ![M, 1]⟩ : Shape).Broadcasts ⟨2, ![M, 128]⟩) (ht : FTy.bits .bf16 < FTy.bits .f32)
    (hs : (⟨2, ![M, 128]⟩ : Shape).ShapeCasts ⟨2, ![M, 128]⟩) (hM : M ≠ 1) (r : Fin M) (d : Fin 128) :
    shapeCast ⟨2, ![M, 128]⟩ (truncf .bf16 (divf n (broadcastTo ⟨2, ![M, 128]⟩ s hb)) ht) hs (ix2 r d)
      = Ideal.div (n (ix2 r d)) (s (ix2 r 0)) := by
  rw [cast_same]
  show Ideal.div (n (ix2 r d)) (broadcastTo ⟨2, ![M, 128]⟩ s hb (ix2 r d)) = _
  rw [broadcastTo_apply s hb (ix2 r d) (ix2 r 0) (fun a => by
    match a with
    | ⟨0, _⟩ => exact (if_neg hM).symm
    | ⟨1, _⟩ => rfl)]

/-! ## The masks -/

/-- A sum of two small signed words is the sum of their integers. -/
theorem addi_int (x y : BitVec 32) (hx : -(2 ^ 30) ≤ x.toInt ∧ x.toInt < 2 ^ 30) (hy : -(2 ^ 30) ≤ y.toInt ∧ y.toInt < 2 ^ 30) :
    (IntOp.addi x y).toInt = x.toInt + y.toInt := by
  show (x + y).toInt = _
  rw [BitVec.toInt_add, Int.bmod_eq_of_le (by omega) (by omega)]

/-- A difference of two small signed words is the difference of their integers. -/
theorem subi_int (x y : BitVec 32) (hx : -(2 ^ 30) ≤ x.toInt ∧ x.toInt < 2 ^ 30) (hy : -(2 ^ 30) ≤ y.toInt ∧ y.toInt < 2 ^ 30) :
    (IntOp.subi x y).toInt = x.toInt - y.toInt := by
  show (x - y).toInt = _
  rw [BitVec.toInt_sub, Int.bmod_eq_of_le (by omega) (by omega)]

/-- The signed reading of a small index word. -/
theorem idx_int (n : ℕ) (h : n < 2 ^ 30) : (BitVec.ofNat 32 n).toInt = n := WordCmp.toInt_ofNat_of_lt (by omega)

/-- Two bits are both set when their conjunction is. -/
theorem andi_one (a b : BitVec 1) : IntOp.andi a b = 1#1 ↔ a = 1#1 ∧ b = 1#1 := by revert a b; decide

/-- One of two bits is set when their disjunction is. -/
theorem ori_one (a b : BitVec 1) : IntOp.ori a b = 1#1 ↔ a = 1#1 ∨ b = 1#1 := by revert a b; decide

/-- The comparisons as integer comparisons. -/
theorem sge_one (x y : BitVec 32) : IntOp.cmpi .sge x y = 1#1 ↔ y.toInt ≤ x.toInt := by
  rw [WordCmp.cmpi_sge_eq, WordCmp.ofBool_decide_eq_one_iff]
/-- Signed at most, as integers. -/
theorem sle_one (x y : BitVec 32) : IntOp.cmpi .sle x y = 1#1 ↔ x.toInt ≤ y.toInt := by
  rw [WordCmp.cmpi_sle_eq, WordCmp.ofBool_decide_eq_one_iff]
/-- Signed above, as integers. -/
theorem sgt_one (x y : BitVec 32) : IntOp.cmpi .sgt x y = 1#1 ↔ y.toInt < x.toInt := by
  rw [WordCmp.cmpi_sgt_eq, WordCmp.ofBool_decide_eq_one_iff]
/-- Signed below, as integers. -/
theorem slt_one (x y : BitVec 32) : IntOp.cmpi .slt x y = 1#1 ↔ x.toInt < y.toInt := by
  rw [WordCmp.cmpi_slt_eq, WordCmp.ofBool_decide_eq_one_iff]

/-- The band mask on index words: row `r` of a tile and row `t` of its band, which starts 128 rows earlier. -/
theorem band_words (r t : ℕ) (hr : r < 2 ^ 20) (ht : t < 2 ^ 20) :
    IntOp.andi (IntOp.cmpi .sge (IntOp.subi (BitVec.ofNat 32 t) (BitVec.ofNat 32 r)) 0#32)
      (IntOp.cmpi .sle (IntOp.subi (BitVec.ofNat 32 t) (BitVec.ofNat 32 r)) 256#32) = 1#1 ↔ r ≤ t ∧ t ≤ r + 256 := by
  have e1 := idx_int r (by omega)
  have e2 := idx_int t (by omega)
  rw [andi_one, sge_one, sle_one, subi_int _ _ (by omega) (by omega), e1, e2, show (0#32).toInt = 0 from rfl,
    show (256#32).toInt = 256 from rfl]
  omega

/-- The global mask on index words: row `r` of a tile whose first row is `b` is more than 128 after key `t`. -/
theorem glob_words (b : BitVec 32) (n r t : ℕ) (hb : b.toInt = n) (hn : n < 2 ^ 20) (hr : r < 2 ^ 20) (ht : t < 2 ^ 20) :
    IntOp.cmpi .sgt (IntOp.addi b (BitVec.ofNat 32 r)) (IntOp.addi (BitVec.ofNat 32 t) 128#32) = 1#1 ↔ t + 128 < n + r := by
  have e1 := idx_int r (by omega)
  have e2 := idx_int t (by omega)
  have e3 : (128#32).toInt = 128 := rfl
  rw [sgt_one, addi_int _ _ (by omega) (by omega), addi_int _ _ (by omega) (by omega), e1, e2, e3, hb]
  omega

/-- The band mask of a 384-row tile. -/
theorem band_I (r : Fin 384) (t : Fin 640) : k0_pay67 (ix2 r t) = 1#1 ↔ r.val ≤ t.val ∧ t.val ≤ r.val + 256 := by
  refine Iff.trans (iff_of_eq (congrArg (· = 1#1) ?_)) (band_words r.val t.val (by omega) (by omega))
  show IntOp.andi (IntOp.cmpi .sge (IntOp.subi (iota .tc S384x640 32 [1] iota_S384x640_d1_w32 (ix2 r t)) (iota .tc S384x640 32 [0] iota_S384x640_d0_w32 (ix2 r t))) 0#32)
    (IntOp.cmpi .sle (IntOp.subi (iota .tc S384x640 32 [1] iota_S384x640_d1_w32 (ix2 r t)) (iota .tc S384x640 32 [0] iota_S384x640_d0_w32 (ix2 r t))) 256#32) = _
  rw [iota_single_apply, iota_single_apply]

/-- The band mask of a 128-row tile. -/
theorem band_E (r : Fin 128) (t : Fin 384) : k0_pay71 (ix2 r t) = 1#1 ↔ r.val ≤ t.val ∧ t.val ≤ r.val + 256 := by
  refine Iff.trans (iff_of_eq (congrArg (· = 1#1) ?_)) (band_words r.val t.val (by omega) (by omega))
  show IntOp.andi (IntOp.cmpi .sge (IntOp.subi (iota .tc S128x384 32 [1] iota_S128x384_d1_w32 (ix2 r t)) (iota .tc S128x384 32 [0] iota_S128x384_d0_w32 (ix2 r t))) 0#32)
    (IntOp.cmpi .sle (IntOp.subi (iota .tc S128x384 32 [1] iota_S128x384_d1_w32 (ix2 r t)) (iota .tc S128x384 32 [0] iota_S128x384_d0_w32 (ix2 r t))) 256#32) = _
  rw [iota_single_apply, iota_single_apply]

/-- The first tile's band mask also leaves out the rows before the array. -/
theorem band_E1 (c : Dev nD) (r : Fin 128) (t : Fin 384) :
    k0_pay72 (idw c) (ix2 r t) = 1#1 ↔ (r.val ≤ t.val ∧ t.val ≤ r.val + 256) ∧ 128 ≤ 1024 * c.val + t.val := by
  have hb : (Scalar.subi (Scalar.muli (idw c) 1024#32) 128#32).toInt = 1024 * (c.val : ℤ) - 128 := by revert c; decide
  have hc : c.val < 4 := c.isLt
  have et := idx_int t.val (by omega)
  show IntOp.andi (k0_pay71 (ix2 r t)) (IntOp.cmpi .sge (IntOp.addi (Scalar.subi (Scalar.muli (idw c) 1024#32) 128#32)
    (iota .tc S128x384 32 [1] iota_S128x384_d1_w32 (ix2 r t))) 0#32) = 1#1 ↔ _
  rw [iota_single_apply, andi_one, band_E, sge_one]
  show _ ∧ _ ≤ (IntOp.addi _ (BitVec.ofNat 32 t.val)).toInt ↔ _
  have hc' : (c.val : ℤ) < 4 := by exact_mod_cast hc
  rw [addi_int _ _ (by omega) (by omega), et, hb, show (0#32).toInt = 0 from rfl]
  omega

/-- The last tile's band mask also leaves out the rows past the array. -/
theorem band_E2 (c : Dev nD) (r : Fin 128) (t : Fin 384) :
    k0_pay75 k0_pay71 (k0_pay73 (idw c)) k0_pay74 (ix2 r t) = 1#1
      ↔ (r.val ≤ t.val ∧ t.val ≤ r.val + 256) ∧ 1024 * c.val + 768 + t.val < 4096 := by
  have hb : (Scalar.subi (Scalar.subi (Scalar.addi (Scalar.muli (idw c) 1024#32) 1024#32) 128#32) 128#32).toInt
      = 1024 * (c.val : ℤ) + 768 := by revert c; decide
  have hc : c.val < 4 := c.isLt
  have et := idx_int t.val (by omega)
  show IntOp.andi (k0_pay71 (ix2 r t)) (IntOp.cmpi .slt (IntOp.addi (Scalar.subi (Scalar.subi (Scalar.addi (Scalar.muli (idw c) 1024#32) 1024#32) 128#32) 128#32)
    (iota .tc S128x384 32 [1] iota_S128x384_d1_w32 (ix2 r t))) 4096#32) = 1#1 ↔ _
  rw [iota_single_apply, andi_one, band_E, slt_one]
  show _ ∧ (IntOp.addi _ (BitVec.ofNat 32 t.val)).toInt < _ ↔ _
  have hc' : (c.val : ℤ) < 4 := by exact_mod_cast hc
  rw [addi_int _ _ (by omega) (by omega), et, hb, show (4096#32).toInt = 4096 from rfl]
  omega

/-- The global mask of the first 384-row tile. -/
theorem glob_I1 (c : Dev nD) (r : Fin 384) (t : Fin 32) :
    k0_pay68 (idw c) (ix2 r t) = 1#1 ↔ t.val + 128 < 1024 * c.val + 128 + r.val := by
  have hc : c.val < 4 := c.isLt
  refine Iff.trans (iff_of_eq (congrArg (· = 1#1) ?_)) (glob_words (Scalar.addi (Scalar.muli (idw c) 1024#32) 128#32)
    (1024 * c.val + 128) r.val t.val (by revert c; decide) (by omega) (by omega) (by omega))
  show IntOp.cmpi .sgt (IntOp.addi _ (iota .tc S384x32 32 [0] iota_S384x32_d0_w32 (ix2 r t))) (IntOp.addi (iota .tc S384x32 32 [1] iota_S384x32_d1_w32 (ix2 r t)) 128#32) = _
  rw [iota_single_apply, iota_single_apply]
  rfl

/-- The global mask of the second 384-row tile. -/
theorem glob_I2 (c : Dev nD) (r : Fin 384) (t : Fin 32) :
    k0_pay69 (Scalar.muli (idw c) 1024#32) 512#32 (ix2 r t) = 1#1 ↔ t.val + 128 < 1024 * c.val + 512 + r.val := by
  have hc : c.val < 4 := c.isLt
  refine Iff.trans (iff_of_eq (congrArg (· = 1#1) ?_)) (glob_words (Scalar.addi (Scalar.muli (idw c) 1024#32) 512#32)
    (1024 * c.val + 512) r.val t.val (by revert c; decide) (by omega) (by omega) (by omega))
  show IntOp.cmpi .sgt (IntOp.addi _ (iota .tc S384x32 32 [0] iota_S384x32_d0_w32 (ix2 r t))) (IntOp.addi (iota .tc S384x32 32 [1] iota_S384x32_d1_w32 (ix2 r t)) 128#32) = _
  rw [iota_single_apply, iota_single_apply]
  rfl

/-- The global mask of the first 128-row tile. -/
theorem glob_E1 (c : Dev nD) (r : Fin 128) (t : Fin 32) :
    k0_pay76 (idw c) (ix2 r t) = 1#1 ↔ t.val + 128 < 1024 * c.val + 0 + r.val := by
  have hc : c.val < 4 := c.isLt
  refine Iff.trans (iff_of_eq (congrArg (· = 1#1) ?_)) (glob_words (Scalar.addi (Scalar.muli (idw c) 1024#32) 0#32)
    (1024 * c.val + 0) r.val t.val (by revert c; decide) (by omega) (by omega) (by omega))
  show IntOp.cmpi .sgt (IntOp.addi _ (iota .tc S128x32 32 [0] iota_S128x32_d0_w32 (ix2 r t))) (IntOp.addi (iota .tc S128x32 32 [1] iota_S128x32_d1_w32 (ix2 r t)) 128#32) = _
  rw [iota_single_apply, iota_single_apply]
  rfl

/-- The global mask of the last 128-row tile. -/
theorem glob_E2 (c : Dev nD) (r : Fin 128) (t : Fin 32) :
    k0_pay77 (idw c) (ix2 r t) = 1#1 ↔ t.val + 128 < 1024 * c.val + 896 + r.val := by
  have hc : c.val < 4 := c.isLt
  refine Iff.trans (iff_of_eq (congrArg (· = 1#1) ?_)) (glob_words (Scalar.addi (Scalar.muli (idw c) 1024#32) 896#32)
    (1024 * c.val + 896) r.val t.val (by revert c; decide) (by omega) (by omega) (by omega))
  show IntOp.cmpi .sgt (IntOp.addi _ (iota .tc S128x32 32 [0] iota_S128x32_d0_w32 (ix2 r t))) (IntOp.addi (iota .tc S128x32 32 [1] iota_S128x32_d1_w32 (ix2 r t)) 128#32) = _
  rw [iota_single_apply, iota_single_apply]
  rfl

/-! ## A tile of the context -/

/-- A masked weight: the exponential of a score, or zero. -/
def mw {M N : ℕ} (m : IVec ⟨2, ![M, N]⟩ 1) (q : FVec Ideal ⟨2, ![M, 128]⟩ .bf16) (k : FVec Ideal ⟨2, ![N, 128]⟩ .bf16)
    (r : Fin M) (t : Fin N) : EReal :=
  if m (ix2 r t) = 1#1 then Ideal.exp (∑ e : Fin 128, q (ix2 r e) * k (ix2 t e)) else 0

/-- One entry of a tile: the band's and the global keys' weighted values over the sums of their weights. -/
def tileVal {M N : ℕ} (bm : IVec ⟨2, ![M, N]⟩ 1) (gm : IVec ⟨2, ![M, 32]⟩ 1) (q : FVec Ideal ⟨2, ![M, 128]⟩ .bf16)
    (k v : FVec Ideal ⟨2, ![N, 128]⟩ .bf16) (kg vg : FVec Ideal ⟨2, ![32, 128]⟩ .bf16) (r : Fin M) (d : Fin 128) : EReal :=
  Ideal.div ((∑ t : Fin N, mw bm q k r t * v (ix2 t d)) + ∑ g : Fin 32, mw gm q kg r g * vg (ix2 g d))
    ((∑ t : Fin N, mw bm q k r t) + ∑ g : Fin 32, mw gm q kg r g)

/-- The band weights of a 384-row tile. -/
theorem pay3_apply (m : IVec S384x640 1) (q : Vec Ideal S384x128 .bf16) (k : Vec Ideal S640x128 .bf16) (r : Fin 384) (t : Fin 640) :
    k0_pay3 (F := Ideal) m q k (ix2 r t) = mw m q k r t :=
  wts_apply m dot_S384x128_S640x128_S384x640_1_1_0_0_n_n rfl q k bitsLt_bf16_f32 r t

/-- The global weights of a 384-row tile. -/
theorem pay4_apply (m : IVec S384x32 1) (q : Vec Ideal S384x128 .bf16) (k : Vec Ideal S32x128 .bf16) (r : Fin 384) (t : Fin 32) :
    k0_pay4 (F := Ideal) m q k (ix2 r t) = mw m q k r t :=
  wts_apply m dot_S384x128_S32x128_S384x32_1_1_0_0_n_n rfl q k bitsLt_bf16_f32 r t

/-- The band weights of a 128-row tile. -/
theorem pay9_apply (m : IVec S128x384 1) (q : Vec Ideal S128x128 .bf16) (k : Vec Ideal S384x128 .bf16) (r : Fin 128) (t : Fin 384) :
    k0_pay9 (F := Ideal) m q k (ix2 r t) = mw m q k r t :=
  wts_apply m dot_S128x128_S384x128_S128x384_1_1_0_0_n_n rfl q k bitsLt_bf16_f32 r t

/-- The global weights of a 128-row tile. -/
theorem pay10_apply (m : IVec S128x32 1) (q : Vec Ideal S128x128 .bf16) (k : Vec Ideal S32x128 .bf16) (r : Fin 128) (t : Fin 32) :
    k0_pay10 (F := Ideal) m q k (ix2 r t) = mw m q k r t :=
  wts_apply m dot_S128x128_S32x128_S128x32_1_1_0_0_n_n rfl q k bitsLt_bf16_f32 r t

/-- One entry of a 384-row tile as the second half of the loop's body computes it. -/
theorem tile_I2 (bm : IVec S384x640 1) (gm : IVec S384x32 1) (q : Vec Ideal S384x128 .bf16) (k v : Vec Ideal S640x128 .bf16)
    (kg vg : Vec Ideal S32x128 .bf16) (r : Fin 384) (d : Fin 128) :
    k0_pay70 (F := Ideal) v vg (k0_pay3 bm q k) (k0_pay4 gm q kg) (k0_pay5 bm q k) (k0_pay6 gm q kg) (ix2 r d)
      = tileVal bm gm q k v kg vg r d := by
  refine (quot_apply (addf (matmul dot_S384x640_S640x128_S384x128_1_0_0_1_n_n none (k0_pay3 bm q k) v (constant S384x128 .f32 0x00000000#32))
    (matmul dot_S384x32_S32x128_S384x128_1_0_0_1_n_n none (k0_pay4 gm q kg) vg (constant S384x128 .f32 0x00000000#32)))
    (addf (k0_pay5 bm q k) (k0_pay6 gm q kg)) broadcasts_S384x1_S384x128 bitsLt_bf16_f32 shapeCasts_S384x128_S384x128 (by decide) r d).trans ?_
  rw [addf_apply, addf_apply]
  refine congrArg₂ Ideal.div (congrArg₂ (· + ·) ((mm_pl (φ₁ := .bf16) (φ₂ := .bf16) _ rfl _ _ r d).trans ?_) ((mm_pl (φ₁ := .bf16) (φ₂ := .bf16) _ rfl _ _ r d).trans ?_))
    (congrArg₂ (· + ·) ((rowsum_apply _ bitsLt_bf16_f32 reduces_S384x640_S384 (.inl rfl) rfl shapeCasts_S384_S384x1 r).trans ?_)
      ((rowsum_apply _ bitsLt_bf16_f32 reduces_S384x32_S384 (.inl rfl) rfl shapeCasts_S384_S384x1 r).trans ?_))
  · exact Finset.sum_congr rfl fun t _ => by rw [pay3_apply]
  · exact Finset.sum_congr rfl fun t _ => by rw [pay4_apply]
  · exact Finset.sum_congr rfl fun t _ => pay3_apply _ _ _ _ _
  · exact Finset.sum_congr rfl fun t _ => pay4_apply _ _ _ _ _

/-- One entry of a 384-row tile as the first half of the loop's body computes it. -/
theorem tile_I1 (bm : IVec S384x640 1) (gm : IVec S384x32 1) (q : Vec Ideal S384x128 .bf16) (k v : Vec Ideal S640x128 .bf16)
    (kg vg : Vec Ideal S32x128 .bf16) (r : Fin 384) (d : Fin 128) :
    k0_pay2 (F := Ideal) (k0_pay1 bm gm q k v kg vg) (ix2 r d) = tileVal bm gm q k v kg vg r d :=
  tile_I2 bm gm q k v kg vg r d

/-- One entry of a 128-row tile as the second half of the loop's body computes it. -/
theorem tile_E2 (bm : IVec S128x384 1) (gm : IVec S128x32 1) (q : Vec Ideal S128x128 .bf16) (k v : Vec Ideal S384x128 .bf16)
    (kg vg : Vec Ideal S32x128 .bf16) (r : Fin 128) (d : Fin 128) :
    k0_pay78 (F := Ideal) v vg (k0_pay9 bm q k) (k0_pay10 gm q kg) (k0_pay11 bm q k) (k0_pay12 gm q kg) (ix2 r d)
      = tileVal bm gm q k v kg vg r d := by
  refine (quot_apply (addf (matmul dot_S128x384_S384x128_S128x128_1_0_0_1_n_n none (k0_pay9 bm q k) v (constant S128x128 .f32 0x00000000#32))
    (matmul dot_S128x32_S32x128_S128x128_1_0_0_1_n_n none (k0_pay10 gm q kg) vg (constant S128x128 .f32 0x00000000#32)))
    (addf (k0_pay11 bm q k) (k0_pay12 gm q kg)) broadcasts_S128x1_S128x128 bitsLt_bf16_f32 shapeCasts_S128x128_S128x128 (by decide) r d).trans ?_
  rw [addf_apply, addf_apply]
  refine congrArg₂ Ideal.div (congrArg₂ (· + ·) ((mm_pl (φ₁ := .bf16) (φ₂ := .bf16) _ rfl _ _ r d).trans ?_) ((mm_pl (φ₁ := .bf16) (φ₂ := .bf16) _ rfl _ _ r d).trans ?_))
    (congrArg₂ (· + ·) ((rowsum_apply _ bitsLt_bf16_f32 reduces_S128x384_S128 (.inl rfl) rfl shapeCasts_S128_S128x1 r).trans ?_)
      ((rowsum_apply _ bitsLt_bf16_f32 reduces_S128x32_S128 (.inl rfl) rfl shapeCasts_S128_S128x1 r).trans ?_))
  · exact Finset.sum_congr rfl fun t _ => by rw [pay9_apply]
  · exact Finset.sum_congr rfl fun t _ => by rw [pay10_apply]
  · exact Finset.sum_congr rfl fun t _ => pay9_apply _ _ _ _ _
  · exact Finset.sum_congr rfl fun t _ => pay10_apply _ _ _ _ _

/-- One entry of a 128-row tile as the first half of the loop's body computes it. -/
theorem tile_E1 (bm : IVec S128x384 1) (gm : IVec S128x32 1) (q : Vec Ideal S128x128 .bf16) (k v : Vec Ideal S384x128 .bf16)
    (kg vg : Vec Ideal S32x128 .bf16) (r : Fin 128) (d : Fin 128) :
    k0_pay8 (F := Ideal) (k0_pay7 bm gm q k v kg vg) (ix2 r d) = tileVal bm gm q k v kg vg r d :=
  tile_E2 bm gm q k v kg vg r d

open Cert.Att in
/-- A tile's entry is the attention's context when the tile holds what it should: row `r` the scaled query of position
    `i = b + r`, band row `t` the key and value of position `b + t − 128` where that is a position, the global rows the
    first 32 keys and values; the band mask admits the positions within 128, the global mask those more than 128
    before. -/
theorem tile_ctx {M N : ℕ} (A : Arrays) (i : Fin 4096) (h : Fin 8) (b : ℕ) (bm : IVec ⟨2, ![M, N]⟩ 1) (gm : IVec ⟨2, ![M, 32]⟩ 1)
    (q : FVec Ideal ⟨2, ![M, 128]⟩ .bf16) (k v : FVec Ideal ⟨2, ![N, 128]⟩ .bf16) (kg vg : FVec Ideal ⟨2, ![32, 128]⟩ .bf16)
    (r : Fin M) (d : Fin 128) (hi : i.val = b + r.val) (h32 : 32 ≤ i.val) (hN : N = M + 256)
    (hq : ∀ e, q (ix2 r e) = A.q i (col h e) * scale)
    (hk : ∀ (t : Fin N) (j : Fin 4096), j.val + 128 = b + t.val → ∀ e, k (ix2 t e) = A.k j h e)
    (hv : ∀ (t : Fin N) (j : Fin 4096), j.val + 128 = b + t.val → v (ix2 t d) = A.v j h d)
    (hkg : ∀ (g : Fin 32) (j : Fin 4096), j.val = g.val → ∀ e, kg (ix2 g e) = A.k j h e)
    (hvg : ∀ (g : Fin 32) (j : Fin 4096), j.val = g.val → vg (ix2 g d) = A.v j h d)
    (hbm : ∀ t : Fin N, bm (ix2 r t) = 1#1 ↔ (r.val ≤ t.val ∧ t.val ≤ r.val + 256) ∧ 128 ≤ b + t.val ∧ b + t.val < 4096 + 128)
    (hgm : ∀ g : Fin 32, gm (ix2 r g) = 1#1 ↔ g.val + 128 < i.val) :
    tileVal bm gm q k v kg vg r d = A.ctx i h d := by
  have hs : ∀ (x : Fin 128 → EReal) (j : Fin 4096), (∀ e, x e = A.k j h e) → (∑ e : Fin 128, q (ix2 r e) * x e) = A.score i h j := by
    intro x j hx
    rw [Arrays.score, ← scale_queries]
    exact Finset.sum_congr rfl fun e _ => by rw [hq, hx]
  let fB : Fin 4096 → EReal := fun j => if i.val ≤ j.val + 128 ∧ j.val ≤ i.val + 128 then Ideal.exp (A.score i h j) else 0
  let fG : Fin 4096 → EReal := fun j => if j.val < 32 ∧ j.val + 128 < i.val then Ideal.exp (A.score i h j) else 0
  have hB1 : ∀ (t : Fin N) (j : Fin 4096), j.val + 128 = b + t.val → mw bm q k r t = fB j := by
    intro t j e
    have hj := j.isLt
    have ht := t.isLt
    show (if _ then _ else _) = (if _ then _ else _)
    rw [hs (fun e => k (ix2 t e)) j (hk t j e)]
    refine if_congr ((hbm t).trans ?_) rfl rfl
    omega
  have hB2 : ∀ t : Fin N, (∀ j : Fin 4096, j.val + 128 ≠ b + t.val) → mw bm q k r t = 0 := by
    intro t e
    refine if_neg fun hm => ?_
    have hm := (hbm t).mp hm
    exact e ⟨b + t.val - 128, by omega⟩ (by show b + t.val - 128 + 128 = _; omega)
  have hB3 : ∀ j : Fin 4096, (∀ t : Fin N, j.val + 128 ≠ b + t.val) → fB j = 0 := by
    intro j e
    refine if_neg fun hm => ?_
    have hr := r.isLt
    exact e ⟨j.val + 128 - b, by omega⟩ (by show _ = b + (j.val + 128 - b); omega)
  have hG1 : ∀ (g : Fin 32) (j : Fin 4096), j.val + 0 = 0 + g.val → mw gm q kg r g = fG j := by
    intro g j e
    have hg := g.isLt
    show (if _ then _ else _) = (if _ then _ else _)
    rw [hs (fun e => kg (ix2 g e)) j (hkg g j (by omega))]
    refine if_congr ((hgm g).trans ?_) rfl rfl
    omega
  have hG2 : ∀ g : Fin 32, ¬ ∀ j : Fin 4096, j.val + 0 ≠ 0 + g.val := fun g e => e ⟨g.val, by omega⟩ (by show g.val + 0 = _; omega)
  have hG3 : ∀ j : Fin 4096, (∀ g : Fin 32, j.val + 0 ≠ 0 + g.val) → fG j = 0 := by
    intro j e
    refine if_neg fun hm => ?_
    exact e ⟨j.val, hm.1⟩ (by show _ = 0 + j.val; omega)
  have hw : ∀ j : Fin 4096, A.wt i h j = fB j + fG j ∧ A.wt i h j * A.v j h d = fB j * A.v j h d + fG j * A.v j h d := by
    intro j
    show (if Sees i j then _ else _) = (if _ then _ else _) + (if _ then _ else _) ∧ (if Sees i j then _ else _) * _
      = (if _ then _ else _) * _ + (if _ then _ else _) * _
    by_cases h1 : i.val ≤ j.val + 128 ∧ j.val ≤ i.val + 128
    · rw [if_pos (show Sees i j from Or.inl h1), if_pos h1, if_neg (by omega), zero_mul, add_zero, add_zero]
      exact ⟨rfl, rfl⟩
    · by_cases h2 : j.val < 32
      · rw [if_pos (show Sees i j from Or.inr (Or.inl h2)), if_neg h1, if_pos (by omega), zero_mul, zero_add, zero_add]
        exact ⟨rfl, rfl⟩
      · rw [if_neg (show ¬ Sees i j from fun hc => by unfold Sees at hc; omega), if_neg h1, if_neg (by omega), zero_mul, add_zero]
        exact ⟨rfl, rfl⟩
  unfold tileVal Arrays.ctx
  have eB : ∑ t : Fin N, mw bm q k r t = ∑ j : Fin 4096, fB j := sum_shift 128 b _ _ hB1 hB2 hB3
  have eG : ∑ g : Fin 32, mw gm q kg r g = ∑ j : Fin 4096, fG j := sum_shift 0 0 _ _ hG1 (fun g e => absurd e (hG2 g)) hG3
  have eBv : ∑ t : Fin N, mw bm q k r t * v (ix2 t d) = ∑ j : Fin 4096, fB j * A.v j h d :=
    sum_shift 128 b _ _ (fun t j e => by rw [hB1 t j e, hv t j e]) (fun t e => by rw [hB2 t e, zero_mul])
      (fun j e => by rw [hB3 j e, zero_mul])
  have eGv : ∑ g : Fin 32, mw gm q kg r g * vg (ix2 g d) = ∑ j : Fin 4096, fG j * A.v j h d :=
    sum_shift 0 0 _ _ (fun g j e => by rw [hG1 g j e, hvg g j (by omega)]) (fun g e => absurd e (hG2 g))
      (fun j e => by rw [hG3 j e, zero_mul])
  rw [eB, eG, eBv, eGv, ← Finset.sum_add_distrib, ← Finset.sum_add_distrib]
  exact congrArg₂ Ideal.div (Finset.sum_congr rfl fun j _ => (hw j).2.symm) (Finset.sum_congr rfl fun j _ => (hw j).1.symm)

end Cert.KProof
-- ==== Proof.KerVal.lean ====
/-
The kernel's result is the attention of Spec.lean: with every device's argument blocks the blocks of five whole arrays
(`Holds`), the buffers' contents of Contents.lean are read entry by entry up to the output. No assumption on the
entries is used: sums are only regrouped and a nonnegative factor moved, so infinities are carried along.
-/
module

public import proofs.«01_k».proof.Proof.KerOps

@[expose] public section

noncomputable section

open scoped BigOperators

namespace Cert.KProof

open Cert.KernelIdeal Cert.KernelIdeal.Gen Cert.Att
open Idealize.ShloMosaic hiding ix1 ix2 ix3 ix4
open Idealize.ShloMosaic.ValueIdx

/-- Row `r` of device `c`'s block, as a position of the whole array. -/
def row (c : Dev nD) (r : Fin 1024) : Fin 4096 := ⟨1024 * c.val + r.val, by have : c.val < 4 := c.isLt; omega⟩

/-- Each device's argument blocks hold its part of the whole arrays. -/
structure Holds (A : Ins Ideal) (G : Arrays) : Prop where
  /-- The tokens are cut by rows. -/
  x : ∀ c r k, A.x c (ix3 0 r k) = G.x (row c r) k
  /-- The query projection is whole on every device. -/
  w : ∀ c k n, A.wq c (ix2 k n) = G.w k n
  /-- The keys are cut by rows. -/
  k : ∀ c r h d, A.k c (ix4 0 r h d) = G.k (row c r) h d
  /-- The values are cut by rows. -/
  v : ∀ c r h d, A.v c (ix4 0 r h d) = G.v (row c r) h d
  /-- The output projection is whole on every device. -/
  o : ∀ c k n, A.wo c (ix2 k n) = G.o k n

/-! ## The buffers' entries -/

section
variable {A : Ins Ideal} {G : Arrays} (H : Holds A G)
include H

/-- A block of four axes seen as a matrix whose columns run over heads and features. -/
theorem flat_apply (x : Vec Ideal S1x1024x8x128 .bf16) (r : Fin 1024) (q : Fin 1024) (h : Fin 8) (d : Fin 128)
    (hq : q.val = 128 * h.val + d.val) : k0_pay29 (F := Ideal) x (ix2 r q) = x (ix4 0 r h d) := by
  unfold k0_pay29
  rw [cast_same, shapeCast_apply _ _ (ix2 r q) (ix3 r h d) (by
    rw [Shape.rowMajor_val_two, Shape.rowMajor_val_three]
    show (r.val * 8 + h.val) * 128 + d.val = r.val * 1024 + q.val
    omega), shapeCast_1abc_abc_apply]

/-- Device `c`'s keys. -/
theorem kb_val (c : Dev nD) (r : Fin 1024) (q : Fin 1024) (h : Fin 8) (d : Fin 128) (hq : q.val = 128 * h.val + d.val) :
    kb A c (ix2 r q) = G.k (row c r) h d := (flat_apply H _ r q h d hq).trans (H.k c r h d)

/-- Device `c`'s values. -/
theorem vb_val (c : Dev nD) (r : Fin 1024) (q : Fin 1024) (h : Fin 8) (d : Fin 128) (hq : q.val = 128 * h.val + d.val) :
    vb A c (ix2 r q) = G.v (row c r) h d := by
  have e : vb A c = k0_pay29 (F := Ideal) (A.v c) := by unfold vb k0_pay29 k0_pay30 k0_pay31; rfl
  rw [e, flat_apply H _ r q h d hq, H.v]

/-- Device `c`'s tokens. -/
theorem xb_val (c : Dev nD) (r k : Fin 1024) : xb A c (ix2 r k) = G.x (row c r) k := by
  unfold xb k0_pay32
  rw [cast_same, shapeCast_1ab_ab_apply, H.x]

/-- The left half of a device's own rows is its keys. -/
theorem own_k (c : Dev nD) (r : Fin 1024) (q : Fin 2048) (h : Fin 8) (d : Fin 128) (hq : q.val = 128 * h.val + d.val) :
    own A c r q = G.k (row c r) h d := by
  unfold own
  rw [dif_pos (by omega)]
  exact kb_val H c r _ h d hq

/-- The right half of a device's own rows is its values. -/
theorem own_v (c : Dev nD) (r : Fin 1024) (q : Fin 2048) (h : Fin 8) (d : Fin 128) (hq : q.val = 128 * h.val + 1024 + d.val) :
    own A c r q = G.v (row c r) h d := by
  unfold own
  rw [dif_neg (by omega)]
  exact vb_val H c r _ h d (by show q.val - 1024 = _; omega)

omit H in
/-- A band row that stands for a position holds that position's row of its device. -/
theorem band_row (c : Dev nD) (i : S1280x2048.Idx) (j : Fin 4096) (hj : j.val + 128 = 1024 * c.val + (i 0).val) :
    ∃ (c' : Dev nD) (r : Fin 1024), row c' r = j ∧ bandC A c i = own A c' r (i 1) := by
  have hc : c.val < 4 := c.isLt
  have hi : (i 0).val < 1280 := idx2_lt0 i
  have hjl := j.isLt
  by_cases h0 : (i 0).val < 128
  · have hn : c ≠ 0 := fun e => by subst e; have : ((0 : Dev nD) : ℕ) = 0 := rfl; omega
    have hcv : c.val ≠ 0 := fun e => hn (Fin.ext e)
    refine ⟨lc c, ⟨896 + (i 0).val, by omega⟩, Fin.ext ?_, ?_⟩
    · show 1024 * ((c.val + 3) % 4) + (896 + (i 0).val) = j.val
      omega
    · unfold bandC; rw [dif_pos h0, if_neg hn]
  · by_cases h1 : (i 0).val < 1152
    · refine ⟨c, ⟨(i 0).val - 128, by omega⟩, Fin.ext ?_, ?_⟩
      · show 1024 * c.val + ((i 0).val - 128) = j.val
        omega
      · unfold bandC; rw [dif_neg h0, dif_pos h1]
    · have hn : c ≠ 3 := fun e => by subst e; have : ((3 : Dev nD) : ℕ) = 3 := rfl; omega
      have hcv : c.val ≠ 3 := fun e => hn (Fin.ext e)
      refine ⟨rc c, ⟨(i 0).val - 1152, by omega⟩, Fin.ext ?_, ?_⟩
      · show 1024 * ((c.val + 1) % 4) + ((i 0).val - 1152) = j.val
        omega
      · unfold bandC; rw [dif_neg h0, dif_neg h1, if_neg hn]

/-- A key in the band. -/
theorem band_k (c : Dev nD) (i : S1280x2048.Idx) (j : Fin 4096) (h : Fin 8) (d : Fin 128)
    (hj : j.val + 128 = 1024 * c.val + (i 0).val) (hq : (i 1).val = 128 * h.val + d.val) : bandC A c i = G.k j h d := by
  obtain ⟨c', r, e, e'⟩ := band_row c i j hj
  rw [e', own_k H c' r _ h d hq, e]

/-- A value in the band. -/
theorem band_v (c : Dev nD) (i : S1280x2048.Idx) (j : Fin 4096) (h : Fin 8) (d : Fin 128)
    (hj : j.val + 128 = 1024 * c.val + (i 0).val) (hq : (i 1).val = 128 * h.val + 1024 + d.val) : bandC A c i = G.v j h d := by
  obtain ⟨c', r, e, e'⟩ := band_row c i j hj
  rw [e', own_v H c' r _ h d hq, e]

/-- A key among the global rows. -/
theorem glob_k (i : S32x3072.Idx) (j : Fin 4096) (h : Fin 8) (d : Fin 128) (hj : j.val = (i 0).val)
    (hq : (i 1).val = 128 * h.val + d.val) : gC A i = G.k j h d := by
  unfold gC
  rw [dif_pos (by omega), own_k H 0 _ _ h d hq]
  exact congrArg (fun a => G.k a h d) (Fin.ext (by show 1024 * 0 + (i 0).val = j.val; omega))

/-- A value among the global rows. -/
theorem glob_v (i : S32x3072.Idx) (j : Fin 4096) (h : Fin 8) (d : Fin 128) (hj : j.val = (i 0).val)
    (hq : (i 1).val = 128 * h.val + 1024 + d.val) : gC A i = G.v j h d := by
  unfold gC
  rw [dif_pos (by omega), own_v H 0 _ _ h d hq]
  exact congrArg (fun a => G.v a h d) (Fin.ext (by show 1024 * 0 + (i 0).val = j.val; omega))

/-- A token among the global rows. -/
theorem glob_x (i : S32x3072.Idx) (j : Fin 4096) (k : Fin 1024) (hj : j.val = (i 0).val) (hq : (i 1).val = 2048 + k.val) :
    gC A i = G.x j k := by
  unfold gC
  rw [dif_neg (by omega), xb_val H 0]
  refine congrArg₂ G.x (Fin.ext ?_) (Fin.ext ?_)
  · show 1024 * 0 + (i 0).val = j.val
    omega
  · show (i 1).val - 2048 = k.val
    omega

/-- The scaled queries. -/
theorem qsC_val (c : Dev nD) (r n : Fin 1024) : qsC A c (ix2 r n) = G.q (row c r) n * scale := by
  unfold qsC k0_pay39 k0_pay38 k0_pay37
  rw [cast_same, cast_same]
  refine congrArg (· * scale) ((mm_pl (φ₁ := .bf16) (φ₂ := .bf16) _ rfl _ _ r n).trans (Finset.sum_congr rfl fun k _ => ?_))
  rw [xb_val H, H.w]

end

/-! ## Loads -/

/-- A load of the band reads the entry its offsets shift to. -/
theorem bM_load {off size : Fin 2 → ℕ} (inb : ∀ a, off a + size a ≤ S1280x2048.size a) (f : Vec Ideal S1280x2048 .bf16) (y : (⟨2, size⟩ : Shape).Idx) :
    ∃ i : S1280x2048.Idx, bM.view.readAt (Elt Ideal) (Rect.unit (s := S1280x2048) off size inb).toLoadRect f y = f i
      ∧ ∀ a, (i a).val = off a + (y a).val :=
  ⟨_, rfl, fun a => by show off a + 1 * (y a).val = _; rw [one_mul]⟩

/-- A load of the global rows reads the entry its offsets shift to. -/
theorem gM_load {off size : Fin 2 → ℕ} (inb : ∀ a, off a + size a ≤ S32x3072.size a) (f : Vec Ideal S32x3072 .bf16) (y : (⟨2, size⟩ : Shape).Idx) :
    ∃ i : S32x3072.Idx, gM.view.readAt (Elt Ideal) (Rect.unit (s := S32x3072) off size inb).toLoadRect f y = f i
      ∧ ∀ a, (i a).val = off a + (y a).val :=
  ⟨_, rfl, fun a => by show off a + 1 * (y a).val = _; rw [one_mul]⟩

/-- A load of the scaled queries reads the entry its offsets shift to. -/
theorem qM_load {off size : Fin 2 → ℕ} (inb : ∀ a, off a + size a ≤ S1024x1024.size a) (f : Vec Ideal S1024x1024 .bf16) (y : (⟨2, size⟩ : Shape).Idx) :
    ∃ i : S1024x1024.Idx, qM.view.readAt (Elt Ideal) (Rect.unit (s := S1024x1024) off size inb).toLoadRect f y = f i
      ∧ ∀ a, (i a).val = off a + (y a).val :=
  ⟨_, rfl, fun a => by show off a + 1 * (y a).val = _; rw [one_mul]⟩

/-- A load of the partial sums reads the entry its offsets shift to. -/
theorem pM_load {off size : Fin 2 → ℕ} (inb : ∀ a, off a + size a ≤ S32x1152.size a) (f : Vec Ideal S32x1152 .f32) (y : (⟨2, size⟩ : Shape).Idx) :
    ∃ i : S32x1152.Idx, pM.view.readAt (Elt Ideal) (Rect.unit (s := S32x1152) off size inb).toLoadRect f y = f i
      ∧ ∀ a, (i a).val = off a + (y a).val :=
  ⟨_, rfl, fun a => by show off a + 1 * (y a).val = _; rw [one_mul]⟩

/-- A load of the received sums reads the entry its offsets shift to. -/
theorem rM_load {off size : Fin 3 → ℕ} (inb : ∀ a, off a + size a ≤ S3x32x1152.size a) (f : Vec Ideal S3x32x1152 .f32) (y : (⟨3, size⟩ : Shape).Idx) :
    ∃ i : S3x32x1152.Idx, rM.view.readAt (Elt Ideal) (Rect.unit (s := S3x32x1152) off size inb).toLoadRect f y = f i
      ∧ ∀ a, (i a).val = off a + (y a).val :=
  ⟨_, rfl, fun a => by show off a + 1 * (y a).val = _; rw [one_mul]⟩

section
variable {A : Ins Ideal} {G : Arrays} (H : Holds A G)
include H

/-! ## What a tile loads -/

/-- A tile's query row. -/
theorem load_q (c : Dev nD) {off size : Fin 2 → ℕ} (inb : ∀ a, off a + size a ≤ S1024x1024.size a) (y : (⟨2, size⟩ : Shape).Idx)
    (i : Fin 4096) (n : Fin 1024) (hi : i.val = 1024 * c.val + (off 0 + (y 0).val)) (hn : n.val = off 1 + (y 1).val) :
    qM.view.readAt (Elt Ideal) (Rect.unit (s := S1024x1024) off size inb).toLoadRect (qsC A c) y = G.q i n * scale := by
  obtain ⟨x, e, hx⟩ := qM_load inb (qsC A c) y
  have h0 := hx 0
  have h1 := hx 1
  have hl := idx2_lt0 x
  rw [e, show x = ix2 ⟨(x 0).val, hl⟩ n from Shape.idx_ext₂ rfl (by rw [h1]; exact hn.symm), qsC_val H]
  exact congrArg (fun a => G.q a n * scale) (Fin.ext (by show 1024 * c.val + (x 0).val = i.val; omega))

/-- A tile's band key. -/
theorem load_k (c : Dev nD) {off size : Fin 2 → ℕ} (inb : ∀ a, off a + size a ≤ S1280x2048.size a) (y : (⟨2, size⟩ : Shape).Idx)
    (j : Fin 4096) (h : Fin 8) (d : Fin 128) (hj : j.val + 128 = 1024 * c.val + (off 0 + (y 0).val))
    (hn : off 1 + (y 1).val = 128 * h.val + d.val) :
    bM.view.readAt (Elt Ideal) (Rect.unit (s := S1280x2048) off size inb).toLoadRect (bandC A c) y = G.k j h d := by
  obtain ⟨x, e, hx⟩ := bM_load inb (bandC A c) y
  rw [e]
  exact band_k H c x j h d (by rw [hx 0]; exact hj) (by rw [hx 1]; exact hn)

/-- A tile's band value. -/
theorem load_v (c : Dev nD) {off size : Fin 2 → ℕ} (inb : ∀ a, off a + size a ≤ S1280x2048.size a) (y : (⟨2, size⟩ : Shape).Idx)
    (j : Fin 4096) (h : Fin 8) (d : Fin 128) (hj : j.val + 128 = 1024 * c.val + (off 0 + (y 0).val))
    (hn : off 1 + (y 1).val = 128 * h.val + 1024 + d.val) :
    bM.view.readAt (Elt Ideal) (Rect.unit (s := S1280x2048) off size inb).toLoadRect (bandC A c) y = G.v j h d := by
  obtain ⟨x, e, hx⟩ := bM_load inb (bandC A c) y
  rw [e]
  exact band_v H c x j h d (by rw [hx 0]; exact hj) (by rw [hx 1]; exact hn)

/-- A tile's global key. -/
theorem load_kg {off size : Fin 2 → ℕ} (inb : ∀ a, off a + size a ≤ S32x3072.size a) (y : (⟨2, size⟩ : Shape).Idx)
    (j : Fin 4096) (h : Fin 8) (d : Fin 128) (hj : j.val = off 0 + (y 0).val)
    (hn : off 1 + (y 1).val = 128 * h.val + d.val) :
    gM.view.readAt (Elt Ideal) (Rect.unit (s := S32x3072) off size inb).toLoadRect (gC A) y = G.k j h d := by
  obtain ⟨x, e, hx⟩ := gM_load inb (gC A) y
  rw [e]
  exact glob_k H x j h d (by rw [hx 0]; exact hj) (by rw [hx 1]; exact hn)

/-- A tile's global value. -/
theorem load_vg {off size : Fin 2 → ℕ} (inb : ∀ a, off a + size a ≤ S32x3072.size a) (y : (⟨2, size⟩ : Shape).Idx)
    (j : Fin 4096) (h : Fin 8) (d : Fin 128) (hj : j.val = off 0 + (y 0).val)
    (hn : off 1 + (y 1).val = 128 * h.val + 1024 + d.val) :
    gM.view.readAt (Elt Ideal) (Rect.unit (s := S32x3072) off size inb).toLoadRect (gC A) y = G.v j h d := by
  obtain ⟨x, e, hx⟩ := gM_load inb (gC A) y
  rw [e]
  exact glob_v H x j h d (by rw [hx 0]; exact hj) (by rw [hx 1]; exact hn)

/-! ## The four tiles -/

/-- Rows 128 to 511. -/
theorem cI1_val (c : Dev nD) (h : Fin 8) (r : Fin 384) (d : Fin 128) (i : Fin 4096) (hi : i.val = 1024 * c.val + 128 + r.val) :
    cI1 A c (t1 h) (ix2 r d) = G.ctx i h d := by
  have hc : c.val < 4 := c.isLt
  have ht : (t1 h).val = h.val := rfl
  refine (tile_I1 _ _ _ _ _ _ _ r d).trans (tile_ctx G i h (1024 * c.val + 128) _ _ _ _ _ _ _ r d hi (by omega) rfl ?_ ?_ ?_ ?_ ?_ ?_ ?_)
  · intro e
    refine load_q H c _ _ i (col h e) ?_ ?_ <;> rw [k0_off3_eq, ht]
    · show i.val = 1024 * c.val + (128 + r.val); omega
    · rfl
  · intro t j hj e
    refine load_k H c _ _ j h e ?_ ?_ <;> rw [k0_off4_eq, ht]
    · show _ = 1024 * c.val + (128 + t.val); omega
    · rfl
  · intro t j hj
    refine load_v H c _ _ j h d ?_ ?_ <;> rw [k0_off5_eq, ht]
    · show _ = 1024 * c.val + (128 + t.val); omega
    · rfl
  · intro g j hj e
    refine load_kg H _ _ j h e ?_ ?_ <;> rw [k0_off6_eq, ht]
    · show _ = 0 + g.val; omega
    · rfl
  · intro g j hj
    refine load_vg H _ _ j h d ?_ ?_ <;> rw [k0_off7_eq, ht]
    · show _ = 0 + g.val; omega
    · rfl
  · intro t
    refine (band_I r t).trans ?_
    omega
  · intro g
    refine (glob_I1 c r g).trans ?_
    omega

/-- Rows 512 to 895. -/
theorem cI2_val (c : Dev nD) (h : Fin 8) (r : Fin 384) (d : Fin 128) (i : Fin 4096) (hi : i.val = 1024 * c.val + 512 + r.val) :
    cI2 A c (t1 h) (ix2 r d) = G.ctx i h d := by
  have hc : c.val < 4 := c.isLt
  have ht : (t1 h).val = h.val := rfl
  refine (tile_I2 _ _ _ _ _ _ _ r d).trans (tile_ctx G i h (1024 * c.val + 512) _ _ _ _ _ _ _ r d hi (by omega) rfl ?_ ?_ ?_ ?_ ?_ ?_ ?_)
  · intro e
    refine load_q H c _ _ i (col h e) ?_ ?_ <;> rw [k0_off8_eq, ht]
    · show i.val = 1024 * c.val + (512 + r.val); omega
    · rfl
  · intro t j hj e
    refine load_k H c _ _ j h e ?_ ?_ <;> rw [k0_off9_eq, ht]
    · show _ = 1024 * c.val + (512 + t.val); omega
    · rfl
  · intro t j hj
    refine load_v H c _ _ j h d ?_ ?_ <;> rw [k0_off10_eq, ht]
    · show _ = 1024 * c.val + (512 + t.val); omega
    · rfl
  · intro g j hj e
    refine load_kg H _ _ j h e ?_ ?_ <;> rw [k0_off6_eq, ht]
    · show _ = 0 + g.val; omega
    · rfl
  · intro g j hj
    refine load_vg H _ _ j h d ?_ ?_ <;> rw [k0_off7_eq, ht]
    · show _ = 0 + g.val; omega
    · rfl
  · intro t
    refine (band_I r t).trans ?_
    omega
  · intro g
    refine (glob_I2 c r g).trans ?_
    omega

/-- Rows 0 to 127, but for the first 32 of the array. -/
theorem cE1_val (c : Dev nD) (h : Fin 8) (r : Fin 128) (d : Fin 128) (i : Fin 4096) (hi : i.val = 1024 * c.val + r.val)
    (h32 : 32 ≤ i.val) : cE1 A c (t2 h) (ix2 r d) = G.ctx i h d := by
  have hc : c.val < 4 := c.isLt
  have ht : (t2 h).val = h.val := rfl
  refine (tile_E1 _ _ _ _ _ _ _ r d).trans (tile_ctx G i h (1024 * c.val) _ _ _ _ _ _ _ r d hi h32 rfl ?_ ?_ ?_ ?_ ?_ ?_ ?_)
  · intro e
    refine load_q H c _ _ i (col h e) ?_ ?_ <;> rw [k0_off11_eq, ht]
    · show i.val = 1024 * c.val + (0 + r.val); omega
    · rfl
  · intro t j hj e
    refine load_k H c _ _ j h e ?_ ?_ <;> rw [k0_off12_eq, ht]
    · show _ = 1024 * c.val + (0 + t.val); omega
    · rfl
  · intro t j hj
    refine load_v H c _ _ j h d ?_ ?_ <;> rw [k0_off13_eq, ht]
    · show _ = 1024 * c.val + (0 + t.val); omega
    · rfl
  · intro g j hj e
    refine load_kg H _ _ j h e ?_ ?_ <;> rw [k0_off14_eq, ht]
    · show _ = 0 + g.val; omega
    · rfl
  · intro g j hj
    refine load_vg H _ _ j h d ?_ ?_ <;> rw [k0_off15_eq, ht]
    · show _ = 0 + g.val; omega
    · rfl
  · intro t
    refine (band_E1 c r t).trans ?_
    omega
  · intro g
    refine (glob_E1 c r g).trans ?_
    omega

/-- Rows 896 to 1023. -/
theorem cE2_val (c : Dev nD) (h : Fin 8) (r : Fin 128) (d : Fin 128) (i : Fin 4096) (hi : i.val = 1024 * c.val + 896 + r.val) :
    cE2 A c (t2 h) (ix2 r d) = G.ctx i h d := by
  have hc : c.val < 4 := c.isLt
  have ht : (t2 h).val = h.val := rfl
  refine (tile_E2 _ _ _ _ _ _ _ r d).trans (tile_ctx G i h (1024 * c.val + 896) _ _ _ _ _ _ _ r d hi (by omega) rfl ?_ ?_ ?_ ?_ ?_ ?_ ?_)
  · intro e
    refine load_q H c _ _ i (col h e) ?_ ?_ <;> rw [k0_off16_eq, ht]
    · show i.val = 1024 * c.val + (896 + r.val); omega
    · rfl
  · intro t j hj e
    refine load_k H c _ _ j h e ?_ ?_ <;> rw [k0_off17_eq, ht]
    · show _ = 1024 * c.val + (896 + t.val); omega
    · rfl
  · intro t j hj
    refine load_v H c _ _ j h d ?_ ?_ <;> rw [k0_off18_eq, ht]
    · show _ = 1024 * c.val + (896 + t.val); omega
    · rfl
  · intro g j hj e
    refine load_kg H _ _ j h e ?_ ?_ <;> rw [k0_off14_eq, ht]
    · show _ = 0 + g.val; omega
    · rfl
  · intro g j hj
    refine load_vg H _ _ j h d ?_ ?_ <;> rw [k0_off15_eq, ht]
    · show _ = 0 + g.val; omega
    · rfl
  · intro t
    refine (band_E2 c r t).trans ?_
    omega
  · intro g
    refine (glob_E2 c r g).trans ?_
    omega

/-! ## The first 32 queries -/

/-- The scaled queries of the first 32 positions, as every device computes them. -/
theorem gq_val (c : Dev nD) (r : Fin 32) (n : Fin 1024) (i : Fin 4096) (hi : i.val = r.val) :
    gq A c (ix2 r n) = G.q i n * scale := by
  unfold gq k0_pay40 k0_pay37
  rw [cast_same]
  refine congrArg (· * scale) ((mm_pl (φ₁ := .bf16) (φ₂ := .bf16) _ rfl _ _ r n).trans (Finset.sum_congr rfl fun k _ => ?_))
  rw [H.w]
  obtain ⟨x, e, hx⟩ := gM_load inb_S32x3072_S32x1024_0_2048 (gC A) (ix2 r k)
  rw [e]
  refine congrArg (· * G.w k n) (glob_x H x i k ?_ ?_)
  · rw [hx 0]
    show i.val = 0 + r.val
    omega
  · rw [hx 1]
    rfl

/-- One exponential of the first 32 queries' scores against device `c`'s keys: a weight, none of these being masked. -/
theorem gexp_val (c : Dev nD) (h : Fin 8) (r : Fin 32) (t : Fin 1024) (i : Fin 4096) (hi : i.val = r.val) :
    gexp (gq A c) h (kH A c h) (ix2 r t) = G.wt i h (row c t) := by
  have hc : c.val < 4 := c.isLt
  unfold Arrays.wt Arrays.score
  rw [if_pos (show Sees i (row c t) from Or.inr (Or.inr (by omega))), ← scale_queries]
  refine congrArg Ideal.exp ((mm_tr (φ₁ := .bf16) (φ₂ := .bf16) _ rfl _ _ r t).trans (Finset.sum_congr rfl fun e _ => ?_))
  refine congrArg₂ (· * ·) ?_ ?_
  · rw [extractStridedSlice_apply ![0, 128 * h.val] (gq A c) (slicesQ h) (ix2 r e) (ix2 r (col h e)) (fun a => by
      match a with
      | ⟨0, _⟩ => show r.val = 0 + r.val; omega
      | ⟨1, _⟩ => rfl)]
    exact gq_val H c r _ i hi
  · refine load_k H c (inbK h) (ix2 t e) (row c t) h e ?_ rfl
    show 1024 * c.val + t.val + 128 = 1024 * c.val + (128 + t.val)
    omega

/-- Device `c`'s weighted sums of the first 32 queries. -/
theorem pnum_val (c : Dev nD) (h : Fin 8) (r : Fin 32) (d : Fin 128) (i : Fin 4096) (hi : i.val = r.val) :
    pnum A c h (ix2 r d) = ∑ t : Fin 1024, G.wt i h (row c t) * G.v (row c t) h d := by
  unfold pnum gnum
  rw [cast_same]
  refine (mm_pl (φ₁ := .bf16) (φ₂ := .bf16) _ rfl _ _ r d).trans (Finset.sum_congr rfl fun t _ => ?_)
  refine congrArg₂ (· * ·) (gexp_val H c h r t i hi) ?_
  refine load_v H c (inbV h) (ix2 t d) (row c t) h d ?_ ?_
  · show 1024 * c.val + t.val + 128 = 1024 * c.val + (128 + t.val)
    omega
  · show 1024 + 128 * h.val + d.val = _
    omega

/-- Device `c`'s plain sums of the first 32 queries, one head. -/
theorem gden_val (c : Dev nD) (h : Fin 8) (r : Fin 32) (i : Fin 4096) (hi : i.val = r.val) :
    gden (gq A c) h (kH A c h) (ix2 r 0) = ∑ t : Fin 1024, G.wt i h (row c t) :=
  (rowsum32_apply _ reduces_S32x1024_S32 (.inl rfl) rfl shapeCasts_S32_S32x1 r).trans
    (Finset.sum_congr rfl fun t _ => gexp_val H c h r t i hi)

/-- Device `c`'s plain sums of the first 32 queries, the heads side by side. -/
theorem pden_val (c : Dev nD) (h : Fin 8) (r : Fin 32) (i : Fin 4096) (hi : i.val = r.val) :
    pden A c (ix2 r h) = ∑ t : Fin 1024, G.wt i h (row c t) := by
  rw [← gden_val H c h r i hi]
  unfold pden k0_pay66
  rw [cast_same]
  refine concatenate_ofFn_unit_apply (t := S32x8) (s₁ := S32x1) 1 (N := 8) (fun n => gden (gq A c) n (kH A c n)) _ rfl rfl (ix2 r h) h rfl (ix2 r 0) ?_
  intro b hb
  match b with
  | ⟨0, _⟩ => rfl
  | ⟨1, _⟩ => exact absurd rfl hb

/-- The weighted sums in the buffer of partial sums. -/
theorem ps_num_val (c : Dev nD) (x : S32x1152.Idx) (h : Fin 8) (r : Fin 32) (d : Fin 128) (i : Fin 4096) (hi : i.val = r.val)
    (h0 : (x 0).val = r.val) (h1 : (x 1).val = 128 * h.val + d.val) :
    psC A c x = ∑ t : Fin 1024, G.wt i h (row c t) * G.v (row c t) h d := by
  rw [← pnum_val H c h r d i hi]
  unfold psC
  rw [dif_pos (by omega)]
  have e1 : (⟨(x 1).val / 128, by omega⟩ : Fin 8) = h := Fin.ext (by show (x 1).val / 128 = h.val; omega)
  rw [e1]
  exact congrArg _ (Shape.idx_ext₂ h0 (by show (x 1).val % 128 = d.val; omega))

/-- The plain sums in the buffer of partial sums. -/
theorem ps_den_val (c : Dev nD) (x : S32x1152.Idx) (h : Fin 8) (r : Fin 32) (i : Fin 4096) (hi : i.val = r.val)
    (h0 : (x 0).val = r.val) (h1 : (x 1).val = 1024 + h.val) : psC A c x = ∑ t : Fin 1024, G.wt i h (row c t) := by
  rw [← pden_val H c h r i hi]
  unfold psC
  rw [dif_neg (by omega), dif_pos (by omega)]
  exact congrArg _ (Shape.idx_ext₂ h0 (by show (x 1).val - 1024 = h.val; omega))

/-- Device 0's own weighted sums, as it loads them. -/
theorem n0_val (h : Fin 8) (r : Fin 32) (d : Fin 128) (i : Fin 4096) (hi : i.val = r.val) :
    n0 A h (ix2 r d) = ∑ t : Fin 1024, G.wt i h (row 0 t) * G.v (row 0 t) h d := by
  obtain ⟨x, e, hx⟩ := pM_load (inbPn h) (psC A 0) (ix2 r d)
  exact e.trans (ps_num_val H 0 x h r d i hi (by rw [hx 0]; show 0 + r.val = _; omega) (by rw [hx 1]; rfl))

/-- Device 0's own plain sums, as it loads them. -/
theorem s0_val (h : Fin 8) (r : Fin 32) (i : Fin 4096) (hi : i.val = r.val) :
    s0 A h (ix2 r 0) = ∑ t : Fin 1024, G.wt i h (row 0 t) := by
  obtain ⟨x, e, hx⟩ := pM_load (inbPs h) (psC A 0) (ix2 r 0)
  exact e.trans (ps_den_val H 0 x h r i hi (by rw [hx 0]; show 0 + r.val = _; omega) (by rw [hx 1]; rfl))

/-- Device `j + 1`'s weighted sums, as device 0 loads them. -/
theorem nR_val (j : Fin 3) (c : Dev nD) (hc : c.val = j.val + 1) (h : Fin 8) (r : Fin 32) (d : Fin 128) (i : Fin 4096) (hi : i.val = r.val) :
    nR A j h (ix3 0 r d) = ∑ t : Fin 1024, G.wt i h (row c t) * G.v (row c t) h d := by
  obtain ⟨x, e, hx⟩ := rM_load (inbRn j h) (pvC A) (ix3 0 r d)
  have hc' : (⟨(x 0).val + 1, by have : (x 0).val < 3 := (x 0).isLt; show _ < 4; omega⟩ : Dev nD) = c :=
    Fin.ext (by show (x 0).val + 1 = c.val; rw [hx 0, hc]; rfl)
  refine e.trans ?_
  unfold pvC
  rw [hc']
  exact ps_num_val H c _ h r d i hi (by show (x 1).val = _; rw [hx 1]; show 0 + r.val = _; omega) (by show (x 2).val = _; rw [hx 2]; rfl)

/-- Device `j + 1`'s plain sums, as device 0 loads them. -/
theorem sR_val (j : Fin 3) (c : Dev nD) (hc : c.val = j.val + 1) (h : Fin 8) (r : Fin 32) (i : Fin 4096) (hi : i.val = r.val) :
    sR A j h (ix3 0 r 0) = ∑ t : Fin 1024, G.wt i h (row c t) := by
  obtain ⟨x, e, hx⟩ := rM_load (inbRs j h) (pvC A) (ix3 0 r 0)
  have hc' : (⟨(x 0).val + 1, by have : (x 0).val < 3 := (x 0).isLt; show _ < 4; omega⟩ : Dev nD) = c :=
    Fin.ext (by show (x 0).val + 1 = c.val; rw [hx 0, hc]; rfl)
  refine e.trans ?_
  unfold pvC
  rw [hc']
  exact ps_den_val H c _ h r i hi (by show (x 1).val = _; rw [hx 1]; show 0 + r.val = _; omega) (by show (x 2).val = _; rw [hx 2]; rfl)

omit H in
/-- A sum over all positions, device by device. -/
theorem sum_devices (f : Fin 4096 → EReal) :
    ∑ j, f j = (∑ t, f (row 0 t)) + (∑ t, f (row 1 t)) + (∑ t, f (row 2 t)) + ∑ t, f (row 3 t) := by
  rw [← Fin.sum_univ_four (fun c : Fin 4 => ∑ t, f (row c t)), ← Fintype.sum_prod_type' (fun (c : Fin 4) (t : Fin 1024) => f (row c t))]
  refine (Fintype.sum_equiv (finProdFinEquiv (m := 4) (n := 1024)) _ _ fun p => congrArg f (Fin.ext ?_)).symm
  show 1024 * p.1.val + p.2.val = p.2.val + 1024 * p.1.val
  omega

/-- The context of the first 32 queries: the four devices' weighted sums over their plain sums. -/
theorem cG_val (h : Fin 8) (r : Fin 32) (d : Fin 128) (i : Fin 4096) (hi : i.val = r.val) : cG A h (ix2 r d) = G.ctx i h d := by
  unfold Arrays.ctx
  rw [sum_devices, sum_devices, ← n0_val H h r d i hi, ← s0_val H h r i hi, ← nR_val H 0 1 rfl h r d i hi, ← nR_val H 1 2 rfl h r d i hi,
    ← nR_val H 2 3 rfl h r d i hi, ← sR_val H 0 1 rfl h r i hi, ← sR_val H 1 2 rfl h r i hi, ← sR_val H 2 3 rfl h r i hi]
  unfold cG k0_pay24
  refine (quot_apply _ _ broadcasts_S32x1_S32x128 bitsLt_bf16_f32 shapeCasts_S32x128_S32x128 (by decide) r d).trans ?_
  simp only [addf_apply, shapeCast_1ab_ab_apply]

/-! ## The result -/

/-- The context the output projection reads is the attention's. -/
theorem cC_val (c : Dev nD) (r q : Fin 1024) : cC A c (ix2 r q) = G.ctx (row c r) (headOf q) (featOf q) := by
  have hc : c.val < 4 := c.isLt
  by_cases h0 : c = 0 ∧ r.val < 32
  · have e : cC A c (ix2 r q) = cG A (headOf q) (ix2 ⟨r.val, h0.2⟩ (featOf q)) := by unfold cC; rw [dif_pos h0]; rfl
    rw [e]
    refine cG_val H _ _ _ _ ?_
    show 1024 * c.val + r.val = r.val
    have : c.val = 0 := congrArg Fin.val h0.1
    omega
  · have h32 : 32 ≤ (row c r).val := by
      show 32 ≤ 1024 * c.val + r.val
      by_cases hz : c = 0
      · have : ¬ r.val < 32 := fun h => h0 ⟨hz, h⟩
        omega
      · have : c.val ≠ 0 := fun h => hz (Fin.ext h)
        omega
    have e : cC A c (ix2 r q) = cL A c (ix2 r q) := by unfold cC; rw [dif_neg h0]
    rw [e]
    by_cases h1 : r.val < 128
    · have e : cL A c (ix2 r q) = cE1 A c (t2 (headOf q)) (ix2 ⟨r.val, h1⟩ (featOf q)) := by unfold cL; dsimp only; rw [dif_pos h1]; rfl
      rw [e]
      exact cE1_val H c _ _ _ _ rfl h32
    · by_cases h2 : r.val < 512
      · have e : cL A c (ix2 r q) = cI1 A c (t1 (headOf q)) (ix2 ⟨r.val - 128, by omega⟩ (featOf q)) := by
          unfold cL; dsimp only; rw [dif_neg h1, dif_pos h2]; rfl
        rw [e]
        refine cI1_val H c _ _ _ _ ?_
        show 1024 * c.val + r.val = 1024 * c.val + 128 + (r.val - 128)
        omega
      · by_cases h3 : r.val < 896
        · have e : cL A c (ix2 r q) = cI2 A c (t1 (headOf q)) (ix2 ⟨r.val - 512, by omega⟩ (featOf q)) := by
            unfold cL; dsimp only; rw [dif_neg h1, dif_neg h2, dif_pos h3]; rfl
          rw [e]
          refine cI2_val H c _ _ _ _ ?_
          show 1024 * c.val + r.val = 1024 * c.val + 512 + (r.val - 512)
          omega
        · have e : cL A c (ix2 r q) = cE2 A c (t2 (headOf q)) (ix2 ⟨r.val - 896, by omega⟩ (featOf q)) := by
            unfold cL; dsimp only; rw [dif_neg h1, dif_neg h2, dif_neg h3]; rfl
          rw [e]
          refine cE2_val H c _ _ _ _ ?_
          show 1024 * c.val + r.val = 1024 * c.val + 896 + (r.val - 896)
          omega

/-- Every entry of the kernel's result on device `c` is the attention's at that device's row. -/
theorem outC_val (c : Dev nD) (r n : Fin 1024) : outC A c (ix3 0 r n) = G.out (row c r) n := by
  unfold outC k0_pay80
  rw [shapeCast_ab_1ab_apply, cast_same]
  refine (mm_pl (φ₁ := .bf16) (φ₂ := .bf16) _ rfl _ _ r n).trans (Finset.sum_congr rfl fun q _ => ?_)
  exact congrArg₂ (· * ·) (cC_val H c r q) (H.o c q n)

end

end Cert.KProof
-- ==== Proof.RefVal.lean ====
/-
The reference's result is the attention of Spec.lean, when the tokens, the query projection and the keys are real
numbers: then every score is real, so is the maximum each row subtracts, and the row's softmax is the plain quotient.
Nothing is asked of the values or of the output projection.
-/
module

public import proofs.«01_k».proof.Proof.Gen.ReferenceIdeal.Read
public import proofs.«01_k».proof.Proof.KerOps
public import Idealize.ShloMosaic.Lib.SortNet.Extract

@[expose] public section

noncomputable section

open scoped BigOperators

namespace Cert.RProof

open Cert.ReferenceIdeal Cert.ReferenceIdeal.Gen Cert.ReferenceIdeal.Read Cert.Att
open Idealize.ShloMosaic hiding ix1 ix2 ix3 ix4
open Idealize.ShloMosaic.ValueIdx

/-! ## The mask -/

/-- The absolute value of a small signed word is that of its integer. -/
theorem absi_int (x : BitVec 32) (hx : -(2 ^ 30) ≤ x.toInt ∧ x.toInt < 2 ^ 30) : (IntOp.absi x).toInt = |x.toInt| := by
  unfold IntOp.absi
  rw [BitVec.msb_eq_toInt]
  by_cases h : x.toInt < 0
  · rw [if_pos (by simpa using h), BitVec.toInt_neg, Int.bmod_eq_of_le (by omega) (by omega), abs_of_neg h]
  · rw [if_neg (by simpa using h), abs_of_nonneg (by omega)]

/-- The reference's mask on index words. -/
theorem mask_words (i j : Fin 4096) :
    IntOp.ori (IntOp.cmpi .sle (IntOp.absi (IntOp.subi (BitVec.ofNat 32 i.val) (BitVec.ofNat 32 j.val))) 128#32)
      (IntOp.ori (IntOp.cmpi .slt (BitVec.ofNat 32 j.val) 32#32) (IntOp.cmpi .slt (BitVec.ofNat 32 i.val) 32#32)) = 1#1 ↔ Sees i j := by
  have hi := i.isLt
  have hj := j.isLt
  have e1 := KProof.idx_int i.val (by omega)
  have e2 := KProof.idx_int j.val (by omega)
  have e3 := KProof.subi_int (BitVec.ofNat 32 i.val) (BitVec.ofNat 32 j.val) (by omega) (by omega)
  rw [KProof.ori_one, KProof.ori_one, KProof.sle_one, KProof.slt_one, KProof.slt_one, absi_int _ (by omega), e3, e1, e2,
    show (128#32).toInt = 128 from rfl, show (32#32).toInt = 32 from rfl, abs_le]
  unfold Sees
  omega

/-- The reference's mask bit is set where the query sees the key. -/
theorem mask_val (i j : Fin 4096) : val_main_v22 (F := Ideal) (ix2 i j) = 1#1 ↔ Sees i j := by
  refine Iff.trans (iff_of_eq (congrArg (· = 1#1) ?_)) (mask_words i j)
  rw [val_main_v22_apply, val_main_v14_apply, val_main_v12_apply, val_main_v11_apply, val_main_v9_apply, val_main_v6_apply, val_main_v5_apply,
    val_main_v10_apply, val_main_v8_apply, val_main_v7_apply, val_main_v13_apply, val_main_c_apply, val_main_v21_apply, val_main_v19_apply,
    val_main_v16_apply, val_main_v8_apply, val_main_v7_apply, val_main_v15_apply, val_main_c_0_apply, val_main_v20_apply, val_main_v18_apply,
    val_main_v6_apply, val_main_v5_apply, val_main_v17_apply, val_main_c_1_apply]

/-! ## Two reductions that are folds -/

/-- An index is among those a reduction runs over for the result index it drops to. -/
theorem mem_fiber {s t : Shape} {axes : List (Fin s.rank)} (h : s.ReducesTo axes t) (i : s.Idx) (j : t.Idx) (hi : h.drop i = j) :
    i ∈ (((List.finRange s.numel).map s.rowMajor.symm).filter fun i => h.drop i = j) := by
  rw [List.mem_filter]
  exact ⟨List.mem_map.2 ⟨s.rowMajor i, List.mem_finRange _, Equiv.symm_apply_apply _ _⟩, by simp [hi]⟩

/-- A disjunction over a list is 1 when it starts from 1 or meets one. -/
theorem fold_ori {ι : Type} (f : ι → BitVec 1) : ∀ (l : List ι) (z : BitVec 1), (z = 1#1 ∨ ∃ n ∈ l, f n = 1#1) →
    l.foldl (fun r n => IntOp.ori r (f n)) z = 1#1
  | [], _, h => h.elim id fun ⟨_, hn, _⟩ => absurd hn List.not_mem_nil
  | a :: l, z, h => by
    refine fold_ori f l _ ?_
    rw [KProof.ori_one]
    rcases h with h | ⟨n, hn, h⟩
    · exact Or.inl (Or.inl h)
    · rcases List.mem_cons.1 hn with rfl | hn
      · exact Or.inl (Or.inr h)
      · exact Or.inr ⟨n, hn, h⟩

/-- A query sees itself. -/
theorem sees_self (i : Fin 4096) : Sees i i := Or.inl ⟨by omega, by omega⟩

/-- Every query sees some key. -/
theorem valid_val (i : Fin 4096) : val_main_v37 (F := Ideal) (ix1 i) = 1#1 := by
  unfold val_main_v37
  rw [Host.reduce_eq_foldl]
  refine fold_ori _ _ _ (Or.inr ⟨ix2 i i, mem_fiber _ _ _ ?_, (mask_val i i).2 (sees_self i)⟩)
  funext b
  match b with
  | ⟨0, _⟩ => exact Fin.ext (Shape.ReducesTo.drop_apply_val_of_eq reducesTo_S4096x4096_S4096_d1 (ix2 i i) 0 0 (by decide) (by decide))

/-! ## The scores -/

section
variable (x0 : (⟨S1x4096x1024, .bf16⟩ : BufTy).Contents (Elt Ideal)) (x1 : (⟨S1024x1024, .bf16⟩ : BufTy).Contents (Elt Ideal))
  (x2 x3 : (⟨S1x4096x8x128, .bf16⟩ : BufTy).Contents (Elt Ideal)) (x4 : (⟨S1024x1024, .bf16⟩ : BufTy).Contents (Elt Ideal))

/-- The five arguments as the arrays of Spec.lean. -/
def whole : Arrays :=
  ⟨fun i k => x0 (ix3 0 i k), fun k n => x1 (ix2 k n), fun i h d => x2 (ix4 0 i h d), fun i h d => x3 (ix4 0 i h d), fun k n => x4 (ix2 k n)⟩

/-- The scaled scores. -/
theorem score_val (h : Fin 8) (i j : Fin 4096) :
    val_main_v29 (F := Ideal) x0 x1 x2 (ix4 0 h i j) = (whole x0 x1 x2 x3 x4).score i h j := by
  rw [val_main_v29_apply, val_main_v27_apply, val_main_v26_apply, val_main_v25_apply, val_main_v28_apply, val_main_cst_apply]
  refine congrArg (· * scale) (Finset.sum_congr rfl fun d _ => ?_)
  rw [val_main_v23_apply, val_main_v4_apply, val_main_v3_apply, val_main_v2_apply, val_main_v24_apply]
  refine congrArg₂ (· * ·) (Finset.sum_congr rfl fun k _ => ?_) ?_
  · rw [val_main_v0_apply, val_main_v1_apply]
    refine congrArg₂ (· * ·) (congrArg x0 (funext fun a => ?_)) (congrArg x1 (funext fun a => ?_))
    · match a with
      | ⟨0, _⟩ => rfl
      | ⟨1, _⟩ => exact Fin.ext (by show (((0 * 4096 + i.val) * 8 + h.val) * 128 + d.val) / 1024 % 4096 = i.val; omega)
      | ⟨2, _⟩ => rfl
    · match a with
      | ⟨0, _⟩ => rfl
      | ⟨1, _⟩ => exact Fin.ext (by show (((0 * 4096 + i.val) * 8 + h.val) * 128 + d.val) % 1024 = 128 * h.val + d.val; omega)
  · refine congrArg x2 (funext fun a => ?_)
    match a with
    | ⟨0, _⟩ => rfl
    | ⟨1, _⟩ => rfl
    | ⟨2, _⟩ => rfl
    | ⟨3, _⟩ => rfl

/-- The masked scores: −∞ where the query does not see the key. -/
theorem masked_val (h : Fin 8) (i j : Fin 4096) :
    val_main_v31 (F := Ideal) x0 x1 x2 (ix4 0 h i j) = if Sees i j then (whole x0 x1 x2 x3 x4).score i h j else ⊥ := by
  have hb : Ideal.ofBits .f32 0xFF800000#32 = ⊥ := by simp [Ideal.ofBits, Ideal.ieee]
  have hm : val_main_call0_v1 (F := Ideal) (ix4 0 h i j) = val_main_v22 (F := Ideal) (ix2 i j) := by
    rw [val_main_call0_v1_apply, val_main_v30_apply]
    refine congrArg _ (funext fun a => ?_)
    match a with
    | ⟨0, _⟩ => rfl
    | ⟨1, _⟩ => rfl
  rw [val_main_v31_apply, hm, score_val x0 x1 x2 x3 x4, val_main_call0_v2_apply, val_main_call0_v0_apply, val_main_cst_2_apply]
  by_cases hs : Sees i j
  · rw [if_pos hs, (mask_val i j).2 hs]
    rfl
  · rw [if_neg hs, show val_main_v22 (F := Ideal) (ix2 i j) = 0#1 from by
      have hne := fun e => hs ((mask_val i j).1 e)
      revert hne
      generalize val_main_v22 (F := Ideal) (ix2 i j) = b
      revert b
      decide]
    exact hb

/-! ## The softmax -/

/-- The entries of an array are real numbers. -/
structure Real3 (G : Arrays) : Prop where
  /-- The tokens. -/
  x : ∀ i k, ∃ r : ℝ, G.x i k = r
  /-- The query projection. -/
  w : ∀ k n, ∃ r : ℝ, G.w k n = r
  /-- The keys. -/
  k : ∀ i h d, ∃ r : ℝ, G.k i h d = r

/-- Real tokens, projection and keys make real scores. -/
theorem score_real {G : Arrays} (R : Real3 G) (i : Fin 4096) (h : Fin 8) (j : Fin 4096) : ∃ r : ℝ, G.score i h j = r := by
  choose x hx using R.x
  choose w hw using R.w
  choose k hk using R.k
  obtain ⟨c, -, hc⟩ := scale_real
  have hq : ∀ n, G.q i n = ((∑ m, x i m * w m n : ℝ) : EReal) := fun n => by
    unfold Arrays.q
    rw [← sum_real]
    exact Finset.sum_congr rfl fun m _ => by rw [hx, hw, EReal.coe_mul]
  refine ⟨(∑ d, (∑ m, x i m * w m (col h d)) * k j h d) * c, ?_⟩
  unfold Arrays.score
  rw [hc, EReal.coe_mul, ← sum_real]
  refine congrArg (· * (c : EReal)) (Finset.sum_congr rfl fun d _ => ?_)
  rw [hq, hk, EReal.coe_mul]

variable (R : Real3 (whole x0 x1 x2 x3 x4))
include R

/-- The maximum each row subtracts is real: the row's own key is not masked, and no score is infinite. -/
theorem max_real (h : Fin 8) (i : Fin 4096) : ∃ m : ℝ, val_main_v32 (F := Ideal) x0 x1 x2 (ix3 0 h i) = (m : EReal) := by
  have hb : Ideal.ofBits .f32 0xFF800000#32 = ⊥ := by simp [Ideal.ofBits, Ideal.ieee]
  have hall : ∀ r : S1x8x4096x4096.Idx, val_main_v31 (F := Ideal) x0 x1 x2 r ≠ (⊤ : EReal) := fun r => by
    have hr : ∃ (h : Fin 8) (i j : Fin 4096), r = ix4 0 h i j := by
      refine ⟨r 1, r 2, r 3, ?_⟩
      funext a
      match a with
      | ⟨0, _⟩ => exact Subsingleton.elim (α := Fin 1) _ _
      | ⟨1, _⟩ => rfl
      | ⟨2, _⟩ => rfl
      | ⟨3, _⟩ => rfl
    obtain ⟨h, i, j, rfl⟩ := hr
    rw [masked_val x0 x1 x2 x3 x4]
    obtain ⟨s, hs⟩ := score_real R i h j
    split_ifs
    · rw [hs]
      exact EReal.coe_ne_top s
    · exact bot_ne_top
  unfold val_main_v32
  rw [Host.reduce_eq_foldl]
  generalize hl : ((List.finRange S1x8x4096x4096.numel).map S1x8x4096x4096.rowMajor.symm).filter
    (fun r => reducesTo_S1x8x4096x4096_S1x8x4096_d3.drop r = ix3 0 h i) = l
  have hm : (ix4 0 h i i : S1x8x4096x4096.Idx) ∈ l := by
    rw [← hl]
    refine mem_fiber _ _ _ (funext fun b => ?_)
    match b with
    | ⟨0, _⟩ => exact Fin.ext (Shape.ReducesTo.drop_apply_val_of_eq reducesTo_S1x8x4096x4096_S1x8x4096_d3 (ix4 0 h i i) 0 0 (by decide) (by decide))
    | ⟨1, _⟩ => exact Fin.ext (Shape.ReducesTo.drop_apply_val_of_eq reducesTo_S1x8x4096x4096_S1x8x4096_d3 (ix4 0 h i i) 1 1 (by decide) (by decide))
    | ⟨2, _⟩ => exact Fin.ext (Shape.ReducesTo.drop_apply_val_of_eq reducesTo_S1x8x4096x4096_S1x8x4096_d3 (ix4 0 h i i) 2 2 (by decide) (by decide))
  have e0 : (val_main_cst_3 (F := Ideal) (Shape.Idx.first h_S_) : EReal) = ⊥ := hb
  show ∃ m : ℝ, l.foldl (fun acc r => max acc (val_main_v31 (F := Ideal) x0 x1 x2 r : EReal)) (val_main_cst_3 (F := Ideal) (Shape.Idx.first h_S_) : EReal) = m
  rw [e0]
  obtain ⟨s, hs⟩ := score_real R i h i
  have hlow := (SortNet.le_foldl_max (fun r => (val_main_v31 (F := Ideal) x0 x1 x2 r : EReal)) l (⊥ : EReal)).2 _ hm
  rw [masked_val x0 x1 x2 x3 x4, if_pos (sees_self i), hs] at hlow
  refine ⟨_, (EReal.coe_toReal ?_ ?_).symm⟩
  · rcases SortNet.foldl_max_mem (fun r => (val_main_v31 (F := Ideal) x0 x1 x2 r : EReal)) l (⊥ : EReal) with e | ⟨r, -, e⟩
    · rw [e]
      exact bot_ne_top
    · rw [e]
      exact hall r
  · intro e
    rw [e] at hlow
    exact EReal.coe_ne_bot s (le_bot_iff.mp hlow)

/-- One weight of the softmax. -/
theorem weight_val (h : Fin 8) (i j : Fin 4096) (m : ℝ) (hm : val_main_v32 (F := Ideal) x0 x1 x2 (ix3 0 h i) = (m : EReal)) :
    val_main_v45 (F := Ideal) x0 x1 x2 (ix4 0 h i j)
      = Ideal.div (Ideal.exp ((if Sees i j then (whole x0 x1 x2 x3 x4).score i h j else ⊥) - (m : EReal)))
        (∑ k, Ideal.exp ((if Sees i k then (whole x0 x1 x2 x3 x4).score i h k else ⊥) - (m : EReal))) := by
  have he : ∀ k, val_main_v36 (F := Ideal) x0 x1 x2 (ix4 0 h i k)
      = Ideal.exp ((if Sees i k then (whole x0 x1 x2 x3 x4).score i h k else ⊥) - (m : EReal)) := fun k => by
    have hv : val_main_v34 (F := Ideal) x0 x1 x2 (ix4 0 h i k) = val_main_v32 (F := Ideal) x0 x1 x2 (ix3 0 h i) := by
      rw [val_main_v34_apply, val_main_v33_apply]
      refine congrArg _ (funext fun a => ?_)
      match a with
      | ⟨0, _⟩ => rfl
      | ⟨1, _⟩ => rfl
      | ⟨2, _⟩ => rfl
    rw [val_main_v36_apply, val_main_v35_apply, hv, hm, masked_val x0 x1 x2 x3 x4]
    rfl
  have hone : ∀ a : S4096.Idx, (a 0).val = i.val → val_main_v37 (F := Ideal) a = 1#1 := fun a ha => by
    rw [show a = ix1 i from funext fun b => by
      match b with
      | ⟨0, _⟩ => exact Fin.ext ha]
    exact valid_val i
  have h1 : val_main_call2_v1 (F := Ideal) (ix4 0 h i j) = 1#1 := by
    rw [val_main_call2_v1_apply, val_main_v44_apply]
    exact hone _ rfl
  have h2 : val_main_call1_v1 (F := Ideal) (idx_main_v42 (ix4 0 h i j)) = 1#1 := by
    rw [val_main_call1_v1_apply, val_main_v38_apply]
    exact hone _ rfl
  have h3 : val_main_v40 (F := Ideal) x0 x1 x2 (idx_main_v42 (ix4 0 h i j))
      = ∑ k, Ideal.exp ((if Sees i k then (whole x0 x1 x2 x3 x4).score i h k else ⊥) - (m : EReal)) := by
    rw [val_main_v40_apply, val_main_v39_apply, val_main_cst_5_apply]
    refine (congrArg (· + _) (show (FloatOps.ofBits .f32 0x00000000#32 : Ideal .f32) = (0 : EReal) from Ideal.ofBits_zero_f32)).trans
      ((zero_add _).trans (Finset.sum_congr rfl fun k _ => ?_))
    rw [← he k]
    refine congrArg _ (funext fun a => ?_)
    match a with
    | ⟨0, _⟩ => rfl
    | ⟨1, _⟩ => rfl
    | ⟨2, _⟩ => rfl
    | ⟨3, _⟩ => rfl
  rw [val_main_v45_apply, h1, val_main_v43_apply, val_main_v42_apply, val_main_v41_apply, h2, h3, he j]
  rfl

/-- The context: each row's softmax against the values is the quotient of the two plain sums. -/
theorem ctx_val (i : Fin 4096) (h : Fin 8) (d : Fin 128) :
    val_main_v47 (F := Ideal) x0 x1 x2 x3 (ix4 0 h d i) = (whole x0 x1 x2 x3 x4).ctx i h d := by
  obtain ⟨m, hm⟩ := max_real x0 x1 x2 x3 x4 R h i
  choose s hs using fun j => score_real R i h j
  rw [val_main_v47_apply]
  unfold Arrays.ctx Arrays.wt
  simp only [hs]
  rw [← softmax_quot (Sees i) s m _ ⟨i, sees_self i⟩]
  refine Finset.sum_congr rfl fun j _ => congrArg₂ (· * ·) ?_ ?_
  · rw [val_main_v46_apply]
    refine congrArg x3 (funext fun a => ?_)
    match a with
    | ⟨0, _⟩ => rfl
    | ⟨1, _⟩ => rfl
    | ⟨2, _⟩ => rfl
    | ⟨3, _⟩ => rfl
  · refine Eq.trans (congrArg _ (funext fun a => ?_)) ((weight_val x0 x1 x2 x3 x4 R h i j m hm).trans (by simp only [hs]))
    match a with
    | ⟨0, _⟩ => rfl
    | ⟨1, _⟩ => rfl
    | ⟨2, _⟩ => rfl
    | ⟨3, _⟩ => rfl

/-- Every entry of the reference's result is the attention's. -/
theorem out_val (i : Fin 4096) (n : Fin 1024) :
    val_main_v51 (F := Ideal) x0 x1 x2 x3 x4 (ix3 0 i n) = (whole x0 x1 x2 x3 x4).out i n := by
  rw [val_main_v51_apply]
  refine Finset.sum_congr rfl fun c _ => congrArg₂ (· * ·) ?_ ?_
  · rw [val_main_v49_apply, val_main_v48_apply, ← ctx_val x0 x1 x2 x3 x4 R i (headOf c) (featOf c)]
    have hc := c.isLt
    refine congrArg _ (funext fun a => ?_)
    match a with
    | ⟨0, _⟩ => rfl
    | ⟨1, _⟩ => exact Fin.ext (by show ((0 * 4096 + i.val) * 1024 + c.val) / 128 % 8 = c.val / 128; omega)
    | ⟨2, _⟩ => exact Fin.ext (by show ((0 * 4096 + i.val) * 1024 + c.val) % 128 = c.val % 128; omega)
    | ⟨3, _⟩ => exact Fin.ext (by show ((0 * 4096 + i.val) * 1024 + c.val) / 1024 % 4096 = i.val; omega)
  · rw [val_main_v50_apply]
    refine congrArg x4 (funext fun a => ?_)
    match a with
    | ⟨0, _⟩ => rfl
    | ⟨1, _⟩ => rfl

end

end Cert.RProof
-- ==== Proof.Algebraic.lean ====
/-
The value claim: on finite tokens, query projection and keys, every device's result block is its block of the
reference's result. Both are the attention of Spec.lean over the reference's arguments.
-/
module

public import proofs.«01_k».proof.Defs
public import proofs.«01_k».proof.Proof.Frames
public import proofs.«01_k».proof.Proof.KerVal
public import proofs.«01_k».proof.Proof.RefVal
public import proofs.«01_k».proof.Proof.Gen.Pre_finite_KernelIdeal
public import proofs.«01_k».proof.Proof.Gen.Pre_finite_ReferenceIdeal
public import Idealize.ShloMosaic.Lib.ReduceAll
public import Idealize.ShloMosaic.Lib.KernelVsHost

@[expose] public section

noncomputable section

namespace Cert.KProof

open Cert.KernelIdeal Cert.KernelIdeal.Gen Cert.Att
open Idealize.ShloMosaic hiding ix1 ix2 ix3 ix4
open Idealize.ShloMosaic.ValueIdx
open Idealize.SL.Sem

/-! ## The precondition -/

/-- A value whose absolute value is below +∞ is a real number. -/
theorem real_of_finite (x : EReal)
    (h : FloatOps.cmpf .olt (FloatOps.hostAbsf (F := Ideal) (φ := .f32) x) (FloatOps.ofBits (F := Ideal) .f32 0x7F800000#32) = 1#1) :
    ∃ r : ℝ, x = r := by
  rw [← Ideal.xori_weird_eq_hostAbsf_olt_inf] at h
  have hw : ¬(x = ⊤ ∨ x = ⊥) := fun hx => by
    have e : FloatOps.weird (F := Ideal) x = 1#1 := by
      show BitVec.ofBool (decide (x = ⊤ ∨ x = ⊥)) = 1#1
      rw [decide_eq_true hx]
      rfl
    rw [e] at h
    exact absurd h (by decide)
  exact ⟨x.toReal, (EReal.coe_toReal (fun e => hw (Or.inl e)) (fun e => hw (Or.inr e))).symm⟩

/-- Where the precondition holds, the tokens, the query projection and the keys are real. -/
theorem finite_real (x : FVec Ideal S1x1024x1024 .bf16) (w : FVec Ideal S1024x1024 .bf16) (k v : FVec Ideal S1x1024x8x128 .bf16)
    (o : FVec Ideal S1024x1024 .bf16) (h : Cert.Pre_finite_KernelIdeal.fn (F := Ideal) x w k v o = fun _ => 1#1) :
    (∀ i, ∃ r : ℝ, x i = (r : EReal)) ∧ (∀ i, ∃ r : ℝ, w i = (r : EReal)) ∧ ∀ i, ∃ r : ℝ, k i = (r : EReal) := by
  have hs : Subsingleton Cert.Pre_finite_KernelIdeal.S_.Idx := ⟨fun a b => funext fun e => e.elim0⟩
  have h0 := congrFun h (fun e => e.elim0)
  obtain ⟨h12, h3⟩ := (andi_one _ _).1 h0
  obtain ⟨h1, h2⟩ := (andi_one _ _).1 h12
  exact ⟨fun i => real_of_finite (x i) (Host.reduce_andi_all _ _ _ _ _ h1 i), fun i => real_of_finite (w i) (Host.reduce_andi_all _ _ _ _ _ h2 i),
    fun i => real_of_finite (k i) (Host.reduce_andi_all _ _ _ _ _ h3 i)⟩

/-! ## Blocks -/

/-- Where an entry of a block of three axes is in the whole array. -/
theorem block_three {α : Type} (f : (⟨3, ![1, 4096, 1024]⟩ : Shape).Idx → α) (c : Dev nD) (r k : Fin 1024) :
    Layout.block ⟨3, ![1, 1024, 1024]⟩ ⟨3, ![1, 4096, 1024]⟩ 1 4 c f (by decide) (ix3 0 r k) = f (ix3 0 (row c r) k) := by
  rw [Layout.block_apply]
  refine congrArg f (funext fun a => ?_)
  match a with
  | ⟨0, _⟩ => rfl
  | ⟨1, _⟩ => exact Fin.ext (by show c.val * 1024 + r.val = 1024 * c.val + r.val; omega)
  | ⟨2, _⟩ => rfl

/-- Where an entry of a block of four axes is in the whole array. -/
theorem block_four {α : Type} (f : (⟨4, ![1, 4096, 8, 128]⟩ : Shape).Idx → α) (c : Dev nD) (r : Fin 1024) (h : Fin 8) (d : Fin 128) :
    Layout.block ⟨4, ![1, 1024, 8, 128]⟩ ⟨4, ![1, 4096, 8, 128]⟩ 1 4 c f (by decide) (ix4 0 r h d) = f (ix4 0 (row c r) h d) := by
  rw [Layout.block_apply]
  refine congrArg f (funext fun a => ?_)
  match a with
  | ⟨0, _⟩ => rfl
  | ⟨1, _⟩ => exact Fin.ext (by show c.val * 1024 + r.val = 1024 * c.val + r.val; omega)
  | ⟨2, _⟩ => rfl
  | ⟨3, _⟩ => rfl

/-- Every position is a row of some device's block. -/
theorem row_cover (i : Fin 4096) : ∃ (c : Dev nD) (r : Fin 1024), i = row c r :=
  ⟨⟨i.val / 1024, by show _ < 4; omega⟩, ⟨i.val % 1024, by omega⟩, Fin.ext (by show i.val = 1024 * (i.val / 1024) + i.val % 1024; omega)⟩

/-- An index of a result block, by its two free coordinates. -/
theorem idx_block (y : S1x1024x1024.Idx) : ∃ r n : Fin 1024, y = ix3 0 r n :=
  ⟨y 1, y 2, funext fun a => by
    match a with
    | ⟨0, _⟩ => exact Subsingleton.elim (α := Fin 1) _ _
    | ⟨1, _⟩ => rfl
    | ⟨2, _⟩ => rfl⟩

/-! ## The claim -/

/-- The kernel's result is the reference's, block by block. -/
theorem algebraic : Cert.algebraic_KernelIdeal_ReferenceIdeal_pre_finite_KernelIdeal := by
  intro m g m' g' hpre hargs
  let x0 := m' (((0 : Dev Cert.ReferenceIdeal.nD).tc : Thread Cert.ReferenceIdeal.nD Cert.ReferenceIdeal.τ).loc Cert.ReferenceIdeal.main_arg0)
  let x1 := m' (((0 : Dev Cert.ReferenceIdeal.nD).tc : Thread Cert.ReferenceIdeal.nD Cert.ReferenceIdeal.τ).loc Cert.ReferenceIdeal.main_arg1)
  let x2 := m' (((0 : Dev Cert.ReferenceIdeal.nD).tc : Thread Cert.ReferenceIdeal.nD Cert.ReferenceIdeal.τ).loc Cert.ReferenceIdeal.main_arg2)
  let x3 := m' (((0 : Dev Cert.ReferenceIdeal.nD).tc : Thread Cert.ReferenceIdeal.nD Cert.ReferenceIdeal.τ).loc Cert.ReferenceIdeal.main_arg3)
  let x4 := m' (((0 : Dev Cert.ReferenceIdeal.nD).tc : Thread Cert.ReferenceIdeal.nD Cert.ReferenceIdeal.τ).loc Cert.ReferenceIdeal.main_arg4)
  have H : Holds (ins m g) (RProof.whole x0 x1 x2 x3 x4) := by
    rw [ins_eq]
    exact ⟨fun c r k => (congrFun (hargs c).1 _).trans (block_three x0 c r k), fun c k n => congrFun (hargs c).2.1 _,
      fun c r h d => (congrFun (hargs c).2.2.1 _).trans (block_four x2 c r h d),
      fun c r h d => (congrFun (hargs c).2.2.2.1 _).trans (block_four x3 c r h d), fun c k n => congrFun (hargs c).2.2.2.2 _⟩
  have hreal := fun c => finite_real _ _ _ _ _ (hpre c)
  have R : RProof.Real3 (RProof.whole x0 x1 x2 x3 x4) := by
    refine ⟨fun i k => ?_, fun k n => ?_, fun i h d => ?_⟩
    · obtain ⟨c, r, rfl⟩ := row_cover i
      obtain ⟨a, ha⟩ := (hreal c).1 (ix3 0 r k)
      exact ⟨a, ((congrFun (hargs c).1 _).trans (block_three x0 c r k)).symm.trans ha⟩
    · obtain ⟨a, ha⟩ := (hreal 0).2.1 (ix2 k n)
      exact ⟨a, (congrFun (hargs 0).2.1 _).symm.trans ha⟩
    · obtain ⟨c, r, rfl⟩ := row_cover i
      obtain ⟨a, ha⟩ := (hreal c).2.2 (ix4 0 r h d)
      exact ⟨a, ((congrFun (hargs c).2.2.1 _).trans (block_four x2 c r h d)).symm.trans ha⟩
  refine ⟨Cert.ReferenceIdeal.Read.val_main_v51 (F := Ideal) x0 x1 x2 x3 x4, ?_, ?_⟩
  · refine (θ_run defs _ _).mono (fun r h c => ⟨((h.1 c).1).trans (funext fun y => ?_), (h.1 c).2⟩) (run_all (F := Ideal) m g)
    obtain ⟨q, n, rfl⟩ := idx_block y
    exact (outC_val H c q n).trans ((RProof.out_val x0 x1 x2 x3 x4 R (row c q) n).symm.trans (block_three _ c q n).symm)
  · exact (θ_run Cert.ReferenceIdeal.defs _ _).mono
      (fun r h => ⟨((h 0).1).trans (Cert.ReferenceIdeal.Read.val_main_v51_eq (F := Ideal) m' 0), (h 0).2⟩)
      (Cert.ReferenceIdeal.Value.run (F := Ideal) m' g')

/-! ## The frames under the precondition -/

/-- The idealized kernel's frame holds on any input, so on the finite ones. -/
theorem frame_ideal_finite : Cert.quiescent_KernelIdeal_pre_finite_KernelIdeal := fun m ρ _ => run_frame (F := Ideal) m ρ

/-- So does the reference's. -/
theorem frame_reference_finite : Cert.quiescent_ReferenceIdeal_pre_finite_ReferenceIdeal := fun m ρ _ => frame_reference m ρ trivial

end Cert.KProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_KernelIdeal.Gen.facts, Cert.Pre_finite_ReferenceIdeal.Gen.facts, by
  exact ⟨Cert.KProof.frame_kernel, Cert.KProof.frame_ideal, Cert.KProof.frame_ideal_finite, Cert.KProof.frame_reference,
    Cert.KProof.frame_reference_finite, trivial, Cert.KProof.algebraic⟩⟩

end Cert.Proof

end
